-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_finite_pool [hPre_finite_pool : Cert.Pre_finite_pool.Facts] (m : (ℓ : Loc Cert.MergeIdeal.nD Cert.MergeIdeal.τ Cert.MergeIdeal.sig) → Buf (Elt Ideal) ℓ) : Prop :=
  ∀ c : Dev Cert.MergeIdeal.nD,
    (Cert.Pre_finite_pool.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_finite_pool [hPre_finite_pool : Cert.Pre_finite_pool.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_finite_pool.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10))) = (fun _ => 1#1)

def Pre_MergeSample (m : (ℓ : Loc Cert.MergeSample.nD Cert.MergeSample.τ Cert.MergeSample.sig) → Buf (Elt Bits) ℓ) : Prop :=
  True

def Pre_MergeSampleIdeal (m : (ℓ : Loc Cert.MergeSampleIdeal.nD Cert.MergeSampleIdeal.τ Cert.MergeSampleIdeal.sig) → Buf (Elt Ideal) ℓ) : Prop :=
  True

def Pre_MergeSampleIdeal_finite_kept [hPre_finite_kept : Cert.Pre_finite_kept.Facts] (m : (ℓ : Loc Cert.MergeSampleIdeal.nD Cert.MergeSampleIdeal.τ Cert.MergeSampleIdeal.sig) → Buf (Elt Ideal) ℓ) : Prop :=
  ∀ c : Dev Cert.MergeSampleIdeal.nD,
    (Cert.Pre_finite_kept.fn (F := Ideal) (m ((c.tc : Thread Cert.MergeSampleIdeal.nD Cert.MergeSampleIdeal.τ).loc Cert.MergeSampleIdeal.main_arg0)) (m ((c.tc : Thread Cert.MergeSampleIdeal.nD Cert.MergeSampleIdeal.τ).loc Cert.MergeSampleIdeal.main_arg1)) (m ((c.tc : Thread Cert.MergeSampleIdeal.nD Cert.MergeSampleIdeal.τ).loc Cert.MergeSampleIdeal.main_arg2)) (m ((c.tc : Thread Cert.MergeSampleIdeal.nD Cert.MergeSampleIdeal.τ).loc Cert.MergeSampleIdeal.main_arg3)) (m ((c.tc : Thread Cert.MergeSampleIdeal.nD Cert.MergeSampleIdeal.τ).loc Cert.MergeSampleIdeal.main_arg4)) (m ((c.tc : Thread Cert.MergeSampleIdeal.nD Cert.MergeSampleIdeal.τ).loc Cert.MergeSampleIdeal.main_arg5)) (m ((c.tc : Thread Cert.MergeSampleIdeal.nD Cert.MergeSampleIdeal.τ).loc Cert.MergeSampleIdeal.main_arg6)) (m ((c.tc : Thread Cert.MergeSampleIdeal.nD Cert.MergeSampleIdeal.τ).loc Cert.MergeSampleIdeal.main_arg7)) (m ((c.tc : Thread Cert.MergeSampleIdeal.nD Cert.MergeSampleIdeal.τ).loc Cert.MergeSampleIdeal.main_arg8)) (m ((c.tc : Thread Cert.MergeSampleIdeal.nD Cert.MergeSampleIdeal.τ).loc Cert.MergeSampleIdeal.main_arg9)) (m ((c.tc : Thread Cert.MergeSampleIdeal.nD Cert.MergeSampleIdeal.τ).loc Cert.MergeSampleIdeal.main_arg10)) (m ((c.tc : Thread Cert.MergeSampleIdeal.nD Cert.MergeSampleIdeal.τ).loc Cert.MergeSampleIdeal.main_arg11))).1 = (fun _ => 1#1)
    ∧ (Cert.Pre_finite_kept.fn (F := Ideal) (m ((c.tc : Thread Cert.MergeSampleIdeal.nD Cert.MergeSampleIdeal.τ).loc Cert.MergeSampleIdeal.main_arg0)) (m ((c.tc : Thread Cert.MergeSampleIdeal.nD Cert.MergeSampleIdeal.τ).loc Cert.MergeSampleIdeal.main_arg1)) (m ((c.tc : Thread Cert.MergeSampleIdeal.nD Cert.MergeSampleIdeal.τ).loc Cert.MergeSampleIdeal.main_arg2)) (m ((c.tc : Thread Cert.MergeSampleIdeal.nD Cert.MergeSampleIdeal.τ).loc Cert.MergeSampleIdeal.main_arg3)) (m ((c.tc : Thread Cert.MergeSampleIdeal.nD Cert.MergeSampleIdeal.τ).loc Cert.MergeSampleIdeal.main_arg4)) (m ((c.tc : Thread Cert.MergeSampleIdeal.nD Cert.MergeSampleIdeal.τ).loc Cert.MergeSampleIdeal.main_arg5)) (m ((c.tc : Thread Cert.MergeSampleIdeal.nD Cert.MergeSampleIdeal.τ).loc Cert.MergeSampleIdeal.main_arg6)) (m ((c.tc : Thread Cert.MergeSampleIdeal.nD Cert.MergeSampleIdeal.τ).loc Cert.MergeSampleIdeal.main_arg7)) (m ((c.tc : Thread Cert.MergeSampleIdeal.nD Cert.MergeSampleIdeal.τ).loc Cert.MergeSampleIdeal.main_arg8)) (m ((c.tc : Thread Cert.MergeSampleIdeal.nD Cert.MergeSampleIdeal.τ).loc Cert.MergeSampleIdeal.main_arg9)) (m ((c.tc : Thread Cert.MergeSampleIdeal.nD Cert.MergeSampleIdeal.τ).loc Cert.MergeSampleIdeal.main_arg10)) (m ((c.tc : Thread Cert.MergeSampleIdeal.nD Cert.MergeSampleIdeal.τ).loc Cert.MergeSampleIdeal.main_arg11))).2 = (fun _ => 1#1)

def Pre_MergeSampleRefIdeal (m : (ℓ : Loc Cert.MergeSampleRefIdeal.nD Cert.MergeSampleRefIdeal.τ Cert.MergeSampleRefIdeal.sig) → Buf (Elt Ideal) ℓ) : Prop :=
  True

def Pre_MergeSampleRefIdeal_finite_kept [hPre_finite_kept : Cert.Pre_finite_kept.Facts] (m : (ℓ : Loc Cert.MergeSampleRefIdeal.nD Cert.MergeSampleRefIdeal.τ Cert.MergeSampleRefIdeal.sig) → Buf (Elt Ideal) ℓ) : Prop :=
  ∀ c : Dev Cert.MergeSampleRefIdeal.nD,
    (Cert.Pre_finite_kept.fn (F := Ideal) (m ((c.tc : Thread Cert.MergeSampleRefIdeal.nD Cert.MergeSampleRefIdeal.τ).loc Cert.MergeSampleRefIdeal.main_arg0)) (m ((c.tc : Thread Cert.MergeSampleRefIdeal.nD Cert.MergeSampleRefIdeal.τ).loc Cert.MergeSampleRefIdeal.main_arg1)) (m ((c.tc : Thread Cert.MergeSampleRefIdeal.nD Cert.MergeSampleRefIdeal.τ).loc Cert.MergeSampleRefIdeal.main_arg2)) (m ((c.tc : Thread Cert.MergeSampleRefIdeal.nD Cert.MergeSampleRefIdeal.τ).loc Cert.MergeSampleRefIdeal.main_arg3)) (m ((c.tc : Thread Cert.MergeSampleRefIdeal.nD Cert.MergeSampleRefIdeal.τ).loc Cert.MergeSampleRefIdeal.main_arg4)) (m ((c.tc : Thread Cert.MergeSampleRefIdeal.nD Cert.MergeSampleRefIdeal.τ).loc Cert.MergeSampleRefIdeal.main_arg5)) (m ((c.tc : Thread Cert.MergeSampleRefIdeal.nD Cert.MergeSampleRefIdeal.τ).loc Cert.MergeSampleRefIdeal.main_arg6)) (m ((c.tc : Thread Cert.MergeSampleRefIdeal.nD Cert.MergeSampleRefIdeal.τ).loc Cert.MergeSampleRefIdeal.main_arg7)) (m ((c.tc : Thread Cert.MergeSampleRefIdeal.nD Cert.MergeSampleRefIdeal.τ).loc Cert.MergeSampleRefIdeal.main_arg8)) (m ((c.tc : Thread Cert.MergeSampleRefIdeal.nD Cert.MergeSampleRefIdeal.τ).loc Cert.MergeSampleRefIdeal.main_arg9)) (m ((c.tc : Thread Cert.MergeSampleRefIdeal.nD Cert.MergeSampleRefIdeal.τ).loc Cert.MergeSampleRefIdeal.main_arg10)) (m ((c.tc : Thread Cert.MergeSampleRefIdeal.nD Cert.MergeSampleRefIdeal.τ).loc Cert.MergeSampleRefIdeal.main_arg11))).1 = (fun _ => 1#1)
    ∧ (Cert.Pre_finite_kept.fn (F := Ideal) (m ((c.tc : Thread Cert.MergeSampleRefIdeal.nD Cert.MergeSampleRefIdeal.τ).loc Cert.MergeSampleRefIdeal.main_arg0)) (m ((c.tc : Thread Cert.MergeSampleRefIdeal.nD Cert.MergeSampleRefIdeal.τ).loc Cert.MergeSampleRefIdeal.main_arg1)) (m ((c.tc : Thread Cert.MergeSampleRefIdeal.nD Cert.MergeSampleRefIdeal.τ).loc Cert.MergeSampleRefIdeal.main_arg2)) (m ((c.tc : Thread Cert.MergeSampleRefIdeal.nD Cert.MergeSampleRefIdeal.τ).loc Cert.MergeSampleRefIdeal.main_arg3)) (m ((c.tc : Thread Cert.MergeSampleRefIdeal.nD Cert.MergeSampleRefIdeal.τ).loc Cert.MergeSampleRefIdeal.main_arg4)) (m ((c.tc : Thread Cert.MergeSampleRefIdeal.nD Cert.MergeSampleRefIdeal.τ).loc Cert.MergeSampleRefIdeal.main_arg5)) (m ((c.tc : Thread Cert.MergeSampleRefIdeal.nD Cert.MergeSampleRefIdeal.τ).loc Cert.MergeSampleRefIdeal.main_arg6)) (m ((c.tc : Thread Cert.MergeSampleRefIdeal.nD Cert.MergeSampleRefIdeal.τ).loc Cert.MergeSampleRefIdeal.main_arg7)) (m ((c.tc : Thread Cert.MergeSampleRefIdeal.nD Cert.MergeSampleRefIdeal.τ).loc Cert.MergeSampleRefIdeal.main_arg8)) (m ((c.tc : Thread Cert.MergeSampleRefIdeal.nD Cert.MergeSampleRefIdeal.τ).loc Cert.MergeSampleRefIdeal.main_arg9)) (m ((c.tc : Thread Cert.MergeSampleRefIdeal.nD Cert.MergeSampleRefIdeal.τ).loc Cert.MergeSampleRefIdeal.main_arg10)) (m ((c.tc : Thread Cert.MergeSampleRefIdeal.nD Cert.MergeSampleRefIdeal.τ).loc Cert.MergeSampleRefIdeal.main_arg11))).2 = (fun _ => 1#1)

def Pre_AttnSample [hPre_pages : Cert.Pre_pages.Facts] (m : (ℓ : Loc Cert.AttnSample.nD Cert.AttnSample.τ Cert.AttnSample.sig) → Buf (Elt Bits) ℓ) : Prop :=
  ∀ c : Dev Cert.AttnSample.nD,
    (Cert.Pre_pages.fn (F := Bits) (m ((c.tc : Thread Cert.AttnSample.nD Cert.AttnSample.τ).loc Cert.AttnSample.main_arg0)) (m ((c.tc : Thread Cert.AttnSample.nD Cert.AttnSample.τ).loc Cert.AttnSample.main_arg1)) (m ((c.tc : Thread Cert.AttnSample.nD Cert.AttnSample.τ).loc Cert.AttnSample.main_arg2)) (m ((c.tc : Thread Cert.AttnSample.nD Cert.AttnSample.τ).loc Cert.AttnSample.main_arg3)) (m ((c.tc : Thread Cert.AttnSample.nD Cert.AttnSample.τ).loc Cert.AttnSample.main_arg4)) (m ((c.tc : Thread Cert.AttnSample.nD Cert.AttnSample.τ).loc Cert.AttnSample.main_arg5)) (m ((c.tc : Thread Cert.AttnSample.nD Cert.AttnSample.τ).loc Cert.AttnSample.main_arg6)) (m ((c.tc : Thread Cert.AttnSample.nD Cert.AttnSample.τ).loc Cert.AttnSample.main_arg7))).1 = (fun _ => 1#1)
    ∧ (Cert.Pre_pages.fn (F := Bits) (m ((c.tc : Thread Cert.AttnSample.nD Cert.AttnSample.τ).loc Cert.AttnSample.main_arg0)) (m ((c.tc : Thread Cert.AttnSample.nD Cert.AttnSample.τ).loc Cert.AttnSample.main_arg1)) (m ((c.tc : Thread Cert.AttnSample.nD Cert.AttnSample.τ).loc Cert.AttnSample.main_arg2)) (m ((c.tc : Thread Cert.AttnSample.nD Cert.AttnSample.τ).loc Cert.AttnSample.main_arg3)) (m ((c.tc : Thread Cert.AttnSample.nD Cert.AttnSample.τ).loc Cert.AttnSample.main_arg4)) (m ((c.tc : Thread Cert.AttnSample.nD Cert.AttnSample.τ).loc Cert.AttnSample.main_arg5)) (m ((c.tc : Thread Cert.AttnSample.nD Cert.AttnSample.τ).loc Cert.AttnSample.main_arg6)) (m ((c.tc : Thread Cert.AttnSample.nD Cert.AttnSample.τ).loc Cert.AttnSample.main_arg7))).2 = (fun _ => 1#1)

def Pre_AttnSampleIdeal [hPre_pages : Cert.Pre_pages.Facts] (m : (ℓ : Loc Cert.AttnSampleIdeal.nD Cert.AttnSampleIdeal.τ Cert.AttnSampleIdeal.sig) → Buf (Elt Ideal) ℓ) : Prop :=
  ∀ c : Dev Cert.AttnSampleIdeal.nD,
    (Cert.Pre_pages.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3)) (m ((c.tc : Thread Cert.AttnSampleIdeal.nD Cert.AttnSampleIdeal.τ).loc Cert.AttnSampleIdeal.main_arg4)) (m ((c.tc : Thread Cert.AttnSampleIdeal.nD Cert.AttnSampleIdeal.τ).loc Cert.AttnSampleIdeal.main_arg5)) (m ((c.tc : Thread Cert.AttnSampleIdeal.nD Cert.AttnSampleIdeal.τ).loc Cert.AttnSampleIdeal.main_arg6)) (m ((c.tc : Thread Cert.AttnSampleIdeal.nD Cert.AttnSampleIdeal.τ).loc Cert.AttnSampleIdeal.main_arg7))).1 = (fun _ => 1#1)
    ∧ (Cert.Pre_pages.fn (F := Ideal) (m ((c.tc : Thread Cert.AttnSampleIdeal.nD Cert.AttnSampleIdeal.τ).loc Cert.AttnSampleIdeal.main_arg0)) (m ((c.tc : Thread Cert.AttnSampleIdeal.nD Cert.AttnSampleIdeal.τ).loc Cert.AttnSampleIdeal.main_arg1)) (m ((c.tc : Thread Cert.AttnSampleIdeal.nD Cert.AttnSampleIdeal.τ).loc Cert.AttnSampleIdeal.main_arg2)) (m ((c.tc : Thread Cert.AttnSampleIdeal.nD Cert.AttnSampleIdeal.τ).loc Cert.AttnSampleIdeal.main_arg3)) (m ((c.tc : Thread Cert.AttnSampleIdeal.nD Cert.AttnSampleIdeal.τ).loc Cert.AttnSampleIdeal.main_arg4)) (m ((c.tc : Thread Cert.AttnSampleIdeal.nD Cert.AttnSampleIdeal.τ).loc Cert.AttnSampleIdeal.main_arg5)) (m ((c.tc : Thread Cert.AttnSampleIdeal.nD Cert.AttnSampleIdeal.τ).loc Cert.AttnSampleIdeal.main_arg6)) (m ((c.tc : Thread Cert.AttnSampleIdeal.nD Cert.AttnSampleIdeal.τ).loc Cert.AttnSampleIdeal.main_arg7))).2 = (fun _ => 1#1)

def Pre_AttnSampleRefIdeal (m : (ℓ : Loc Cert.AttnSampleRefIdeal.nD Cert.AttnSampleRefIdeal.τ Cert.AttnSampleRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeIdeal_pre_finite_pool [hMergeIdeal : Cert.MergeIdeal.Facts] [hPre_finite_pool : Cert.Pre_finite_pool.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_finite_pool m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_MergeRefIdeal_pre_finite_pool [hMergeRefIdeal : Cert.MergeRefIdeal.Facts] [hPre_finite_pool : Cert.Pre_finite_pool.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_finite_pool m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10))
      ∧ r.2.sem = fun _ => 0)

def quiescent_MergeSample [hMergeSample : Cert.MergeSample.Facts] : Prop :=
  ∀ (m : (ℓ : Loc Cert.MergeSample.nD Cert.MergeSample.τ Cert.MergeSample.sig) → Buf (Elt Bits) ℓ) (g : Dev Cert.MergeSample.nD → PrngReg), Pre_MergeSample m →
    θ_run (Cert.MergeSample.defs (F := Bits)) (onTc (τ := Cert.MergeSample.τ) (Cert.MergeSample.main (F := Bits))) ⟨m, fun _ => 0, g⟩ (fun r => (∀ c : Dev Cert.MergeSample.nD,
      r.2.mem ((c.tc : Thread Cert.MergeSample.nD Cert.MergeSample.τ).loc Cert.MergeSample.main_arg0) = m ((c.tc : Thread Cert.MergeSample.nD Cert.MergeSample.τ).loc Cert.MergeSample.main_arg0)
      ∧ r.2.mem ((c.tc : Thread Cert.MergeSample.nD Cert.MergeSample.τ).loc Cert.MergeSample.main_arg1) = m ((c.tc : Thread Cert.MergeSample.nD Cert.MergeSample.τ).loc Cert.MergeSample.main_arg1)
      ∧ r.2.mem ((c.tc : Thread Cert.MergeSample.nD Cert.MergeSample.τ).loc Cert.MergeSample.main_arg2) = m ((c.tc : Thread Cert.MergeSample.nD Cert.MergeSample.τ).loc Cert.MergeSample.main_arg2)
      ∧ r.2.mem ((c.tc : Thread Cert.MergeSample.nD Cert.MergeSample.τ).loc Cert.MergeSample.main_arg3) = m ((c.tc : Thread Cert.MergeSample.nD Cert.MergeSample.τ).loc Cert.MergeSample.main_arg3)
      ∧ r.2.mem ((c.tc : Thread Cert.MergeSample.nD Cert.MergeSample.τ).loc Cert.MergeSample.main_arg4) = m ((c.tc : Thread Cert.MergeSample.nD Cert.MergeSample.τ).loc Cert.MergeSample.main_arg4)
      ∧ r.2.mem ((c.tc : Thread Cert.MergeSample.nD Cert.MergeSample.τ).loc Cert.MergeSample.main_arg5) = m ((c.tc : Thread Cert.MergeSample.nD Cert.MergeSample.τ).loc Cert.MergeSample.main_arg5)
      ∧ r.2.mem ((c.tc : Thread Cert.MergeSample.nD Cert.MergeSample.τ).loc Cert.MergeSample.main_arg6) = m ((c.tc : Thread Cert.MergeSample.nD Cert.MergeSample.τ).loc Cert.MergeSample.main_arg6)
      ∧ r.2.mem ((c.tc : Thread Cert.MergeSample.nD Cert.MergeSample.τ).loc Cert.MergeSample.main_arg7) = m ((c.tc : Thread Cert.MergeSample.nD Cert.MergeSample.τ).loc Cert.MergeSample.main_arg7)
      ∧ r.2.mem ((c.tc : Thread Cert.MergeSample.nD Cert.MergeSample.τ).loc Cert.MergeSample.main_arg8) = m ((c.tc : Thread Cert.MergeSample.nD Cert.MergeSample.τ).loc Cert.MergeSample.main_arg8)
      ∧ r.2.mem ((c.tc : Thread Cert.MergeSample.nD Cert.MergeSample.τ).loc Cert.MergeSample.main_arg9) = m ((c.tc : Thread Cert.MergeSample.nD Cert.MergeSample.τ).loc Cert.MergeSample.main_arg9)
      ∧ r.2.mem ((c.tc : Thread Cert.MergeSample.nD Cert.MergeSample.τ).loc Cert.MergeSample.main_arg10) = m ((c.tc : Thread Cert.MergeSample.nD Cert.MergeSample.τ).loc Cert.MergeSample.main_arg10)
      ∧ r.2.mem ((c.tc : Thread Cert.MergeSample.nD Cert.MergeSample.τ).loc Cert.MergeSample.main_arg11) = m ((c.tc : Thread Cert.MergeSample.nD Cert.MergeSample.τ).loc Cert.MergeSample.main_arg11))
      ∧ r.2.sem = fun _ => 0)

def quiescent_MergeSampleIdeal [hMergeSampleIdeal : Cert.MergeSampleIdeal.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
      ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
      ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10)
      ∧ r.2.mem ((c.tc : Thread Cert.MergeSampleIdeal.nD Cert.MergeSampleIdeal.τ).loc Cert.MergeSampleIdeal.main_arg11) = m ((c.tc : Thread Cert.MergeSampleIdeal.nD Cert.MergeSampleIdeal.τ).loc Cert.MergeSampleIdeal.main_arg11))
      ∧ r.2.sem = fun _ => 0)

def quiescent_MergeSampleIdeal_pre_finite_kept [hMergeSampleIdeal : Cert.MergeSampleIdeal.Facts] [hPre_finite_kept : Cert.Pre_finite_kept.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg), Pre_MergeSampleIdeal_finite_kept m →
    θ_run (Cert.MergeSampleIdeal.defs (F := Ideal)) (onTc (τ := Cert.MergeSampleIdeal.τ) (Cert.MergeSampleIdeal.main (F := Ideal))) ⟨m, fun _ => 0, g⟩ (fun r => (∀ c : Dev Cert.MergeSampleIdeal.nD,
      r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
      ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
      ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
      ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
      ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
      ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
      ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
      ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
      ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
      ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
      ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10)
      ∧ r.2.mem ((c.tc : Thread Cert.MergeSampleIdeal.nD Cert.MergeSampleIdeal.τ).loc Cert.MergeSampleIdeal.main_arg11) = m ((c.tc : Thread Cert.MergeSampleIdeal.nD Cert.MergeSampleIdeal.τ).loc Cert.MergeSampleIdeal.main_arg11))
      ∧ r.2.sem = fun _ => 0)

def quiescent_MergeSampleRefIdeal [hMergeSampleRefIdeal : Cert.MergeSampleRefIdeal.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6)
      ∧ r.2.mem ((c.tc : Thread Cert.MergeSampleRefIdeal.nD Cert.MergeSampleRefIdeal.τ).loc Cert.MergeSampleRefIdeal.main_arg7) = m ((c.tc : Thread Cert.MergeSampleRefIdeal.nD Cert.MergeSampleRefIdeal.τ).loc Cert.MergeSampleRefIdeal.main_arg7)
      ∧ r.2.mem ((c.tc : Thread Cert.MergeSampleRefIdeal.nD Cert.MergeSampleRefIdeal.τ).loc Cert.MergeSampleRefIdeal.main_arg8) = m ((c.tc : Thread Cert.MergeSampleRefIdeal.nD Cert.MergeSampleRefIdeal.τ).loc Cert.MergeSampleRefIdeal.main_arg8)
      ∧ r.2.mem ((c.tc : Thread Cert.MergeSampleRefIdeal.nD Cert.MergeSampleRefIdeal.τ).loc Cert.MergeSampleRefIdeal.main_arg9) = m ((c.tc : Thread Cert.MergeSampleRefIdeal.nD Cert.MergeSampleRefIdeal.τ).loc Cert.MergeSampleRefIdeal.main_arg9)
      ∧ r.2.mem ((c.tc : Thread Cert.MergeSampleRefIdeal.nD Cert.MergeSampleRefIdeal.τ).loc Cert.MergeSampleRefIdeal.main_arg10) = m ((c.tc : Thread Cert.MergeSampleRefIdeal.nD Cert.MergeSampleRefIdeal.τ).loc Cert.MergeSampleRefIdeal.main_arg10)
      ∧ r.2.mem ((c.tc : Thread Cert.MergeSampleRefIdeal.nD Cert.MergeSampleRefIdeal.τ).loc Cert.MergeSampleRefIdeal.main_arg11) = m ((c.tc : Thread Cert.MergeSampleRefIdeal.nD Cert.MergeSampleRefIdeal.τ).loc Cert.MergeSampleRefIdeal.main_arg11))
      ∧ r.2.sem = fun _ => 0)

def quiescent_MergeSampleRefIdeal_pre_finite_kept [hMergeSampleRefIdeal : Cert.MergeSampleRefIdeal.Facts] [hPre_finite_kept : Cert.Pre_finite_kept.Facts] : Prop :=
  ∀ (m : (ℓ : Loc Cert.MergeSampleRefIdeal.nD Cert.MergeSampleRefIdeal.τ Cert.MergeSampleRefIdeal.sig) → Buf (Elt Ideal) ℓ) (g : Dev Cert.MergeSampleRefIdeal.nD → PrngReg), Pre_MergeSampleRefIdeal_finite_kept m →
    θ_run (Cert.MergeSampleRefIdeal.defs (F := Ideal)) (onTc (τ := Cert.MergeSampleRefIdeal.τ) (Cert.MergeSampleRefIdeal.main (F := Ideal))) ⟨m, fun _ => 0, g⟩ (fun r => (∀ c : Dev Cert.MergeSampleRefIdeal.nD,
      r.2.mem ((c.tc : Thread Cert.MergeSampleRefIdeal.nD Cert.MergeSampleRefIdeal.τ).loc Cert.MergeSampleRefIdeal.main_arg0) = m ((c.tc : Thread Cert.MergeSampleRefIdeal.nD Cert.MergeSampleRefIdeal.τ).loc Cert.MergeSampleRefIdeal.main_arg0)
      ∧ r.2.mem ((c.tc : Thread Cert.MergeSampleRefIdeal.nD Cert.MergeSampleRefIdeal.τ).loc Cert.MergeSampleRefIdeal.main_arg1) = m ((c.tc : Thread Cert.MergeSampleRefIdeal.nD Cert.MergeSampleRefIdeal.τ).loc Cert.MergeSampleRefIdeal.main_arg1)
      ∧ r.2.mem ((c.tc : Thread Cert.MergeSampleRefIdeal.nD Cert.MergeSampleRefIdeal.τ).loc Cert.MergeSampleRefIdeal.main_arg2) = m ((c.tc : Thread Cert.MergeSampleRefIdeal.nD Cert.MergeSampleRefIdeal.τ).loc Cert.MergeSampleRefIdeal.main_arg2)
      ∧ r.2.mem ((c.tc : Thread Cert.MergeSampleRefIdeal.nD Cert.MergeSampleRefIdeal.τ).loc Cert.MergeSampleRefIdeal.main_arg3) = m ((c.tc : Thread Cert.MergeSampleRefIdeal.nD Cert.MergeSampleRefIdeal.τ).loc Cert.MergeSampleRefIdeal.main_arg3)
      ∧ r.2.mem ((c.tc : Thread Cert.MergeSampleRefIdeal.nD Cert.MergeSampleRefIdeal.τ).loc Cert.MergeSampleRefIdeal.main_arg4) = m ((c.tc : Thread Cert.MergeSampleRefIdeal.nD Cert.MergeSampleRefIdeal.τ).loc Cert.MergeSampleRefIdeal.main_arg4)
      ∧ r.2.mem ((c.tc : Thread Cert.MergeSampleRefIdeal.nD Cert.MergeSampleRefIdeal.τ).loc Cert.MergeSampleRefIdeal.main_arg5) = m ((c.tc : Thread Cert.MergeSampleRefIdeal.nD Cert.MergeSampleRefIdeal.τ).loc Cert.MergeSampleRefIdeal.main_arg5)
      ∧ r.2.mem ((c.tc : Thread Cert.MergeSampleRefIdeal.nD Cert.MergeSampleRefIdeal.τ).loc Cert.MergeSampleRefIdeal.main_arg6) = m ((c.tc : Thread Cert.MergeSampleRefIdeal.nD Cert.MergeSampleRefIdeal.τ).loc Cert.MergeSampleRefIdeal.main_arg6)
      ∧ r.2.mem ((c.tc : Thread Cert.MergeSampleRefIdeal.nD Cert.MergeSampleRefIdeal.τ).loc Cert.MergeSampleRefIdeal.main_arg7) = m ((c.tc : Thread Cert.MergeSampleRefIdeal.nD Cert.MergeSampleRefIdeal.τ).loc Cert.MergeSampleRefIdeal.main_arg7)
      ∧ r.2.mem ((c.tc : Thread Cert.MergeSampleRefIdeal.nD Cert.MergeSampleRefIdeal.τ).loc Cert.MergeSampleRefIdeal.main_arg8) = m ((c.tc : Thread Cert.MergeSampleRefIdeal.nD Cert.MergeSampleRefIdeal.τ).loc Cert.MergeSampleRefIdeal.main_arg8)
      ∧ r.2.mem ((c.tc : Thread Cert.MergeSampleRefIdeal.nD Cert.MergeSampleRefIdeal.τ).loc Cert.MergeSampleRefIdeal.main_arg9) = m ((c.tc : Thread Cert.MergeSampleRefIdeal.nD Cert.MergeSampleRefIdeal.τ).loc Cert.MergeSampleRefIdeal.main_arg9)
      ∧ r.2.mem ((c.tc : Thread Cert.MergeSampleRefIdeal.nD Cert.MergeSampleRefIdeal.τ).loc Cert.MergeSampleRefIdeal.main_arg10) = m ((c.tc : Thread Cert.MergeSampleRefIdeal.nD Cert.MergeSampleRefIdeal.τ).loc Cert.MergeSampleRefIdeal.main_arg10)
      ∧ r.2.mem ((c.tc : Thread Cert.MergeSampleRefIdeal.nD Cert.MergeSampleRefIdeal.τ).loc Cert.MergeSampleRefIdeal.main_arg11) = m ((c.tc : Thread Cert.MergeSampleRefIdeal.nD Cert.MergeSampleRefIdeal.τ).loc Cert.MergeSampleRefIdeal.main_arg11))
      ∧ r.2.sem = fun _ => 0)

def quiescent_AttnSample [hAttnSample : Cert.AttnSample.Facts] [hPre_pages : Cert.Pre_pages.Facts] : Prop :=
  ∀ (m : (ℓ : Loc Cert.AttnSample.nD Cert.AttnSample.τ Cert.AttnSample.sig) → Buf (Elt Bits) ℓ) (g : Dev Cert.AttnSample.nD → PrngReg), Pre_AttnSample m →
    θ_run (Cert.AttnSample.defs (F := Bits)) (onTc (τ := Cert.AttnSample.τ) (Cert.AttnSample.main (F := Bits))) ⟨m, fun _ => 0, g⟩ (fun r => (∀ c : Dev Cert.AttnSample.nD,
      r.2.mem ((c.tc : Thread Cert.AttnSample.nD Cert.AttnSample.τ).loc Cert.AttnSample.main_arg0) = m ((c.tc : Thread Cert.AttnSample.nD Cert.AttnSample.τ).loc Cert.AttnSample.main_arg0)
      ∧ r.2.mem ((c.tc : Thread Cert.AttnSample.nD Cert.AttnSample.τ).loc Cert.AttnSample.main_arg1) = m ((c.tc : Thread Cert.AttnSample.nD Cert.AttnSample.τ).loc Cert.AttnSample.main_arg1)
      ∧ r.2.mem ((c.tc : Thread Cert.AttnSample.nD Cert.AttnSample.τ).loc Cert.AttnSample.main_arg2) = m ((c.tc : Thread Cert.AttnSample.nD Cert.AttnSample.τ).loc Cert.AttnSample.main_arg2)
      ∧ r.2.mem ((c.tc : Thread Cert.AttnSample.nD Cert.AttnSample.τ).loc Cert.AttnSample.main_arg3) = m ((c.tc : Thread Cert.AttnSample.nD Cert.AttnSample.τ).loc Cert.AttnSample.main_arg3)
      ∧ r.2.mem ((c.tc : Thread Cert.AttnSample.nD Cert.AttnSample.τ).loc Cert.AttnSample.main_arg4) = m ((c.tc : Thread Cert.AttnSample.nD Cert.AttnSample.τ).loc Cert.AttnSample.main_arg4)
      ∧ r.2.mem ((c.tc : Thread Cert.AttnSample.nD Cert.AttnSample.τ).loc Cert.AttnSample.main_arg5) = m ((c.tc : Thread Cert.AttnSample.nD Cert.AttnSample.τ).loc Cert.AttnSample.main_arg5)
      ∧ r.2.mem ((c.tc : Thread Cert.AttnSample.nD Cert.AttnSample.τ).loc Cert.AttnSample.main_arg6) = m ((c.tc : Thread Cert.AttnSample.nD Cert.AttnSample.τ).loc Cert.AttnSample.main_arg6)
      ∧ r.2.mem ((c.tc : Thread Cert.AttnSample.nD Cert.AttnSample.τ).loc Cert.AttnSample.main_arg7) = m ((c.tc : Thread Cert.AttnSample.nD Cert.AttnSample.τ).loc Cert.AttnSample.main_arg7))
      ∧ r.2.sem = fun _ => 0)

def quiescent_AttnSampleIdeal [hAttnSampleIdeal : Cert.AttnSampleIdeal.Facts] [hPre_pages : Cert.Pre_pages.Facts] : Prop :=
  ∀ (m : (ℓ : Loc Cert.AttnSampleIdeal.nD Cert.AttnSampleIdeal.τ Cert.AttnSampleIdeal.sig) → Buf (Elt Ideal) ℓ) (g : Dev Cert.AttnSampleIdeal.nD → PrngReg), Pre_AttnSampleIdeal m →
    θ_run (Cert.AttnSampleIdeal.defs (F := Ideal)) (onTc (τ := Cert.AttnSampleIdeal.τ) (Cert.AttnSampleIdeal.main (F := Ideal))) ⟨m, fun _ => 0, g⟩ (fun r => (∀ c : Dev Cert.AttnSampleIdeal.nD,
      r.2.mem ((c.tc : Thread Cert.AttnSampleIdeal.nD Cert.AttnSampleIdeal.τ).loc Cert.AttnSampleIdeal.main_arg0) = m ((c.tc : Thread Cert.AttnSampleIdeal.nD Cert.AttnSampleIdeal.τ).loc Cert.AttnSampleIdeal.main_arg0)
      ∧ r.2.mem ((c.tc : Thread Cert.AttnSampleIdeal.nD Cert.AttnSampleIdeal.τ).loc Cert.AttnSampleIdeal.main_arg1) = m ((c.tc : Thread Cert.AttnSampleIdeal.nD Cert.AttnSampleIdeal.τ).loc Cert.AttnSampleIdeal.main_arg1)
      ∧ r.2.mem ((c.tc : Thread Cert.AttnSampleIdeal.nD Cert.AttnSampleIdeal.τ).loc Cert.AttnSampleIdeal.main_arg2) = m ((c.tc : Thread Cert.AttnSampleIdeal.nD Cert.AttnSampleIdeal.τ).loc Cert.AttnSampleIdeal.main_arg2)
      ∧ r.2.mem ((c.tc : Thread Cert.AttnSampleIdeal.nD Cert.AttnSampleIdeal.τ).loc Cert.AttnSampleIdeal.main_arg3) = m ((c.tc : Thread Cert.AttnSampleIdeal.nD Cert.AttnSampleIdeal.τ).loc Cert.AttnSampleIdeal.main_arg3)
      ∧ r.2.mem ((c.tc : Thread Cert.AttnSampleIdeal.nD Cert.AttnSampleIdeal.τ).loc Cert.AttnSampleIdeal.main_arg4) = m ((c.tc : Thread Cert.AttnSampleIdeal.nD Cert.AttnSampleIdeal.τ).loc Cert.AttnSampleIdeal.main_arg4)
      ∧ r.2.mem ((c.tc : Thread Cert.AttnSampleIdeal.nD Cert.AttnSampleIdeal.τ).loc Cert.AttnSampleIdeal.main_arg5) = m ((c.tc : Thread Cert.AttnSampleIdeal.nD Cert.AttnSampleIdeal.τ).loc Cert.AttnSampleIdeal.main_arg5)
      ∧ r.2.mem ((c.tc : Thread Cert.AttnSampleIdeal.nD Cert.AttnSampleIdeal.τ).loc Cert.AttnSampleIdeal.main_arg6) = m ((c.tc : Thread Cert.AttnSampleIdeal.nD Cert.AttnSampleIdeal.τ).loc Cert.AttnSampleIdeal.main_arg6)
      ∧ r.2.mem ((c.tc : Thread Cert.AttnSampleIdeal.nD Cert.AttnSampleIdeal.τ).loc Cert.AttnSampleIdeal.main_arg7) = m ((c.tc : Thread Cert.AttnSampleIdeal.nD Cert.AttnSampleIdeal.τ).loc Cert.AttnSampleIdeal.main_arg7))
      ∧ r.2.sem = fun _ => 0)

def quiescent_AttnSampleRefIdeal [hAttnSampleRefIdeal : Cert.AttnSampleRefIdeal.Facts] : Prop :=
  ∀ (m : (ℓ : Loc Cert.AttnSampleRefIdeal.nD Cert.AttnSampleRefIdeal.τ Cert.AttnSampleRefIdeal.sig) → Buf (Elt Ideal) ℓ) (g : Dev Cert.AttnSampleRefIdeal.nD → PrngReg), Pre_AttnSampleRefIdeal m →
    θ_run (Cert.AttnSampleRefIdeal.defs (F := Ideal)) (onTc (τ := Cert.AttnSampleRefIdeal.τ) (Cert.AttnSampleRefIdeal.main (F := Ideal))) ⟨m, fun _ => 0, g⟩ (fun r => (∀ c : Dev Cert.AttnSampleRefIdeal.nD,
      r.2.mem ((c.tc : Thread Cert.AttnSampleRefIdeal.nD Cert.AttnSampleRefIdeal.τ).loc Cert.AttnSampleRefIdeal.main_arg0) = m ((c.tc : Thread Cert.AttnSampleRefIdeal.nD Cert.AttnSampleRefIdeal.τ).loc Cert.AttnSampleRefIdeal.main_arg0)
      ∧ r.2.mem ((c.tc : Thread Cert.AttnSampleRefIdeal.nD Cert.AttnSampleRefIdeal.τ).loc Cert.AttnSampleRefIdeal.main_arg1) = m ((c.tc : Thread Cert.AttnSampleRefIdeal.nD Cert.AttnSampleRefIdeal.τ).loc Cert.AttnSampleRefIdeal.main_arg1)
      ∧ r.2.mem ((c.tc : Thread Cert.AttnSampleRefIdeal.nD Cert.AttnSampleRefIdeal.τ).loc Cert.AttnSampleRefIdeal.main_arg2) = m ((c.tc : Thread Cert.AttnSampleRefIdeal.nD Cert.AttnSampleRefIdeal.τ).loc Cert.AttnSampleRefIdeal.main_arg2)
      ∧ r.2.mem ((c.tc : Thread Cert.AttnSampleRefIdeal.nD Cert.AttnSampleRefIdeal.τ).loc Cert.AttnSampleRefIdeal.main_arg3) = m ((c.tc : Thread Cert.AttnSampleRefIdeal.nD Cert.AttnSampleRefIdeal.τ).loc Cert.AttnSampleRefIdeal.main_arg3)
      ∧ r.2.mem ((c.tc : Thread Cert.AttnSampleRefIdeal.nD Cert.AttnSampleRefIdeal.τ).loc Cert.AttnSampleRefIdeal.main_arg4) = m ((c.tc : Thread Cert.AttnSampleRefIdeal.nD Cert.AttnSampleRefIdeal.τ).loc Cert.AttnSampleRefIdeal.main_arg4)
      ∧ r.2.mem ((c.tc : Thread Cert.AttnSampleRefIdeal.nD Cert.AttnSampleRefIdeal.τ).loc Cert.AttnSampleRefIdeal.main_arg5) = m ((c.tc : Thread Cert.AttnSampleRefIdeal.nD Cert.AttnSampleRefIdeal.τ).loc Cert.AttnSampleRefIdeal.main_arg5)
      ∧ r.2.mem ((c.tc : Thread Cert.AttnSampleRefIdeal.nD Cert.AttnSampleRefIdeal.τ).loc Cert.AttnSampleRefIdeal.main_arg6) = m ((c.tc : Thread Cert.AttnSampleRefIdeal.nD Cert.AttnSampleRefIdeal.τ).loc Cert.AttnSampleRefIdeal.main_arg6)
      ∧ r.2.mem ((c.tc : Thread Cert.AttnSampleRefIdeal.nD Cert.AttnSampleRefIdeal.τ).loc Cert.AttnSampleRefIdeal.main_arg7) = m ((c.tc : Thread Cert.AttnSampleRefIdeal.nD Cert.AttnSampleRefIdeal.τ).loc Cert.AttnSampleRefIdeal.main_arg7))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v38) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v8_0)) (v1 : (c : Dev Cert.InProjIdeal.nD) → Buf (Elt Ideal) ((c.tc : Thread Cert.InProjIdeal.nD Cert.InProjIdeal.τ).loc Cert.InProjIdeal.main_v8_1)) (v2 : (c : Dev Cert.InProjIdeal.nD) → Buf (Elt Ideal) ((c.tc : Thread Cert.InProjIdeal.nD Cert.InProjIdeal.τ).loc Cert.InProjIdeal.main_v8_2)) (v3 : (c : Dev Cert.InProjIdeal.nD) → Buf (Elt Ideal) ((c.tc : Thread Cert.InProjIdeal.nD Cert.InProjIdeal.τ).loc Cert.InProjIdeal.main_v8_3)) (v4 : (c : Dev Cert.InProjIdeal.nD) → Buf (Elt Ideal) ((c.tc : Thread Cert.InProjIdeal.nD Cert.InProjIdeal.τ).loc Cert.InProjIdeal.main_v8_4)) (v5 : (c : Dev Cert.InProjIdeal.nD) → Buf (Elt Ideal) ((c.tc : Thread Cert.InProjIdeal.nD Cert.InProjIdeal.τ).loc Cert.InProjIdeal.main_v8_5)) (v6 : (c : Dev Cert.InProjIdeal.nD) → Buf (Elt Ideal) ((c.tc : Thread Cert.InProjIdeal.nD Cert.InProjIdeal.τ).loc Cert.InProjIdeal.main_v8_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8_0) = v0 c
          ∧ r.2.mem ((c.tc : Thread Cert.InProjIdeal.nD Cert.InProjIdeal.τ).loc Cert.InProjIdeal.main_v8_1) = v1 c
          ∧ r.2.mem ((c.tc : Thread Cert.InProjIdeal.nD Cert.InProjIdeal.τ).loc Cert.InProjIdeal.main_v8_2) = v2 c
          ∧ r.2.mem ((c.tc : Thread Cert.InProjIdeal.nD Cert.InProjIdeal.τ).loc Cert.InProjIdeal.main_v8_3) = v3 c
          ∧ r.2.mem ((c.tc : Thread Cert.InProjIdeal.nD Cert.InProjIdeal.τ).loc Cert.InProjIdeal.main_v8_4) = v4 c
          ∧ r.2.mem ((c.tc : Thread Cert.InProjIdeal.nD Cert.InProjIdeal.τ).loc Cert.InProjIdeal.main_v8_5) = v5 c
          ∧ r.2.mem ((c.tc : Thread Cert.InProjIdeal.nD Cert.InProjIdeal.τ).loc Cert.InProjIdeal.main_v8_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_v2) = v1 c
          ∧ r.2.mem ((c.tc : Thread Cert.InProjRefIdeal.nD Cert.InProjRefIdeal.τ).loc Cert.InProjRefIdeal.main_v3) = v2 c
          ∧ r.2.mem ((c.tc : Thread Cert.InProjRefIdeal.nD Cert.InProjRefIdeal.τ).loc Cert.InProjRefIdeal.main_v15) = v3 c
          ∧ r.2.mem ((c.tc : Thread Cert.InProjRefIdeal.nD Cert.InProjRefIdeal.τ).loc Cert.InProjRefIdeal.main_v16) = v4 c
          ∧ r.2.mem ((c.tc : Thread Cert.InProjRefIdeal.nD Cert.InProjRefIdeal.τ).loc Cert.InProjRefIdeal.main_v5) = v5 c
          ∧ r.2.mem ((c.tc : Thread Cert.InProjRefIdeal.nD Cert.InProjRefIdeal.τ).loc Cert.InProjRefIdeal.main_v17) = v6 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Merge_MergeIdeal : Prop :=
  True

def algebraic_MergeIdeal_MergeRefIdeal_pre_finite_pool [hMergeIdeal : Cert.MergeIdeal.Facts] [hMergeRefIdeal : Cert.MergeRefIdeal.Facts] [hPre_finite_pool : Cert.Pre_finite_pool.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_finite_pool m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v9)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v9) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v112) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10))

def preserves_MergeSample_MergeSampleIdeal : Prop :=
  True

def algebraic_MergeSampleIdeal_MergeSampleRefIdeal_pre_finite_kept [hMergeSampleIdeal : Cert.MergeSampleIdeal.Facts] [hMergeSampleRefIdeal : Cert.MergeSampleRefIdeal.Facts] [hPre_finite_kept : Cert.Pre_finite_kept.Facts] : Prop :=
  ∀ (m : (ℓ : Loc Cert.MergeSampleIdeal.nD Cert.MergeSampleIdeal.τ Cert.MergeSampleIdeal.sig) → Buf (Elt Ideal) ℓ) (g : Dev Cert.MergeSampleIdeal.nD → PrngReg)
    (m' : (ℓ : Loc Cert.MergeSampleRefIdeal.nD Cert.MergeSampleRefIdeal.τ Cert.MergeSampleRefIdeal.sig) → Buf (Elt Ideal) ℓ) (g' : Dev Cert.MergeSampleRefIdeal.nD → PrngReg), Pre_MergeSampleIdeal_finite_kept m →
    (∀ c : Dev Cert.MergeSampleIdeal.nD,
      m' ((c.tc : Thread Cert.MergeSampleRefIdeal.nD Cert.MergeSampleRefIdeal.τ).loc Cert.MergeSampleRefIdeal.main_arg0) = m ((c.tc : Thread Cert.MergeSampleIdeal.nD Cert.MergeSampleIdeal.τ).loc Cert.MergeSampleIdeal.main_arg0)
      ∧ m' ((c.tc : Thread Cert.MergeSampleRefIdeal.nD Cert.MergeSampleRefIdeal.τ).loc Cert.MergeSampleRefIdeal.main_arg1) = m ((c.tc : Thread Cert.MergeSampleIdeal.nD Cert.MergeSampleIdeal.τ).loc Cert.MergeSampleIdeal.main_arg1)
      ∧ m' ((c.tc : Thread Cert.MergeSampleRefIdeal.nD Cert.MergeSampleRefIdeal.τ).loc Cert.MergeSampleRefIdeal.main_arg2) = m ((c.tc : Thread Cert.MergeSampleIdeal.nD Cert.MergeSampleIdeal.τ).loc Cert.MergeSampleIdeal.main_arg2)
      ∧ m' ((c.tc : Thread Cert.MergeSampleRefIdeal.nD Cert.MergeSampleRefIdeal.τ).loc Cert.MergeSampleRefIdeal.main_arg3) = m ((c.tc : Thread Cert.MergeSampleIdeal.nD Cert.MergeSampleIdeal.τ).loc Cert.MergeSampleIdeal.main_arg3)
      ∧ m' ((c.tc : Thread Cert.MergeSampleRefIdeal.nD Cert.MergeSampleRefIdeal.τ).loc Cert.MergeSampleRefIdeal.main_arg4) = m ((c.tc : Thread Cert.MergeSampleIdeal.nD Cert.MergeSampleIdeal.τ).loc Cert.MergeSampleIdeal.main_arg4)
      ∧ m' ((c.tc : Thread Cert.MergeSampleRefIdeal.nD Cert.MergeSampleRefIdeal.τ).loc Cert.MergeSampleRefIdeal.main_arg5) = m ((c.tc : Thread Cert.MergeSampleIdeal.nD Cert.MergeSampleIdeal.τ).loc Cert.MergeSampleIdeal.main_arg5)
      ∧ m' ((c.tc : Thread Cert.MergeSampleRefIdeal.nD Cert.MergeSampleRefIdeal.τ).loc Cert.MergeSampleRefIdeal.main_arg6) = m ((c.tc : Thread Cert.MergeSampleIdeal.nD Cert.MergeSampleIdeal.τ).loc Cert.MergeSampleIdeal.main_arg6)
      ∧ m' ((c.tc : Thread Cert.MergeSampleRefIdeal.nD Cert.MergeSampleRefIdeal.τ).loc Cert.MergeSampleRefIdeal.main_arg7) = m ((c.tc : Thread Cert.MergeSampleIdeal.nD Cert.MergeSampleIdeal.τ).loc Cert.MergeSampleIdeal.main_arg7)
      ∧ m' ((c.tc : Thread Cert.MergeSampleRefIdeal.nD Cert.MergeSampleRefIdeal.τ).loc Cert.MergeSampleRefIdeal.main_arg8) = m ((c.tc : Thread Cert.MergeSampleIdeal.nD Cert.MergeSampleIdeal.τ).loc Cert.MergeSampleIdeal.main_arg8)
      ∧ m' ((c.tc : Thread Cert.MergeSampleRefIdeal.nD Cert.MergeSampleRefIdeal.τ).loc Cert.MergeSampleRefIdeal.main_arg9) = m ((c.tc : Thread Cert.MergeSampleIdeal.nD Cert.MergeSampleIdeal.τ).loc Cert.MergeSampleIdeal.main_arg9)
      ∧ m' ((c.tc : Thread Cert.MergeSampleRefIdeal.nD Cert.MergeSampleRefIdeal.τ).loc Cert.MergeSampleRefIdeal.main_arg10) = m ((c.tc : Thread Cert.MergeSampleIdeal.nD Cert.MergeSampleIdeal.τ).loc Cert.MergeSampleIdeal.main_arg10)
      ∧ m' ((c.tc : Thread Cert.MergeSampleRefIdeal.nD Cert.MergeSampleRefIdeal.τ).loc Cert.MergeSampleRefIdeal.main_arg11) = m ((c.tc : Thread Cert.MergeSampleIdeal.nD Cert.MergeSampleIdeal.τ).loc Cert.MergeSampleIdeal.main_arg11)) →
    ∃ (v0 : (c : Dev Cert.MergeSampleIdeal.nD) → Buf (Elt Ideal) ((c.tc : Thread Cert.MergeSampleIdeal.nD Cert.MergeSampleIdeal.τ).loc Cert.MergeSampleIdeal.main_v11)),
      θ_run (Cert.MergeSampleIdeal.defs (F := Ideal)) (onTc (τ := Cert.MergeSampleIdeal.τ) (Cert.MergeSampleIdeal.main (F := Ideal))) ⟨m, fun _ => 0, g⟩ (fun r => ∀ c : Dev Cert.MergeSampleIdeal.nD,
          r.2.mem ((c.tc : Thread Cert.MergeSampleIdeal.nD Cert.MergeSampleIdeal.τ).loc Cert.MergeSampleIdeal.main_v11) = v0 c
          ∧ r.2.mem ((c.tc : Thread Cert.MergeSampleIdeal.nD Cert.MergeSampleIdeal.τ).loc Cert.MergeSampleIdeal.main_arg0) = m ((c.tc : Thread Cert.MergeSampleIdeal.nD Cert.MergeSampleIdeal.τ).loc Cert.MergeSampleIdeal.main_arg0)
          ∧ r.2.mem ((c.tc : Thread Cert.MergeSampleIdeal.nD Cert.MergeSampleIdeal.τ).loc Cert.MergeSampleIdeal.main_arg1) = m ((c.tc : Thread Cert.MergeSampleIdeal.nD Cert.MergeSampleIdeal.τ).loc Cert.MergeSampleIdeal.main_arg1)
          ∧ r.2.mem ((c.tc : Thread Cert.MergeSampleIdeal.nD Cert.MergeSampleIdeal.τ).loc Cert.MergeSampleIdeal.main_arg2) = m ((c.tc : Thread Cert.MergeSampleIdeal.nD Cert.MergeSampleIdeal.τ).loc Cert.MergeSampleIdeal.main_arg2)
          ∧ r.2.mem ((c.tc : Thread Cert.MergeSampleIdeal.nD Cert.MergeSampleIdeal.τ).loc Cert.MergeSampleIdeal.main_arg3) = m ((c.tc : Thread Cert.MergeSampleIdeal.nD Cert.MergeSampleIdeal.τ).loc Cert.MergeSampleIdeal.main_arg3)
          ∧ r.2.mem ((c.tc : Thread Cert.MergeSampleIdeal.nD Cert.MergeSampleIdeal.τ).loc Cert.MergeSampleIdeal.main_arg4) = m ((c.tc : Thread Cert.MergeSampleIdeal.nD Cert.MergeSampleIdeal.τ).loc Cert.MergeSampleIdeal.main_arg4)
          ∧ r.2.mem ((c.tc : Thread Cert.MergeSampleIdeal.nD Cert.MergeSampleIdeal.τ).loc Cert.MergeSampleIdeal.main_arg5) = m ((c.tc : Thread Cert.MergeSampleIdeal.nD Cert.MergeSampleIdeal.τ).loc Cert.MergeSampleIdeal.main_arg5)
          ∧ r.2.mem ((c.tc : Thread Cert.MergeSampleIdeal.nD Cert.MergeSampleIdeal.τ).loc Cert.MergeSampleIdeal.main_arg6) = m ((c.tc : Thread Cert.MergeSampleIdeal.nD Cert.MergeSampleIdeal.τ).loc Cert.MergeSampleIdeal.main_arg6)
          ∧ r.2.mem ((c.tc : Thread Cert.MergeSampleIdeal.nD Cert.MergeSampleIdeal.τ).loc Cert.MergeSampleIdeal.main_arg7) = m ((c.tc : Thread Cert.MergeSampleIdeal.nD Cert.MergeSampleIdeal.τ).loc Cert.MergeSampleIdeal.main_arg7)
          ∧ r.2.mem ((c.tc : Thread Cert.MergeSampleIdeal.nD Cert.MergeSampleIdeal.τ).loc Cert.MergeSampleIdeal.main_arg8) = m ((c.tc : Thread Cert.MergeSampleIdeal.nD Cert.MergeSampleIdeal.τ).loc Cert.MergeSampleIdeal.main_arg8)
          ∧ r.2.mem ((c.tc : Thread Cert.MergeSampleIdeal.nD Cert.MergeSampleIdeal.τ).loc Cert.MergeSampleIdeal.main_arg9) = m ((c.tc : Thread Cert.MergeSampleIdeal.nD Cert.MergeSampleIdeal.τ).loc Cert.MergeSampleIdeal.main_arg9)
          ∧ r.2.mem ((c.tc : Thread Cert.MergeSampleIdeal.nD Cert.MergeSampleIdeal.τ).loc Cert.MergeSampleIdeal.main_arg10) = m ((c.tc : Thread Cert.MergeSampleIdeal.nD Cert.MergeSampleIdeal.τ).loc Cert.MergeSampleIdeal.main_arg10)
          ∧ r.2.mem ((c.tc : Thread Cert.MergeSampleIdeal.nD Cert.MergeSampleIdeal.τ).loc Cert.MergeSampleIdeal.main_arg11) = m ((c.tc : Thread Cert.MergeSampleIdeal.nD Cert.MergeSampleIdeal.τ).loc Cert.MergeSampleIdeal.main_arg11))
      ∧ θ_run (Cert.MergeSampleRefIdeal.defs (F := Ideal)) (onTc (τ := Cert.MergeSampleRefIdeal.τ) (Cert.MergeSampleRefIdeal.main (F := Ideal))) ⟨m', fun _ => 0, g'⟩ (fun r => ∀ c : Dev Cert.MergeSampleRefIdeal.nD,
          r.2.mem ((c.tc : Thread Cert.MergeSampleRefIdeal.nD Cert.MergeSampleRefIdeal.τ).loc Cert.MergeSampleRefIdeal.main_v113) = v0 c
          ∧ r.2.mem ((c.tc : Thread Cert.MergeSampleRefIdeal.nD Cert.MergeSampleRefIdeal.τ).loc Cert.MergeSampleRefIdeal.main_arg0) = m' ((c.tc : Thread Cert.MergeSampleRefIdeal.nD Cert.MergeSampleRefIdeal.τ).loc Cert.MergeSampleRefIdeal.main_arg0)
          ∧ r.2.mem ((c.tc : Thread Cert.MergeSampleRefIdeal.nD Cert.MergeSampleRefIdeal.τ).loc Cert.MergeSampleRefIdeal.main_arg1) = m' ((c.tc : Thread Cert.MergeSampleRefIdeal.nD Cert.MergeSampleRefIdeal.τ).loc Cert.MergeSampleRefIdeal.main_arg1)
          ∧ r.2.mem ((c.tc : Thread Cert.MergeSampleRefIdeal.nD Cert.MergeSampleRefIdeal.τ).loc Cert.MergeSampleRefIdeal.main_arg2) = m' ((c.tc : Thread Cert.MergeSampleRefIdeal.nD Cert.MergeSampleRefIdeal.τ).loc Cert.MergeSampleRefIdeal.main_arg2)
          ∧ r.2.mem ((c.tc : Thread Cert.MergeSampleRefIdeal.nD Cert.MergeSampleRefIdeal.τ).loc Cert.MergeSampleRefIdeal.main_arg3) = m' ((c.tc : Thread Cert.MergeSampleRefIdeal.nD Cert.MergeSampleRefIdeal.τ).loc Cert.MergeSampleRefIdeal.main_arg3)
          ∧ r.2.mem ((c.tc : Thread Cert.MergeSampleRefIdeal.nD Cert.MergeSampleRefIdeal.τ).loc Cert.MergeSampleRefIdeal.main_arg4) = m' ((c.tc : Thread Cert.MergeSampleRefIdeal.nD Cert.MergeSampleRefIdeal.τ).loc Cert.MergeSampleRefIdeal.main_arg4)
          ∧ r.2.mem ((c.tc : Thread Cert.MergeSampleRefIdeal.nD Cert.MergeSampleRefIdeal.τ).loc Cert.MergeSampleRefIdeal.main_arg5) = m' ((c.tc : Thread Cert.MergeSampleRefIdeal.nD Cert.MergeSampleRefIdeal.τ).loc Cert.MergeSampleRefIdeal.main_arg5)
          ∧ r.2.mem ((c.tc : Thread Cert.MergeSampleRefIdeal.nD Cert.MergeSampleRefIdeal.τ).loc Cert.MergeSampleRefIdeal.main_arg6) = m' ((c.tc : Thread Cert.MergeSampleRefIdeal.nD Cert.MergeSampleRefIdeal.τ).loc Cert.MergeSampleRefIdeal.main_arg6)
          ∧ r.2.mem ((c.tc : Thread Cert.MergeSampleRefIdeal.nD Cert.MergeSampleRefIdeal.τ).loc Cert.MergeSampleRefIdeal.main_arg7) = m' ((c.tc : Thread Cert.MergeSampleRefIdeal.nD Cert.MergeSampleRefIdeal.τ).loc Cert.MergeSampleRefIdeal.main_arg7)
          ∧ r.2.mem ((c.tc : Thread Cert.MergeSampleRefIdeal.nD Cert.MergeSampleRefIdeal.τ).loc Cert.MergeSampleRefIdeal.main_arg8) = m' ((c.tc : Thread Cert.MergeSampleRefIdeal.nD Cert.MergeSampleRefIdeal.τ).loc Cert.MergeSampleRefIdeal.main_arg8)
          ∧ r.2.mem ((c.tc : Thread Cert.MergeSampleRefIdeal.nD Cert.MergeSampleRefIdeal.τ).loc Cert.MergeSampleRefIdeal.main_arg9) = m' ((c.tc : Thread Cert.MergeSampleRefIdeal.nD Cert.MergeSampleRefIdeal.τ).loc Cert.MergeSampleRefIdeal.main_arg9)
          ∧ r.2.mem ((c.tc : Thread Cert.MergeSampleRefIdeal.nD Cert.MergeSampleRefIdeal.τ).loc Cert.MergeSampleRefIdeal.main_arg10) = m' ((c.tc : Thread Cert.MergeSampleRefIdeal.nD Cert.MergeSampleRefIdeal.τ).loc Cert.MergeSampleRefIdeal.main_arg10)
          ∧ r.2.mem ((c.tc : Thread Cert.MergeSampleRefIdeal.nD Cert.MergeSampleRefIdeal.τ).loc Cert.MergeSampleRefIdeal.main_arg11) = m' ((c.tc : Thread Cert.MergeSampleRefIdeal.nD Cert.MergeSampleRefIdeal.τ).loc Cert.MergeSampleRefIdeal.main_arg11))

def preserves_AttnSample_AttnSampleIdeal : Prop :=
  IdealRules.named_const.Statement Cert.AttnSampleIdeal.κ "mask" .f32 0xF149F2CA#32 ⊥

def Claim : Prop :=
  ∃ (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hMergeSample : Cert.MergeSample.Facts) (hMergeSampleIdeal : Cert.MergeSampleIdeal.Facts) (hMergeSampleRefIdeal : Cert.MergeSampleRefIdeal.Facts) (hAttnSample : Cert.AttnSample.Facts) (hAttnSampleIdeal : Cert.AttnSampleIdeal.Facts) (hAttnSampleRefIdeal : Cert.AttnSampleRefIdeal.Facts) (hPre_finite : Cert.Pre_finite.Facts) (hPre_finite_pool : Cert.Pre_finite_pool.Facts) (hPre_finite_kept : Cert.Pre_finite_kept.Facts) (hPre_pages : Cert.Pre_pages.Facts),
    quiescent_Ffn (hFfn := hFfn)
    ∧ quiescent_FfnIdeal (hFfnIdeal := hFfnIdeal)
    ∧ quiescent_FfnRefIdeal (hFfnRefIdeal := hFfnRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeIdeal_pre_finite_pool (hMergeIdeal := hMergeIdeal) (hPre_finite_pool := hPre_finite_pool)
    ∧ quiescent_MergeRefIdeal (hMergeRefIdeal := hMergeRefIdeal)
    ∧ quiescent_MergeRefIdeal_pre_finite_pool (hMergeRefIdeal := hMergeRefIdeal) (hPre_finite_pool := hPre_finite_pool)
    ∧ quiescent_MergeSample (hMergeSample := hMergeSample)
    ∧ quiescent_MergeSampleIdeal (hMergeSampleIdeal := hMergeSampleIdeal)
    ∧ quiescent_MergeSampleIdeal_pre_finite_kept (hMergeSampleIdeal := hMergeSampleIdeal) (hPre_finite_kept := hPre_finite_kept)
    ∧ quiescent_MergeSampleRefIdeal (hMergeSampleRefIdeal := hMergeSampleRefIdeal)
    ∧ quiescent_MergeSampleRefIdeal_pre_finite_kept (hMergeSampleRefIdeal := hMergeSampleRefIdeal) (hPre_finite_kept := hPre_finite_kept)
    ∧ quiescent_AttnSample (hAttnSample := hAttnSample) (hPre_pages := hPre_pages)
    ∧ quiescent_AttnSampleIdeal (hAttnSampleIdeal := hAttnSampleIdeal) (hPre_pages := hPre_pages)
    ∧ quiescent_AttnSampleRefIdeal (hAttnSampleRefIdeal := hAttnSampleRefIdeal)
    ∧ preserves_Ffn_FfnIdeal
    ∧ algebraic_FfnIdeal_FfnRefIdeal (hFfnIdeal := hFfnIdeal) (hFfnRefIdeal := hFfnRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal_pre_finite_pool (hMergeIdeal := hMergeIdeal) (hMergeRefIdeal := hMergeRefIdeal) (hPre_finite_pool := hPre_finite_pool)
    ∧ preserves_MergeSample_MergeSampleIdeal
    ∧ algebraic_MergeSampleIdeal_MergeSampleRefIdeal_pre_finite_kept (hMergeSampleIdeal := hMergeSampleIdeal) (hMergeSampleRefIdeal := hMergeSampleRefIdeal) (hPre_finite_kept := hPre_finite_kept)
    ∧ preserves_AttnSample_AttnSampleIdeal
-- ==== Pre_finite.lean ====
abbrev S16384x512 : Shape := ⟨2, ![16384, 512]⟩
abbrev S4x2x16384 : Shape := ⟨3, ![4, 2, 16384]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S4x2x16384 : S_.BroadcastsInDim S4x2x16384 (![] : Fin 0 → Fin S4x2x16384.rank)

variable [Facts]

def fn {F : FTy → Type} [FloatOps F] (main_arg0 : FVec F S16384x512 .bf16) (main_arg1 : FVec F S16384x512 .bf16) (main_arg2 : FVec F S16384x512 .bf16) (main_arg3 : FVec F S4x2x16384 .f32) : IVec S16384x512 1 × IVec S16384x512 1 × IVec S4x2x16384 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : FVec F S4x2x16384 .f32 := Host.absf main_arg3
  let main_cst_1 : FVec F S_ .f32 := constant S_ .f32 0x7F800000#32
  let main_v9 : FVec F S4x2x16384 .f32 := broadcastInDim S4x2x16384 ![] bcast_S_S4x2x16384 main_cst_1
  let main_v10 : IVec S4x2x16384 1 := cmpf .olt main_v8 main_v9
  (main_v3, main_v7, main_v10)
-- ==== Pre_finite_kept.lean ====
abbrev S256x1024 : Shape := ⟨2, ![256, 1024]⟩
abbrev S256x512 : Shape := ⟨2, ![256, 512]⟩
abbrev S32x15x512 : Shape := ⟨3, ![32, 15, 512]⟩
abbrev S1024x4104 : Shape := ⟨2, ![1024, 4104]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S256x512 : S_.BroadcastsInDim S256x512 (![] : Fin 0 → Fin S256x512.rank)
  bcast_S_S32x15x512 : S_.BroadcastsInDim S32x15x512 (![] : Fin 0 → Fin S32x15x512.rank)

variable [Facts]

def fn {F : FTy → Type} [FloatOps F] (main_arg0 : FVec F S256x1024 .f32) (main_arg1 : FVec F S256x512 .bf16) (main_arg2 : FVec F S256x512 .f32) (main_arg3 : FVec F S32x15x512 .f32) (main_arg4 : FVec F S1024x4104 .f32) (main_arg5 : FVec F S4x128x128 .f32) (main_arg6 : FVec F S512 .f32) (main_arg7 : FVec F S512x1024 .f32) (main_arg8 : FVec F S512x1024 .f32) (main_arg9 : FVec F S1024x1024 .f32) (main_arg10 : FVec F S1024 .f32) (main_arg11 : FVec F S1024 .f32) : IVec S256x512 1 × IVec S32x15x512 1 :=
  let main_v0 : FVec F S256x512 .f32 := Host.absf main_arg2
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_v3 : FVec F S32x15x512 .f32 := Host.absf main_arg3
  let main_cst_0 : FVec F S_ .f32 := constant S_ .f32 0x7F800000#32
  let main_v4 : FVec F S32x15x512 .f32 := broadcastInDim S32x15x512 ![] bcast_S_S32x15x512 main_cst_0
  let main_v5 : IVec S32x15x512 1 := cmpf .olt main_v3 main_v4
  (main_v2, main_v5)
-- ==== Pre_finite_pool.lean ====
abbrev S16384x1024 : Shape := ⟨2, ![16384, 1024]⟩
abbrev S16384x512 : Shape := ⟨2, ![16384, 512]⟩
abbrev S1024x4104 : Shape := ⟨2, ![1024, 4104]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bcast_S_S16384x512 : S_.BroadcastsInDim S16384x512 (![] : Fin 0 → Fin S16384x512.rank)

variable [Facts]

def fn {F : FTy → Type} [FloatOps F] (main_arg0 : FVec F S16384x1024 .f32) (main_arg1 : FVec F S16384x512 .bf16) (main_arg2 : FVec F S16384x512 .f32) (main_arg3 : FVec F S1024x4104 .f32) (main_arg4 : FVec F S4x128x128 .f32) (main_arg5 : FVec F S512 .f32) (main_arg6 : FVec F S512x1024 .f32) (main_arg7 : FVec F S512x1024 .f32) (main_arg8 : FVec F S1024x1024 .f32) (main_arg9 : FVec F S1024 .f32) (main_arg10 : FVec F S1024 .f32) : IVec S16384x512 1 :=
  let main_v0 : FVec F S16384x512 .f32 := Host.absf main_arg2
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  main_v2
-- ==== Pre_pages.lean ====
abbrev S32x64 : Shape := ⟨2, ![32, 64]⟩
abbrev S256x512 : Shape := ⟨2, ![256, 512]⟩
abbrev S8x256 : Shape := ⟨2, ![8, 256]⟩
abbrev S4x2560x128x8x64 : Shape := ⟨5, ![4, 2560, 128, 8, 64]⟩
abbrev S4x2560x128x8 : Shape := ⟨4, ![4, 2560, 128, 8]⟩
abbrev S_ : Shape := ⟨0, ![]⟩

class Facts : Prop where
  bcast_S_S32x64 : S_.BroadcastsInDim S32x64 (![] : Fin 0 → Fin S32x64.rank)

variable [Facts]

def fn {F : FTy → Type} [FloatOps F] (main_arg0 : IVec S32x64 32) (main_arg1 : FVec F S256x512 .bf16) (main_arg2 : FVec F S256x512 .f32) (main_arg3 : FVec F S256x512 .f32) (main_arg4 : FVec F S8x256 .f32) (main_arg5 : FVec F S4x2560x128x8x64 .f32) (main_arg6 : FVec F S4x2560x128x8x64 .f32) (main_arg7 : FVec F S4x2560x128x8 .f32) : IVec S32x64 1 × IVec S32x64 1 :=
  let main_c : IVec S_ 32 := constantI S_ 32 0#32
  let main_v0 : IVec S32x64 32 := broadcastInDim S32x64 ![] bcast_S_S32x64 main_c
  let main_v1 : IVec S32x64 1 := cmpi .sge main_arg0 main_v0
  let main_c_0 : IVec S_ 32 := constantI S_ 32 2560#32
  let main_v2 : IVec S32x64 32 := broadcastInDim S32x64 ![] bcast_S_S32x64 main_c_0
  let main_v3 : IVec S32x64 1 := cmpi .slt main_arg0 main_v2
  (main_v1, main_v3)
-- ==== Ffn.lean ====
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S16384x5632 : Shape := ⟨2, ![16384, 5632]⟩
abbrev S16384x2816 : Shape := ⟨2, ![16384, 2816]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x5632, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Attn.lean ====
abbrev S16384x512 : Shape := ⟨2, ![16384, 512]⟩
abbrev S4x2x16384 : Shape := ⟨3, ![4, 2, 16384]⟩
abbrev S1x2x2048 : Shape := ⟨3, ![1, 2, 2048]⟩
abbrev S256x128 : Shape := ⟨2, ![256, 128]⟩
abbrev S2048x128 : Shape := ⟨2, ![2048, 128]⟩
abbrev S2x2048 : Shape := ⟨2, ![2, 2048]⟩
abbrev S2x128 : Shape := ⟨2, ![2, 128]⟩
abbrev S2x1 : Shape := ⟨2, ![2, 1]⟩
abbrev S256x1 : Shape := ⟨2, ![256, 1]⟩
abbrev S2x256 : Shape := ⟨2, ![2, 256]⟩
abbrev S256x256 : Shape := ⟨2, ![256, 256]⟩
abbrev S1x256 : Shape := ⟨2, ![1, 256]⟩
abbrev S256 : Shape := ⟨1, ![256]⟩

abbrev nBuf : Space → Nat
  | .hbm => 5
  | .vmem => 11
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S4x2x16384, .f32⟩
  | .hbm, ⟨4, _⟩ => ⟨S16384x512, .bf16⟩
  | .local _ .vmem, ⟨0, _⟩ => ⟨S1x2x2048, .f32⟩
  | .local _ .vmem, ⟨1, _⟩ => ⟨S1x2x2048, .f32⟩
  | .local _ .vmem, ⟨2, _⟩ => ⟨S256x128, .bf16⟩
  | .local _ .vmem, ⟨3, _⟩ => ⟨S256x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S2x2048, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c256_i32 : BitVec 32 := 256#32
  let v10 : BitVec 32 := Scalar.muli arg2 c256_i32
  v10
def k0_off1 (i : grid0.Coords) : Fin 2 → Nat :=
  let c0_2 : Index := 0#32
  let arg2 : BitVec 32 := BitVec.ofNat 32 (i 2).val
  let c256_i32 : BitVec 32 := 256#32
  let v10 : BitVec 32 := Scalar.muli arg2 c256_i32
  let v11 : BitVec 32 := v10
  let v12 : Index := Scalar.indexCast v11
  ![0, v12.toNat]
@[reducible] def k0_t1_loop (i : grid0.Coords) : Scf.Loop 32 :=
  let c0_i32_9 : BitVec 32 := 0#32
  let arg2 : BitVec 32 := BitVec.ofNat 32 (i 2).val
  let v21 : BitVec 32 := Scalar.subi arg2 c0_i32_9
  let c1_i32 : BitVec 32 := 1#32
  let v23 : BitVec 32 := Scalar.divsi v21 c1_i32
  let v24 : BitVec 32 := Scalar.muli v23 c1_i32
  let v25 : BitVec 32 := Scalar.addi c0_i32_9 v24
  let c1_i32_10 : BitVec 32 := 1#32
  ⟨c0_i32_9, v25, c1_i32_10⟩
def k0_mult2 (i : grid0.Coords) (k0_t1 : Fin (k0_t1_loop i).trips) : BitVec 32 :=
  let c0_i32_9 : BitVec 32 := 0#32
  let c1_i32_10 : BitVec 32 := 1#32
  let arg9 : BitVec 32 := Scf.iv c0_i32_9 c1_i32_10 k0_t1
  let c256_i32_30 : BitVec 32 := 256#32
  let v101 : BitVec 32 := Scalar.muli arg9 c256_i32_30
  v101
def k0_off2 (i : grid0.Coords) (k0_t1 : Fin (k0_t1_loop i).trips) : Fin 2 → Nat :=
  let c0_i32_9 : BitVec 32 := 0#32
  let c1_i32_10 : BitVec 32 := 1#32
  let arg9 : BitVec 32 := Scf.iv c0_i32_9 c1_i32_10 k0_t1
  let c256_i32_30 : BitVec 32 := 256#32
  let v101 : BitVec 32 := Scalar.muli arg9 c256_i32_30
  let v102 : BitVec 32 := v101
  let v103 : Index := Scalar.indexCast v102
  let c0_31 : Index := 0#32
  ![v103.toNat, 0]
def k0_off3 (i : grid0.Coords) (k0_t1 : Fin (k0_t1_loop i).trips) : Fin 2 → Nat :=
  let c0_33 : Index := 0#32
  let c0_i32_9 : BitVec 32 := 0#32
  let c1_i32_10 : BitVec 32 := 1#32
  let arg9 : BitVec 32 := Scf.iv c0_i32_9 c1_i32_10 k0_t1
  let c256_i32_30 : BitVec 32 := 256#32
  let v101 : BitVec 32 := Scalar.muli arg9 c256_i32_30
  let v102 : BitVec 32 := v101
  let v107 : Index := Scalar.indexCast v102
  ![0, v107.toNat]
@[reducible] def k0_t2_loop (i : grid0.Coords) : Scf.Loop 32 :=
  let c0_i32_9 : BitVec 32 := 0#32
  let arg2 : BitVec 32 := BitVec.ofNat 32 (i 2).val
  let v21 : BitVec 32 := Scalar.subi arg2 c0_i32_9
  let c1_i32 : BitVec 32 := 1#32
  let v23 : BitVec 32 := Scalar.divsi v21 c1_i32
  let v24 : BitVec 32 := Scalar.muli v23 c1_i32
  let v25 : BitVec 32 := Scalar.addi c0_i32_9 v24
  let v22 : BitVec 32 := Scalar.addi c0_i32_9 v21
  let c1_i32_11 : BitVec 32 := 1#32
  ⟨v25, v22, c1_i32_11⟩
def k0_mult3 (i : grid0.Coords) (k0_t2 : Fin (k0_t2_loop i).trips) : BitVec 32 :=
  let c0_i32_9 : BitVec 32 := 0#32
  let arg2 : BitVec 32 := BitVec.ofNat 32 (i 2).val
  let v21 : BitVec 32 := Scalar.subi arg2 c0_i32_9
  let c1_i32 : BitVec 32 := 1#32
  let v23 : BitVec 32 := Scalar.divsi v21 c1_i32
  let v24 : BitVec 32 := Scalar.muli v23 c1_i32
  let v25 : BitVec 32 := Scalar.addi c0_i32_9 v24
  let c1_i32_11 : BitVec 32 := 1#32
  let arg9 : BitVec 32 := Scf.iv v25 c1_i32_11 k0_t2
  let c256_i32_30 : BitVec 32 := 256#32
  let v101 : BitVec 32 := Scalar.muli arg9 c256_i32_30
  v101
def k0_off4 (i : grid0.Coords) (k0_t2 : Fin (k0_t2_loop i).trips) : Fin 2 → Nat :=
  let c0_i32_9 : BitVec 32 := 0#32
  let arg2 : BitVec 32 := BitVec.ofNat 32 (i 2).val
  let v21 : BitVec 32 := Scalar.subi arg2 c0_i32_9
  let c1_i32 : BitVec 32 := 1#32
  let v23 : BitVec 32 := Scalar.divsi v21 c1_i32
  let v24 : BitVec 32 := Scalar.muli v23 c1_i32
  let v25 : BitVec 32 := Scalar.addi c0_i32_9 v24
  let c1_i32_11 : BitVec 32 := 1#32
  let arg9 : BitVec 32 := Scf.iv v25 c1_i32_11 k0_t2
  let c256_i32_30 : BitVec 32 := 256#32
  let v101 : BitVec 32 := Scalar.muli arg9 c256_i32_30
  let v102 : BitVec 32 := v101
  let v103 : Index := Scalar.indexCast v102
  let c0_31 : Index := 0#32
  ![v103.toNat, 0]
def k0_off5 (i : grid0.Coords) (k0_t2 : Fin (k0_t2_loop i).trips) : Fin 2 → Nat :=
  let c0_33 : Index := 0#32
  let c0_i32_9 : BitVec 32 := 0#32
  let arg2 : BitVec 32 := BitVec.ofNat 32 (i 2).val
  let v21 : BitVec 32 := Scalar.subi arg2 c0_i32_9
  let c1_i32 : BitVec 32 := 1#32
  let v23 : BitVec 32 := Scalar.divsi v21 c1_i32
  let v24 : BitVec 32 := Scalar.muli v23 c1_i32
  let v25 : BitVec 32 := Scalar.addi c0_i32_9 v24
  let c1_i32_11 : BitVec 32 := 1#32
  let arg9 : BitVec 32 := Scf.iv v25 c1_i32_11 k0_t2
  let c256_i32_30 : BitVec 32 := 256#32
  let v101 : BitVec 32 := Scalar.muli arg9 c256_i32_30
  let v102 : BitVec 32 := v101
  let v107 : Index := Scalar.indexCast v102
  ![0, v107.toNat]
def k0_mult4 (i : grid0.Coords) : BitVec 32 :=
  let arg2 : BitVec 32 := BitVec.ofNat 32 (i 2).val
  let c256_i32_12 : BitVec 32 := 256#32
  let v28 : BitVec 32 := Scalar.muli arg2 c256_i32_12
  v28
def k0_off6 (i : grid0.Coords) : Fin 2 → Nat :=
  let arg2 : BitVec 32 := BitVec.ofNat 32 (i 2).val
  let c256_i32_12 : BitVec 32 := 256#32
  let v28 : BitVec 32 := Scalar.muli arg2 c256_i32_12
  let v29 : BitVec 32 := v28
  let v30 : Index := Scalar.indexCast v29
  let c0_13 : Index := 0#32
  ![v30.toNat, 0]
def k0_off7 (i : grid0.Coords) : Fin 2 → Nat :=
  let c0_15 : Index := 0#32
  let arg2 : BitVec 32 := BitVec.ofNat 32 (i 2).val
  let c256_i32_12 : BitVec 32 := 256#32
  let v28 : BitVec 32 := Scalar.muli arg2 c256_i32_12
  let v29 : BitVec 32 := v28
  let v34 : Index := Scalar.indexCast v29
  ![0, v34.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x2x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S16384x512 : Shape := ⟨2, ![16384, 512]⟩
abbrev S4x2x16384 : Shape := ⟨3, ![4, 2, 16384]⟩
abbrev S8x2048x8x64 : Shape := ⟨4, ![8, 2048, 8, 64]⟩
abbrev S8x8x2048 : Shape := ⟨3, ![8, 8, 2048]⟩
abbrev S8x2048x8 : Shape := ⟨3, ![8, 2048, 8]⟩
abbrev S_ : Shape := ⟨0, ![]⟩
abbrev S8x8x2048x2048 : Shape := ⟨4, ![8, 8, 2048, 2048]⟩
abbrev S8x8x2048x1 : Shape := ⟨4, ![8, 8, 2048, 1]⟩
abbrev S8x8x1x2048 : Shape := ⟨4, ![8, 8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x64x2048 : Shape := ⟨4, ![8, 8, 64, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S4x2x16384, .f32⟩
  | .hbm, ⟨4, _⟩ => ⟨S16384x512, .f32⟩
  | .hbm, ⟨5, _⟩ => ⟨S8x2048x8x64, .f32⟩
  | .hbm, ⟨6, _⟩ => ⟨S16384x512, .f32⟩
  | .hbm, ⟨7, _⟩ => ⟨S8x2048x8x64, .f32⟩
  | .hbm, ⟨8, _⟩ => ⟨S16384x512, .f32⟩
  | .hbm, ⟨9, _⟩ => ⟨S8x2048x8x64, .f32⟩
  | .hbm, ⟨10, _⟩ => ⟨S8x8x2048, .f32⟩
  | .hbm, ⟨11, _⟩ => ⟨S8x2048x8, .f32⟩
  | .hbm, ⟨12, _⟩ => ⟨S_, .f32⟩
  | .hbm, ⟨13, _⟩ => ⟨S_, .f32⟩
  | .hbm, ⟨14, _⟩ => ⟨S8x2048x8, .f32⟩
  | .hbm, ⟨15, _⟩ => ⟨S8x8x2048, .f32⟩
  | .hbm, ⟨16, _⟩ => ⟨S8x8x2048x2048, .f32⟩
  | .hbm, ⟨17, _⟩ => ⟨S8x8x2048x1, .f32⟩
  | .hbm, ⟨18, _⟩ => ⟨S8x8x1x2048, .f32⟩
  | .hbm, ⟨19, _⟩ => ⟨S8x8x2048x2048, .f32⟩
  | .hbm, ⟨20, _⟩ => ⟨S8x8x2048x2048, .f32⟩
  | .hbm, ⟨21, _⟩ => ⟨S8x8x2048x2048, .f32⟩
  | .hbm, ⟨22, _⟩ => ⟨S2048, .i32⟩
  | .hbm, ⟨23, _⟩ => ⟨S1x2048, .i32⟩
  | .hbm, ⟨24, _⟩ => ⟨S2048x1, .i32⟩
  | .hbm, ⟨25, _⟩ => ⟨S2048x2048, .i32⟩
  | .hbm, ⟨26, _⟩ => ⟨S2048x2048, .i32⟩
  | .hbm, ⟨27, _⟩ => ⟨S2048x2048, .i1⟩
  | .hbm, ⟨28, _⟩ => ⟨S8x8x2048x2048, .f32⟩
  | .hbm, ⟨29, _⟩ => ⟨S_, .f32⟩
  | .hbm, ⟨30, _⟩ => ⟨S_, .f32⟩
  | .hbm, ⟨31, _⟩ => ⟨S8x8x2048x2048, .i1⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S8x8x2048, .f32⟩
  | .hbm, ⟨36, _⟩ => ⟨S_, .f32⟩
  | .hbm, ⟨37, _⟩ => ⟨S8x8x2048, .f32⟩
  | .hbm, ⟨38, _⟩ => ⟨S8x8x2048, .f32⟩
  | .hbm, ⟨39, _⟩ => ⟨S8x8x2048x1, .f32⟩
  | .hbm, ⟨40, _⟩ => ⟨S8x8x2048x2048, .f32⟩
  | .hbm, ⟨41, _⟩ => ⟨S8x8x2048x2048, .f32⟩
  | .hbm, ⟨42, _⟩ => ⟨S8x8x2048x2048, .f32⟩
  | .hbm, ⟨43, _⟩ => ⟨S_, .f32⟩
  | .hbm, ⟨44, _⟩ => ⟨S8x8x2048, .f32⟩
  | .hbm, ⟨45, _⟩ => ⟨S8x8x2048x1, .f32⟩
  | .hbm, ⟨46, _⟩ => ⟨S8x8x2048x2048, .f32⟩
  | .hbm, ⟨47, _⟩ => ⟨S8x8x2048x2048, .f32⟩
  | .hbm, ⟨48, _⟩ => ⟨S8x8x64x2048, .f32⟩
  | .hbm, ⟨49, _⟩ => ⟨S8x2048x8x64, .f32⟩
  | .hbm, ⟨50, _⟩ => ⟨S16384x512, .f32⟩
  | .hbm, ⟨51, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_cst : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v23 : Ref sig .tc := ⟨.hbm, 33, rfl⟩
abbrev main_cst_0 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== InProj.lean ====
abbrev S16384x1024 : Shape := ⟨2, ![16384, 1024]⟩
abbrev S1024x4104 : Shape := ⟨2, ![1024, 4104]⟩
abbrev S8 : Shape := ⟨1, ![8]⟩
abbrev S1024x1536 : Shape := ⟨2, ![1024, 1536]⟩
abbrev S1024x8 : Shape := ⟨2, ![1024, 8]⟩
abbrev S8x1024 : Shape := ⟨2, ![8, 1024]⟩
abbrev S1024x512 : Shape := ⟨2, ![1024, 512]⟩
abbrev S8x1 : Shape := ⟨2, ![8, 1]⟩
abbrev S16384x512 : Shape := ⟨2, ![16384, 512]⟩
abbrev S8x16384 : Shape := ⟨2, ![8, 16384]⟩
abbrev S512x1024 : Shape := ⟨2, ![512, 1024]⟩
abbrev S512x512 : Shape := ⟨2, ![512, 512]⟩
abbrev S8x512 : Shape := ⟨2, ![8, 512]⟩
abbrev S512x1536 : Shape := ⟨2, ![512, 1536]⟩

abbrev nBuf : Space → Nat
  | .hbm => 18
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024x4104, .f32⟩
  | .hbm, ⟨2, _⟩ => ⟨S8, .f32⟩
  | .hbm, ⟨3, _⟩ => ⟨S1024x1536, .f32⟩
  | .hbm, ⟨4, _⟩ => ⟨S1024x1536, .bf16⟩
  | .hbm, ⟨5, _⟩ => ⟨S1024x8, .f32⟩
  | .hbm, ⟨6, _⟩ => ⟨S8x1024, .f32⟩
  | .hbm, ⟨7, _⟩ => ⟨S8x1024, .bf16⟩
  | .hbm, ⟨8, _⟩ => ⟨S1024x512, .f32⟩
  | .hbm, ⟨9, _⟩ => ⟨S1024x512, .bf16⟩
  | .hbm, ⟨10, _⟩ => ⟨S8x1, .f32⟩
  | .hbm, ⟨11, _⟩ => ⟨S16384x512, .bf16⟩
  | .hbm, ⟨12, _⟩ => ⟨S16384x512, .f32⟩
  | .hbm, ⟨13, _⟩ => ⟨S16384x512, .f32⟩
  | .hbm, ⟨14, _⟩ => ⟨S16384x512, .bf16⟩
  | .hbm, ⟨15, _⟩ => ⟨S16384x512, .bf16⟩
  | .hbm, ⟨16, _⟩ => ⟨S16384x512, .f32⟩
  | .hbm, ⟨17, _⟩ => ⟨S8x16384, .f32⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S1024x512, .bf16⟩
  | .local _ .vmem, ⟨4, _⟩ => ⟨S8x1024, .bf16⟩
  | .local _ .vmem, ⟨5, _⟩ => ⟨S8x1, .f32⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S8x512, .f32⟩
  | .local _ .vmem, ⟨19, _⟩ => ⟨S8x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v8_3 : Ref sig .tc := ⟨.hbm, 14, rfl⟩
abbrev main_v8_4 : Ref sig .tc := ⟨.hbm, 15, rfl⟩
abbrev main_v8_5 : Ref sig .tc := ⟨.hbm, 16, rfl⟩
abbrev main_v8_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== InProjRefIdeal.lean ====
abbrev S16384x1024 : Shape := ⟨2, ![16384, 1024]⟩
abbrev S1024x4104 : Shape := ⟨2, ![1024, 4104]⟩
abbrev S8 : Shape := ⟨1, ![8]⟩
abbrev S16384x4104 : Shape := ⟨2, ![16384, 4104]⟩
abbrev S16384x512 : Shape := ⟨2, ![16384, 512]⟩
abbrev S16384x8 : Shape := ⟨2, ![16384, 8]⟩
abbrev S1x8 : Shape := ⟨2, ![1, 8]⟩
abbrev S_ : Shape := ⟨0, ![]⟩
abbrev S8x16384 : Shape := ⟨2, ![8, 16384]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x4104, .f32⟩
  | .hbm, ⟨2, _⟩ => ⟨S8, .f32⟩
  | .hbm, ⟨3, _⟩ => ⟨S16384x4104, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x8, .f32⟩
  | .hbm, ⟨8, _⟩ => ⟨S16384x512, .f32⟩
  | .hbm, ⟨9, _⟩ => ⟨S16384x1024, .f32⟩
  | .hbm, ⟨10, _⟩ => ⟨S16384x1024, .f32⟩
  | .hbm, ⟨11, _⟩ => ⟨S1x8, .f32⟩
  | .hbm, ⟨12, _⟩ => ⟨S16384x8, .f32⟩
  | .hbm, ⟨13, _⟩ => ⟨S16384x8, .f32⟩
  | .hbm, ⟨14, _⟩ => ⟨S16384x8, .f32⟩
  | .hbm, ⟨15, _⟩ => ⟨S_, .f32⟩
  | .hbm, ⟨16, _⟩ => ⟨S16384x8, .f32⟩
  | .hbm, ⟨17, _⟩ => ⟨S16384x8, .f32⟩
  | .hbm, ⟨18, _⟩ => ⟨S16384x8, .f32⟩
  | .hbm, ⟨19, _⟩ => ⟨S16384x8, .f32⟩
  | .hbm, ⟨20, _⟩ => ⟨S16384x8, .i1⟩
  | .hbm, ⟨21, _⟩ => ⟨S16384x8, .f32⟩
  | .hbm, ⟨22, _⟩ => ⟨S16384x8, .f32⟩
  | .hbm, ⟨23, _⟩ => ⟨S16384x8, .f32⟩
  | .hbm, ⟨24, _⟩ => ⟨S16384x8, .f32⟩
  | .hbm, ⟨25, _⟩ => ⟨S16384x8, .f32⟩
  | .hbm, ⟨26, _⟩ => ⟨S16384x8, .f32⟩
  | .hbm, ⟨27, _⟩ => ⟨S16384x8, .f32⟩
  | .hbm, ⟨28, _⟩ => ⟨S16384x8, .f32⟩
  | .hbm, ⟨29, _⟩ => ⟨S16384x8, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .bf16⟩
  | .hbm, ⟨34, _⟩ => ⟨S16384x512, .bf16⟩
  | .hbm, ⟨35, _⟩ => ⟨S16384x512, .bf16⟩
  | .hbm, ⟨36, _⟩ => ⟨S8x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩

abbrev nD : Nat := 1
abbrev τ : Topo := Topo.v7x

variable {F : FTy → Type} [FloatOps F]
-- ==== Merge.lean ====
abbrev S16384x1024 : Shape := ⟨2, ![16384, 1024]⟩
abbrev S16384x512 : Shape := ⟨2, ![16384, 512]⟩
abbrev S1024x4104 : Shape := ⟨2, ![1024, 4104]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S1x512 : Shape := ⟨2, ![1, 512]⟩
abbrev S1x1024 : Shape := ⟨2, ![1, 1024]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S528x128 : Shape := ⟨2, ![528, 128]⟩
abbrev S512x128 : Shape := ⟨2, ![512, 128]⟩
abbrev S512x2048 : Shape := ⟨2, ![512, 2048]⟩
abbrev S1x128x128 : Shape := ⟨3, ![1, 128, 128]⟩
abbrev S128x128 : Shape := ⟨2, ![128, 128]⟩

abbrev nBuf : Space → Nat
  | .hbm => 21
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .f32⟩
  | .hbm, ⟨3, _⟩ => ⟨S1024x4104, .f32⟩
  | .hbm, ⟨4, _⟩ => ⟨S4x128x128, .f32⟩
  | .hbm, ⟨5, _⟩ => ⟨S512, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1024, .f32⟩
  | .hbm, ⟨10, _⟩ => ⟨S1024, .f32⟩
  | .hbm, ⟨11, _⟩ => ⟨S1024x2048, .f32⟩
  | .hbm, ⟨12, _⟩ => ⟨S1024x2048, .bf16⟩
  | .hbm, ⟨13, _⟩ => ⟨S4x128x128, .bf16⟩
  | .hbm, ⟨14, _⟩ => ⟨S1x512, .f32⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S1024x2048, .bf16⟩
  | .local _ .vmem, ⟨9, _⟩ => ⟨S4x128x128, .bf16⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeRefIdeal.lean ====
abbrev S16384x1024 : Shape := ⟨2, ![16384, 1024]⟩
abbrev S16384x512 : Shape := ⟨2, ![16384, 512]⟩
abbrev S1024x4104 : Shape := ⟨2, ![1024, 4104]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S16384x4104 : Shape := ⟨2, ![16384, 4104]⟩
abbrev S16384x2048 : Shape := ⟨2, ![16384, 2048]⟩
abbrev S_ : Shape := ⟨0, ![]⟩
abbrev S8x15x512 : Shape := ⟨3, ![8, 15, 512]⟩
abbrev S8x2048x512 : Shape := ⟨3, ![8, 2048, 512]⟩
abbrev S8x2063x512 : Shape := ⟨3, ![8, 2063, 512]⟩
abbrev S8x1x512 : Shape := ⟨3, ![8, 1, 512]⟩
abbrev S8x2064x512 : Shape := ⟨3, ![8, 2064, 512]⟩
abbrev S2048 : Shape := ⟨1, ![2048]⟩
abbrev S8x2048x128 : Shape := ⟨3, ![8, 2048, 128]⟩
abbrev S1x2048x1 : Shape := ⟨3, ![1, 2048, 1]⟩
abbrev S8x2048x4x128 : Shape := ⟨4, ![8, 2048, 4, 128]⟩
abbrev S4x128x8x2048 : Shape := ⟨4, ![4, 128, 8, 2048]⟩
abbrev S1x1x512 : Shape := ⟨3, ![1, 1, 512]⟩
abbrev S16384 : Shape := ⟨1, ![16384]⟩
abbrev S16384x1 : Shape := ⟨2, ![16384, 1]⟩
abbrev S1x1024 : Shape := ⟨2, ![1, 1024]⟩

abbrev nBuf : Space → Nat
  | .hbm => 146
  | .vmem => 0
  | .smem => 0
  | _ => 0

abbrev hbmTy0_0 (i : Nat) : BufTy := match i % 128 with
  | 0 => ⟨S16384x1024, .f32⟩
  | 1 => ⟨S16384x512, .bf16⟩
  | 2 => ⟨S16384x512, .f32⟩
  | 3 => ⟨S1024x4104, .f32⟩
  | 4 => ⟨S4x128x128, .f32⟩
  | 5 => ⟨S512, .f32⟩
  | 6 => ⟨S512x1024, .f32⟩
  | 7 => ⟨S512x1024, .f32⟩
  | 8 => ⟨S1024x1024, .f32⟩
  | 9 => ⟨S1024, .f32⟩
  | 10 => ⟨S1024, .f32⟩
  | 11 => ⟨S16384x4104, .f32⟩
  | 12 => ⟨S16384x2048, .f32⟩
  | 13 => ⟨S16384x1024, .f32⟩
  | 14 => ⟨S16384x1024, .f32⟩
  | 15 => ⟨S_, .f32⟩
  | 16 => ⟨S8x15x512, .f32⟩
  | 17 => ⟨S8x2048x512, .f32⟩
  | 18 => ⟨S8x2063x512, .f32⟩
  | 19 => ⟨S_, .f32⟩
  | 20 => ⟨S8x1x512, .f32⟩
  | 21 => ⟨S_, .f32⟩
  | 22 => ⟨S_, .f32⟩
  | 23 => ⟨S8x2063x512, .f32⟩
  | 24 => ⟨S8x2064x512, .f32⟩
  | 25 => ⟨S8x2048x512, .f32⟩
  | 26 => ⟨S2048, .i32⟩
  | 27 => ⟨S8x2048x128, .f32⟩
  | 28 => ⟨S_, .i32⟩
  | 29 => ⟨S2048, .i32⟩
  | 30 => ⟨S2048, .i32⟩
  | 31 => ⟨S_, .i32⟩
  | 32 => ⟨S2048, .i32⟩
  | 33 => ⟨S2048, .i32⟩
  | 34 => ⟨S2048, .f32⟩
  | 35 => ⟨S1x2048x1, .f32⟩
  | 36 => ⟨S8x2048x128, .f32⟩
  | 37 => ⟨S8x2048x128, .f32⟩
  | 38 => ⟨S8x2048x128, .f32⟩
  | 39 => ⟨S8x2048x128, .f32⟩
  | 40 => ⟨S8x2048x128, .f32⟩
  | 41 => ⟨S_, .i32⟩
  | 42 => ⟨S2048, .i32⟩
  | 43 => ⟨S2048, .i32⟩
  | 44 => ⟨S_, .i32⟩
  | 45 => ⟨S2048, .i32⟩
  | 46 => ⟨S2048, .i32⟩
  | 47 => ⟨S2048, .f32⟩
  | 48 => ⟨S1x2048x1, .f32⟩
  | 49 => ⟨S8x2048x128, .f32⟩
  | 50 => ⟨S8x2048x128, .f32⟩
  | 51 => ⟨S8x2048x128, .f32⟩
  | 52 => ⟨S8x2048x128, .f32⟩
  | 53 => ⟨S8x2048x128, .f32⟩
  | 54 => ⟨S_, .i32⟩
  | 55 => ⟨S2048, .i32⟩
  | 56 => ⟨S2048, .i32⟩
  | 57 => ⟨S_, .i32⟩
  | 58 => ⟨S2048, .i32⟩
  | 59 => ⟨S2048, .i32⟩
  | 60 => ⟨S2048, .f32⟩
  | 61 => ⟨S1x2048x1, .f32⟩
  | 62 => ⟨S8x2048x128, .f32⟩
  | 63 => ⟨S8x2048x128, .f32⟩
  | 64 => ⟨S8x2048x128, .f32⟩
  | 65 => ⟨S8x2048x128, .f32⟩
  | 66 => ⟨S8x2048x128, .f32⟩
  | 67 => ⟨S_, .i32⟩
  | 68 => ⟨S2048, .i32⟩
  | 69 => ⟨S2048, .i32⟩
  | 70 => ⟨S_, .i32⟩
  | 71 => ⟨S2048, .i32⟩
  | 72 => ⟨S2048, .i32⟩
  | 73 => ⟨S2048, .f32⟩
  | 74 => ⟨S1x2048x1, .f32⟩
  | 75 => ⟨S8x2048x128, .f32⟩
  | 76 => ⟨S8x2048x128, .f32⟩
  | 77 => ⟨S8x2048x128, .f32⟩
  | 78 => ⟨S8x2048x128, .f32⟩
  | 79 => ⟨S8x2048x512, .f32⟩
  | 80 => ⟨S8x2048x512, .f32⟩
  | 81 => ⟨S8x2048x512, .f32⟩
  | 82 => ⟨S8x2048x4x128, .f32⟩
  | 83 => ⟨S4x128x8x2048, .f32⟩
  | 84 => ⟨S8x2048x4x128, .f32⟩
  | 85 => ⟨S8x2048x512, .f32⟩
  | 86 => ⟨S1x1x512, .f32⟩
  | 87 => ⟨S8x2048x512, .f32⟩
  | 88 => ⟨S8x2048x512, .f32⟩
  | 89 => ⟨S16384x512, .f32⟩
  | 90 => ⟨S16384x1024, .f32⟩
  | 91 => ⟨S16384x1024, .f32⟩
  | 92 => ⟨S_, .f32⟩
  | 93 => ⟨S16384x1024, .f32⟩
  | 94 => ⟨S16384x1024, .f32⟩
  | 95 => ⟨S_, .f32⟩
  | 96 => ⟨S16384x1024, .f32⟩
  | 97 => ⟨S16384x1024, .f32⟩
  | 98 => ⟨S16384x512, .f32⟩
  | 99 => ⟨S16384x1024, .f32⟩
  | 100 => ⟨S16384x1024, .f32⟩
  | 101 => ⟨S16384x1024, .f32⟩
  | 102 => ⟨S16384x1024, .f32⟩
  | 103 => ⟨S_, .f32⟩
  | 104 => ⟨S16384x1024, .f32⟩
  | 105 => ⟨S16384x1024, .f32⟩
  | 106 => ⟨S_, .f32⟩
  | 107 => ⟨S16384x1024, .f32⟩
  | 108 => ⟨S16384x1024, .f32⟩
  | 109 => ⟨S16384x1024, .f32⟩
  | 110 => ⟨S16384x1024, .f32⟩
  | 111 => ⟨S16384x1024, .f32⟩
  | 112 => ⟨S_, .f32⟩
  | 113 => ⟨S16384x1024, .f32⟩
  | 114 => ⟨S16384x1024, .f32⟩
  | 115 => ⟨S16384x1024, .f32⟩
  | 116 => ⟨S16384x1024, .f32⟩
  | 117 => ⟨S_, .f32⟩
  | 118 => ⟨S16384, .f32⟩
  | 119 => ⟨S16384x1, .f32⟩
  | 120 => ⟨S_, .f32⟩
  | 121 => ⟨S16384x1, .f32⟩
  | 122 => ⟨S16384x1, .f32⟩
  | 123 => ⟨S16384x1024, .f32⟩
  | 124 => ⟨S16384x1024, .f32⟩
  | 125 => ⟨S16384x1024, .f32⟩
  | 126 => ⟨S_, .f32⟩
  | 127 => ⟨S16384, .f32⟩
  | _ => ⟨S16384x1024, .f32⟩

abbrev hbmTy0_1 (i : Nat) : BufTy := match i % 128 with
  | 0 => ⟨S16384x1, .f32⟩
  | 1 => ⟨S_, .f32⟩
  | 2 => ⟨S16384x1, .f32⟩
  | 3 => ⟨S16384x1, .f32⟩
  | 4 => ⟨S16384x1024, .f32⟩
  | 5 => ⟨S16384x1024, .f32⟩
  | 6 => ⟨S_, .f32⟩
  | 7 => ⟨S16384x1, .f32⟩
  | 8 => ⟨S16384x1, .f32⟩
  | 9 => ⟨S16384x1, .f32⟩
  | 10 => ⟨S16384x1024, .f32⟩
  | 11 => ⟨S16384x1024, .f32⟩
  | 12 => ⟨S1x1024, .f32⟩
  | 13 => ⟨S16384x1024, .f32⟩
  | 14 => ⟨S16384x1024, .f32⟩
  | 15 => ⟨S1x1024, .f32⟩
  | 16 => ⟨S16384x1024, .f32⟩
  | 17 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_call0_call0_cst : Ref sig .tc := ⟨.hbm, 21, rfl⟩
abbrev main_call0_call0_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_4 : Ref sig .tc := ⟨.hbm, 54, rfl⟩
abbrev main_v35 : Ref sig .tc := ⟨.hbm, 55, rfl⟩
abbrev main_v36 : Ref sig .tc := ⟨.hbm, 56, rfl⟩
abbrev main_c_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_6 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_8 : Ref sig .tc := ⟨.hbm, 92, rfl⟩
abbrev main_v69 : Ref sig .tc := ⟨.hbm, 93, rfl⟩
abbrev main_v70 : Ref sig .tc := ⟨.hbm, 94, rfl⟩
abbrev main_cst_9 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_10 : Ref sig .tc := ⟨.hbm, 103, rfl⟩
abbrev main_v78 : Ref sig .tc := ⟨.hbm, 104, rfl⟩
abbrev main_v79 : Ref sig .tc := ⟨.hbm, 105, rfl⟩
abbrev main_cst_11 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_12 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_13 : Ref sig .tc := ⟨.hbm, 117, rfl⟩
abbrev main_v89 : Ref sig .tc := ⟨.hbm, 118, rfl⟩
abbrev main_v90 : Ref sig .tc := ⟨.hbm, 119, rfl⟩
abbrev main_cst_14 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_15 : Ref sig .tc := ⟨.hbm, 126, rfl⟩
abbrev main_v96 : Ref sig .tc := ⟨.hbm, 127, rfl⟩
abbrev main_v97 : Ref sig .tc := ⟨.hbm, 128, rfl⟩
abbrev main_cst_16 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_17 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩

abbrev nD : Nat := 1
abbrev τ : Topo := Topo.v7x

variable {F : FTy → Type} [FloatOps F]
-- ==== MergeSample.lean ====
abbrev S256x1024 : Shape := ⟨2, ![256, 1024]⟩
abbrev S256x512 : Shape := ⟨2, ![256, 512]⟩
abbrev S32x15x512 : Shape := ⟨3, ![32, 15, 512]⟩
abbrev S1024x4104 : Shape := ⟨2, ![1024, 4104]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S1x512 : Shape := ⟨2, ![1, 512]⟩
abbrev S1x1024 : Shape := ⟨2, ![1, 1024]⟩
abbrev S_ : Shape := ⟨0, ![]⟩
abbrev S32x16x512 : Shape := ⟨3, ![32, 16, 512]⟩
abbrev S32x8x512 : Shape := ⟨3, ![32, 8, 512]⟩
abbrev S32x24x512 : Shape := ⟨3, ![32, 24, 512]⟩
abbrev S1x8x1 : Shape := ⟨3, ![1, 8, 1]⟩
abbrev S32x24x128 : Shape := ⟨3, ![32, 24, 128]⟩
abbrev S32x8x128 : Shape := ⟨3, ![32, 8, 128]⟩
abbrev S256x128 : Shape := ⟨2, ![256, 128]⟩
abbrev S256x2048 : Shape := ⟨2, ![256, 2048]⟩
abbrev S1x128x128 : Shape := ⟨3, ![1, 128, 128]⟩
abbrev S128x128 : Shape := ⟨2, ![128, 128]⟩
abbrev S256 : Shape := ⟨1, ![256]⟩
abbrev S256x1 : Shape := ⟨2, ![256, 1]⟩

abbrev nBuf : Space → Nat
  | .hbm => 26
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S256x512, .bf16⟩
  | .hbm, ⟨2, _⟩ => ⟨S256x512, .f32⟩
  | .hbm, ⟨3, _⟩ => ⟨S32x15x512, .f32⟩
  | .hbm, ⟨4, _⟩ => ⟨S1024x4104, .f32⟩
  | .hbm, ⟨5, _⟩ => ⟨S4x128x128, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x2048, .f32⟩
  | .hbm, ⟨13, _⟩ => ⟨S1024x2048, .bf16⟩
  | .hbm, ⟨14, _⟩ => ⟨S4x128x128, .bf16⟩
  | .hbm, ⟨15, _⟩ => ⟨S1x512, .f32⟩
  | .hbm, ⟨16, _⟩ => ⟨S512x1024, .bf16⟩
  | .hbm, ⟨17, _⟩ => ⟨S512x1024, .bf16⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S_, .i32⟩
  | .hbm, ⟨22, _⟩ => ⟨S_, .f32⟩
  | .hbm, ⟨23, _⟩ => ⟨S32x16x512, .f32⟩
  | .hbm, ⟨24, _⟩ => ⟨S32x8x512, .f32⟩
  | .hbm, ⟨25, _⟩ => ⟨S256x1024, .f32⟩
  | .local _ .vmem, ⟨0, _⟩ => ⟨S256x1024, .f32⟩
  | .local _ .vmem, ⟨1, _⟩ => ⟨S256x512, .bf16⟩
  | .local _ .vmem, ⟨2, _⟩ => ⟨S32x8x512, .f32⟩
  | .local _ .vmem, ⟨3, _⟩ => ⟨S32x16x512, .f32⟩
  | .local _ .vmem, ⟨4, _⟩ => ⟨S1024x2048, .bf16⟩
  | .local _ .vmem, ⟨5, _⟩ => ⟨S4x128x128, .bf16⟩
  | .local _ .vmem, ⟨6, _⟩ => ⟨S1x512, .f32⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_call0_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MergeSampleRefIdeal.lean ====
abbrev S256x1024 : Shape := ⟨2, ![256, 1024]⟩
abbrev S256x512 : Shape := ⟨2, ![256, 512]⟩
abbrev S32x15x512 : Shape := ⟨3, ![32, 15, 512]⟩
abbrev S1024x4104 : Shape := ⟨2, ![1024, 4104]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S256x4104 : Shape := ⟨2, ![256, 4104]⟩
abbrev S256x2048 : Shape := ⟨2, ![256, 2048]⟩
abbrev S32x8x512 : Shape := ⟨3, ![32, 8, 512]⟩
abbrev S32x23x512 : Shape := ⟨3, ![32, 23, 512]⟩
abbrev S_ : Shape := ⟨0, ![]⟩
abbrev S32x1x512 : Shape := ⟨3, ![32, 1, 512]⟩
abbrev S32x24x512 : Shape := ⟨3, ![32, 24, 512]⟩
abbrev S8 : Shape := ⟨1, ![8]⟩
abbrev S32x8x128 : Shape := ⟨3, ![32, 8, 128]⟩
abbrev S1x8x1 : Shape := ⟨3, ![1, 8, 1]⟩
abbrev S32x8x4x128 : Shape := ⟨4, ![32, 8, 4, 128]⟩
abbrev S4x128x32x8 : Shape := ⟨4, ![4, 128, 32, 8]⟩
abbrev S1x1x512 : Shape := ⟨3, ![1, 1, 512]⟩
abbrev S256 : Shape := ⟨1, ![256]⟩
abbrev S256x1 : Shape := ⟨2, ![256, 1]⟩
abbrev S1x1024 : Shape := ⟨2, ![1, 1024]⟩

abbrev nBuf : Space → Nat
  | .hbm => 148
  | .vmem => 0
  | .smem => 0
  | _ => 0

abbrev hbmTy0_0 (i : Nat) : BufTy := match i % 128 with
  | 0 => ⟨S256x1024, .f32⟩
  | 1 => ⟨S256x512, .bf16⟩
  | 2 => ⟨S256x512, .f32⟩
  | 3 => ⟨S32x15x512, .f32⟩
  | 4 => ⟨S1024x4104, .f32⟩
  | 5 => ⟨S4x128x128, .f32⟩
  | 6 => ⟨S512, .f32⟩
  | 7 => ⟨S512x1024, .f32⟩
  | 8 => ⟨S512x1024, .f32⟩
  | 9 => ⟨S1024x1024, .f32⟩
  | 10 => ⟨S1024, .f32⟩
  | 11 => ⟨S1024, .f32⟩
  | 12 => ⟨S256x4104, .f32⟩
  | 13 => ⟨S256x2048, .f32⟩
  | 14 => ⟨S256x1024, .f32⟩
  | 15 => ⟨S256x1024, .f32⟩
  | 16 => ⟨S32x8x512, .f32⟩
  | 17 => ⟨S32x23x512, .f32⟩
  | 18 => ⟨S_, .f32⟩
  | 19 => ⟨S32x1x512, .f32⟩
  | 20 => ⟨S_, .f32⟩
  | 21 => ⟨S_, .f32⟩
  | 22 => ⟨S32x23x512, .f32⟩
  | 23 => ⟨S32x24x512, .f32⟩
  | 24 => ⟨S32x8x512, .f32⟩
  | 25 => ⟨S8, .i32⟩
  | 26 => ⟨S_, .i32⟩
  | 27 => ⟨S8, .i32⟩
  | 28 => ⟨S8, .i32⟩
  | 29 => ⟨S32x8x128, .f32⟩
  | 30 => ⟨S_, .i32⟩
  | 31 => ⟨S8, .i32⟩
  | 32 => ⟨S8, .i32⟩
  | 33 => ⟨S_, .i32⟩
  | 34 => ⟨S8, .i32⟩
  | 35 => ⟨S8, .i32⟩
  | 36 => ⟨S8, .f32⟩
  | 37 => ⟨S1x8x1, .f32⟩
  | 38 => ⟨S32x8x128, .f32⟩
  | 39 => ⟨S32x8x128, .f32⟩
  | 40 => ⟨S32x8x128, .f32⟩
  | 41 => ⟨S32x8x128, .f32⟩
  | 42 => ⟨S32x8x128, .f32⟩
  | 43 => ⟨S_, .i32⟩
  | 44 => ⟨S8, .i32⟩
  | 45 => ⟨S8, .i32⟩
  | 46 => ⟨S_, .i32⟩
  | 47 => ⟨S8, .i32⟩
  | 48 => ⟨S8, .i32⟩
  | 49 => ⟨S8, .f32⟩
  | 50 => ⟨S1x8x1, .f32⟩
  | 51 => ⟨S32x8x128, .f32⟩
  | 52 => ⟨S32x8x128, .f32⟩
  | 53 => ⟨S32x8x128, .f32⟩
  | 54 => ⟨S32x8x128, .f32⟩
  | 55 => ⟨S32x8x128, .f32⟩
  | 56 => ⟨S_, .i32⟩
  | 57 => ⟨S8, .i32⟩
  | 58 => ⟨S8, .i32⟩
  | 59 => ⟨S_, .i32⟩
  | 60 => ⟨S8, .i32⟩
  | 61 => ⟨S8, .i32⟩
  | 62 => ⟨S8, .f32⟩
  | 63 => ⟨S1x8x1, .f32⟩
  | 64 => ⟨S32x8x128, .f32⟩
  | 65 => ⟨S32x8x128, .f32⟩
  | 66 => ⟨S32x8x128, .f32⟩
  | 67 => ⟨S32x8x128, .f32⟩
  | 68 => ⟨S32x8x128, .f32⟩
  | 69 => ⟨S_, .i32⟩
  | 70 => ⟨S8, .i32⟩
  | 71 => ⟨S8, .i32⟩
  | 72 => ⟨S_, .i32⟩
  | 73 => ⟨S8, .i32⟩
  | 74 => ⟨S8, .i32⟩
  | 75 => ⟨S8, .f32⟩
  | 76 => ⟨S1x8x1, .f32⟩
  | 77 => ⟨S32x8x128, .f32⟩
  | 78 => ⟨S32x8x128, .f32⟩
  | 79 => ⟨S32x8x128, .f32⟩
  | 80 => ⟨S32x8x128, .f32⟩
  | 81 => ⟨S32x8x512, .f32⟩
  | 82 => ⟨S32x8x512, .f32⟩
  | 83 => ⟨S32x8x512, .f32⟩
  | 84 => ⟨S32x8x4x128, .f32⟩
  | 85 => ⟨S4x128x32x8, .f32⟩
  | 86 => ⟨S32x8x4x128, .f32⟩
  | 87 => ⟨S32x8x512, .f32⟩
  | 88 => ⟨S1x1x512, .f32⟩
  | 89 => ⟨S32x8x512, .f32⟩
  | 90 => ⟨S32x8x512, .f32⟩
  | 91 => ⟨S256x512, .f32⟩
  | 92 => ⟨S256x1024, .f32⟩
  | 93 => ⟨S256x1024, .f32⟩
  | 94 => ⟨S_, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S256x512, .f32⟩
  | 101 => ⟨S256x1024, .f32⟩
  | 102 => ⟨S256x1024, .f32⟩
  | 103 => ⟨S256x1024, .f32⟩
  | 104 => ⟨S256x1024, .f32⟩
  | 105 => ⟨S_, .f32⟩
  | 106 => ⟨S256x1024, .f32⟩
  | 107 => ⟨S256x1024, .f32⟩
  | 108 => ⟨S_, .f32⟩
  | 109 => ⟨S256x1024, .f32⟩
  | 110 => ⟨S256x1024, .f32⟩
  | 111 => ⟨S256x1024, .f32⟩
  | 112 => ⟨S256x1024, .f32⟩
  | 113 => ⟨S256x1024, .f32⟩
  | 114 => ⟨S_, .f32⟩
  | 115 => ⟨S256x1024, .f32⟩
  | 116 => ⟨S256x1024, .f32⟩
  | 117 => ⟨S256x1024, .f32⟩
  | 118 => ⟨S256x1024, .f32⟩
  | 119 => ⟨S_, .f32⟩
  | 120 => ⟨S256, .f32⟩
  | 121 => ⟨S256x1, .f32⟩
  | 122 => ⟨S_, .f32⟩
  | 123 => ⟨S256x1, .f32⟩
  | 124 => ⟨S256x1, .f32⟩
  | 125 => ⟨S256x1024, .f32⟩
  | 126 => ⟨S256x1024, .f32⟩
  | 127 => ⟨S256x1024, .f32⟩
  | _ => ⟨S256x1024, .f32⟩

abbrev hbmTy0_1 (i : Nat) : BufTy := match i % 128 with
  | 0 => ⟨S_, .f32⟩
  | 1 => ⟨S256, .f32⟩
  | 2 => ⟨S256x1, .f32⟩
  | 3 => ⟨S_, .f32⟩
  | 4 => ⟨S256x1, .f32⟩
  | 5 => ⟨S256x1, .f32⟩
  | 6 => ⟨S256x1024, .f32⟩
  | 7 => ⟨S256x1024, .f32⟩
  | 8 => ⟨S_, .f32⟩
  | 9 => ⟨S256x1, .f32⟩
  | 10 => ⟨S256x1, .f32⟩
  | 11 => ⟨S256x1, .f32⟩
  | 12 => ⟨S256x1024, .f32⟩
  | 13 => ⟨S256x1024, .f32⟩
  | 14 => ⟨S1x1024, .f32⟩
  | 15 => ⟨S256x1024, .f32⟩
  | 16 => ⟨S256x1024, .f32⟩
  | 17 => ⟨S1x1024, .f32⟩
  | 18 => ⟨S256x1024, .f32⟩
  | 19 => ⟨S256x1024, .f32⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_call0_call0_cst : Ref sig .tc := ⟨.hbm, 20, rfl⟩
abbrev main_call0_call0_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_0 : Ref sig .tc := ⟨.hbm, 30, rfl⟩
abbrev main_v14 : Ref sig .tc := ⟨.hbm, 31, rfl⟩
abbrev main_v15 : Ref sig .tc := ⟨.hbm, 32, rfl⟩
abbrev main_c_1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_2 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_4 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_6 : Ref sig .tc := ⟨.hbm, 69, rfl⟩
abbrev main_v47 : Ref sig .tc := ⟨.hbm, 70, rfl⟩
abbrev main_v48 : Ref sig .tc := ⟨.hbm, 71, rfl⟩
abbrev main_c_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_cst_9 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_10 : Ref sig .tc := ⟨.hbm, 105, rfl⟩
abbrev main_v79 : Ref sig .tc := ⟨.hbm, 106, rfl⟩
abbrev main_v80 : Ref sig .tc := ⟨.hbm, 107, rfl⟩
abbrev main_cst_11 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_12 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_13 : Ref sig .tc := ⟨.hbm, 119, rfl⟩
abbrev main_v90 : Ref sig .tc := ⟨.hbm, 120, rfl⟩
abbrev main_v91 : Ref sig .tc := ⟨.hbm, 121, rfl⟩
abbrev main_cst_14 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_15 : Ref sig .tc := ⟨.hbm, 128, rfl⟩
abbrev main_v97 : Ref sig .tc := ⟨.hbm, 129, rfl⟩
abbrev main_v98 : Ref sig .tc := ⟨.hbm, 130, rfl⟩
abbrev main_cst_16 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_cst_17 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩

abbrev nD : Nat := 1
abbrev τ : Topo := Topo.v7x

variable {F : FTy → Type} [FloatOps F]
-- ==== AttnSample.lean ====
abbrev S32x64 : Shape := ⟨2, ![32, 64]⟩
abbrev S256x512 : Shape := ⟨2, ![256, 512]⟩
abbrev S8x256 : Shape := ⟨2, ![8, 256]⟩
abbrev S4x2560x128x8x64 : Shape := ⟨5, ![4, 2560, 128, 8, 64]⟩
abbrev S4x2560x128x8 : Shape := ⟨4, ![4, 2560, 128, 8]⟩
abbrev S8x32x8 : Shape := ⟨3, ![8, 32, 8]⟩
abbrev S32x8x8 : Shape := ⟨3, ![32, 8, 8]⟩
abbrev S_ : Shape := ⟨0, ![]⟩
abbrev S32x8x128 : Shape := ⟨3, ![32, 8, 128]⟩
abbrev S1x2560x128x8 : Shape := ⟨4, ![1, 2560, 128, 8]⟩
abbrev S2560x128x8 : Shape := ⟨3, ![2560, 128, 8]⟩
abbrev S32x64x1 : Shape := ⟨3, ![32, 64, 1]⟩
abbrev S32x64x128x8 : Shape := ⟨4, ![32, 64, 128, 8]⟩
abbrev S32x8192x8 : Shape := ⟨3, ![32, 8192, 8]⟩
abbrev S32x8x8192 : Shape := ⟨3, ![32, 8, 8192]⟩
abbrev S32x8x512 : Shape := ⟨3, ![32, 8, 512]⟩
abbrev S32x64x64 : Shape := ⟨3, ![32, 64, 64]⟩
abbrev S32x1024x64 : Shape := ⟨3, ![32, 1024, 64]⟩
abbrev S4x2560x1024x64 : Shape := ⟨4, ![4, 2560, 1024, 64]⟩
abbrev S1x8x512 : Shape := ⟨3, ![1, 8, 512]⟩
abbrev S1x8x8192 : Shape := ⟨3, ![1, 8, 8192]⟩
abbrev S1x8x128 : Shape := ⟨3, ![1, 8, 128]⟩
abbrev S1x1024x64 : Shape := ⟨3, ![1, 1024, 64]⟩
abbrev S1x1x1024x64 : Shape := ⟨4, ![1, 1, 1024, 64]⟩
abbrev S1x1 : Shape := ⟨2, ![1, 1]⟩
abbrev S8x8192 : Shape := ⟨2, ![8, 8192]⟩
abbrev S64x1 : Shape := ⟨2, ![64, 1]⟩
abbrev S64x64 : Shape := ⟨2, ![64, 64]⟩
abbrev S8x128 : Shape := ⟨2, ![8, 128]⟩
abbrev S8x1 : Shape := ⟨2, ![8, 1]⟩
abbrev S8x512 : Shape := ⟨2, ![8, 512]⟩
abbrev S8x64 : Shape := ⟨2, ![8, 64]⟩
abbrev S8x1024 : Shape := ⟨2, ![8, 1024]⟩
abbrev S1x1024 : Shape := ⟨2, ![1, 1024]⟩
abbrev S64x1024 : Shape := ⟨2, ![64, 1024]⟩
abbrev S1x1x128x64 : Shape := ⟨4, ![1, 1, 128, 64]⟩
abbrev S128x64 : Shape := ⟨2, ![128, 64]⟩
abbrev S64 : Shape := ⟨1, ![64]⟩
abbrev S64x128 : Shape := ⟨2, ![64, 128]⟩
abbrev S1x128 : Shape := ⟨2, ![1, 128]⟩
abbrev S1x128x64 : Shape := ⟨3, ![1, 128, 64]⟩

abbrev nBuf : Space → Nat
  | .hbm => 37
  | .vmem => 48
  | .smem => 1
  | _ => 0

abbrev bufTy : (tb : Table) → Fin (tcTables nBuf tb) → BufTy
  | .hbm, ⟨0, _⟩ => ⟨S256x512, .bf16⟩
  | .hbm, ⟨1, _⟩ => ⟨S256x512, .f32⟩
  | .hbm, ⟨2, _⟩ => ⟨S256x512, .f32⟩
  | .hbm, ⟨3, _⟩ => ⟨S8x256, .f32⟩
  | .hbm, ⟨4, _⟩ => ⟨S4x2560x128x8x64, .f32⟩
  | .hbm, ⟨5, _⟩ => ⟨S4x2560x128x8x64, .f32⟩
  | .hbm, ⟨6, _⟩ => ⟨S4x2560x128x8, .f32⟩
  | .hbm, ⟨7, _⟩ => ⟨S8x32x8, .f32⟩
  | .hbm, ⟨8, _⟩ => ⟨S32x8x8, .f32⟩
  | .hbm, ⟨9, _⟩ => ⟨S_, .i32⟩
  | .hbm, ⟨10, _⟩ => ⟨S_, .f32⟩
  | .hbm, ⟨11, _⟩ => ⟨S32x8x128, .f32⟩
  | .hbm, ⟨12, _⟩ => ⟨S1x2560x128x8, .f32⟩
  | .hbm, ⟨13, _⟩ => ⟨S2560x128x8, .f32⟩
  | .hbm, ⟨14, _⟩ => ⟨S_, .i32⟩
  | .hbm, ⟨15, _⟩ => ⟨S32x64, .i32⟩
  | .hbm, ⟨16, _⟩ => ⟨S32x64, .i1⟩
  | .hbm, ⟨17, _⟩ => ⟨S_, .i32⟩
  | .hbm, ⟨18, _⟩ => ⟨S32x64, .i32⟩
  | .hbm, ⟨19, _⟩ => ⟨S32x64, .i32⟩
  | .hbm, ⟨20, _⟩ => ⟨S32x64, .i32⟩
  | .hbm, ⟨21, _⟩ => ⟨S32x64x1, .i32⟩
  | .hbm, ⟨22, _⟩ => ⟨S32x64x128x8, .f32⟩
  | .hbm, ⟨23, _⟩ => ⟨S32x8192x8, .f32⟩
  | .hbm, ⟨24, _⟩ => ⟨S32x8x8192, .f32⟩
  | .hbm, ⟨25, _⟩ => ⟨S32x8x512, .bf16⟩
  | .hbm, ⟨26, _⟩ => ⟨S32x64x64, .f32⟩
  | .hbm, ⟨27, _⟩ => ⟨S_, .i32⟩
  | .hbm, ⟨28, _⟩ => ⟨S_, .f32⟩
  | .hbm, ⟨29, _⟩ => ⟨S32x1024x64, .f32⟩
  | .hbm, ⟨30, _⟩ => ⟨S32x64x64, .f32⟩
  | .hbm, ⟨31, _⟩ => ⟨S_, .i32⟩
  | .hbm, ⟨32, _⟩ => ⟨S_, .f32⟩
  | .hbm, ⟨33, _⟩ => ⟨S32x1024x64, .f32⟩
  | .hbm, ⟨34, _⟩ => ⟨S4x2560x1024x64, .f32⟩
  | .hbm, ⟨35, _⟩ => ⟨S4x2560x1024x64, .f32⟩
  | .hbm, ⟨36, _⟩ => ⟨S32x8x512, .bf16⟩
  | .local _ .vmem, ⟨0, _⟩ => ⟨S1x8x512, .bf16⟩
  | .local _ .vmem, ⟨1, _⟩ => ⟨S1x8x512, .bf16⟩
  | .local _ .vmem, ⟨2, _⟩ => ⟨S1x8x8192, .f32⟩
  | .local _ .vmem, ⟨3, _⟩ => ⟨S1x8x8192, .f32⟩
  | .local _ .vmem, ⟨4, _⟩ => ⟨S1x8x128, .f32⟩
  | .local _ .vmem, ⟨5, _⟩ => ⟨S1x8x128, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x64, .f32⟩
  | .local _ .vmem, ⟨9, _⟩ => ⟨S1x1024x64, .f32⟩
  | .local _ .vmem, ⟨10, _⟩ => ⟨S1x1x1024x64, .f32⟩
  | .local _ .vmem, ⟨11, _⟩ => ⟨S1x1x1024x64, .f32⟩
  | .local _ .vmem, ⟨12, _⟩ => ⟨S1x1x1024x64, .f32⟩
  | .local _ .vmem, ⟨13, _⟩ => ⟨S1x1x1024x64, .f32⟩
  | .local _ .vmem, ⟨14, _⟩ => ⟨S1x1x1024x64, .f32⟩
  | .local _ .vmem, ⟨15, _⟩ => ⟨S1x1x1024x64, .f32⟩
  | .local _ .vmem, ⟨16, _⟩ => ⟨S1x1x1024x64, .f32⟩
  | .local _ .vmem, ⟨17, _⟩ => ⟨S1x1x1024x64, .f32⟩
  | .local _ .vmem, ⟨18, _⟩ => ⟨S1x1x1024x64, .f32⟩
  | .local _ .vmem, ⟨19, _⟩ => ⟨S1x1x1024x64, .f32⟩
  | .local _ .vmem, ⟨20, _⟩ => ⟨S1x1x1024x64, .f32⟩
  | .local _ .vmem, ⟨21, _⟩ => ⟨S1x1x1024x64, .f32⟩
  | .local _ .vmem, ⟨22, _⟩ => ⟨S1x1x1024x64, .f32⟩
  | .local _ .vmem, ⟨23, _⟩ => ⟨S1x1x1024x64, .f32⟩
  | .local _ .vmem, ⟨24, _⟩ => ⟨S1x1x1024x64, .f32⟩
  | .local _ .vmem, ⟨25, _⟩ => ⟨S1x1x1024x64, .f32⟩
  | .local _ .vmem, ⟨26, _⟩ => ⟨S1x1x1024x64, .f32⟩
  | .local _ .vmem, ⟨27, _⟩ => ⟨S1x1x1024x64, .f32⟩
  | .local _ .vmem, ⟨28, _⟩ => ⟨S1x1x1024x64, .f32⟩
  | .local _ .vmem, ⟨29, _⟩ => ⟨S1x1x1024x64, .f32⟩
  | .local _ .vmem, ⟨30, _⟩ => ⟨S1x1x1024x64, .f32⟩
  | .local _ .vmem, ⟨31, _⟩ => ⟨S1x1x1024x64, .f32⟩
  | .local _ .vmem, ⟨32, _⟩ => ⟨S1x1x1024x64, .f32⟩
  | .local _ .vmem, ⟨33, _⟩ => ⟨S1x1x1024x64, .f32⟩
  | .local _ .vmem, ⟨34, _⟩ => ⟨S1x1x1024x64, .f32⟩
  | .local _ .vmem, ⟨35, _⟩ => ⟨S1x1x1024x64, .f32⟩
  | .local _ .vmem, ⟨36, _⟩ => ⟨S1x1x1024x64, .f32⟩
  | .local _ .vmem, ⟨37, _⟩ => ⟨S1x1x1024x64, .f32⟩
  | .local _ .vmem, ⟨38, _⟩ => ⟨S1x1x1024x64, .f32⟩
  | .local _ .vmem, ⟨39, _⟩ => ⟨S1x1x1024x64, .f32⟩
  | .local _ .vmem, ⟨40, _⟩ => ⟨S1x1x1024x64, .f32⟩
  | .local _ .vmem, ⟨41, _⟩ => ⟨S1x1x1024x64, .f32⟩
  | .local _ .vmem, ⟨42, _⟩ => ⟨S1x8x512, .bf16⟩
  | .local _ .vmem, ⟨43, _⟩ => ⟨S1x8x512, .bf16⟩
  | .local _ .vmem, ⟨44, _⟩ => ⟨S8x8192, .f32⟩
  | .local _ .vmem, ⟨45, _⟩ => ⟨S64x1, .f32⟩
  | .local _ .vmem, ⟨46, _⟩ => ⟨S64x1, .f32⟩
  | .local _ .vmem, ⟨47, _⟩ => ⟨S64x64, .f32⟩
  | .local _ .smem, ⟨0, _⟩ => ⟨S32x64, .i32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_call2_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_scratch3 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨2, ![32, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c8_i32 : BitVec 32 := 8#32
  let v0 : BitVec 32 := Scalar.muli arg1 c8_i32
  let v1 : BitVec 32 := Scalar.addi v0 c0_i32
  let v3 : Index := Scalar.indexCast v1
  ![v2.toNat, v3.toNat]
def k0_mult1 (i : grid0.Coords) : BitVec 32 :=
  let arg1 : BitVec 32 := BitVec.ofNat 32 (i 1).val
  let c1024_i32 : BitVec 32 := 1024#32
  let v13 : BitVec 32 := Scalar.muli arg1 c1024_i32
  v13
def k0_off2 (i : grid0.Coords) : Fin 2 → Nat :=
  let c0_3 : Index := 0#32
  let arg1 : BitVec 32 := BitVec.ofNat 32 (i 1).val
  let c1024_i32 : BitVec 32 := 1024#32
  let v13 : BitVec 32 := Scalar.muli arg1 c1024_i32
  let v14 : BitVec 32 := v13
  let v15 : Index := Scalar.indexCast v14
  ![0, v15.toNat]
def k0_cond2 (i : grid0.Coords) : BitVec 1 :=
  let arg1 : BitVec 32 := BitVec.ofNat 32 (i 1).val
  let c7_i32 : BitVec 32 := 7#32
  let v713 : BitVec 1 := Scalar.cmpi .eq arg1 c7_i32
  let v714 : BitVec 32 := Scalar.extui v713
  let c0_i32_650 : BitVec 32 := 0#32
  let v715 : BitVec 1 := Scalar.cmpi .ne v714 c0_i32_650
  v715

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x64) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v4.toNat, c0_i32_1.toNat, c0_i32_2.toNat]

def cc0_transform_6 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x64) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_7 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x64) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_8 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x64) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_9 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x64) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_10 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x64) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_11 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x64) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_12 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x64) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_13 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x64) ![v2.toNat, v3.toNat] S1x1.size (k0_off1_inb i 0)) numel1_S1x1
  let c0_i32_0 : BitVec 32 := 0#32
  let c0_i32_1 : BitVec 32 := 0#32
  let c0_i32_2 : BitVec 32 := 0#32
  let c0_i32_3 : BitVec 32 := 0#32
  ![c0_i32_0.toNat, v4.toNat, c0_i32_1.toNat, c0_i32_2.toNat]

def cc0_transform_14 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x64) ![v2.toNat, v3.toNat] S1x1.size (k0_off1_inb i 1)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_15 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x64) ![v2.toNat, v3.toNat] S1x1.size (k0_off1_inb i 2)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_16 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x64) ![v2.toNat, v3.toNat] S1x1.size (k0_off1_inb i 3)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_17 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x64) ![v2.toNat, v3.toNat] S1x1.size (k0_off1_inb i 4)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_18 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x64) ![v2.toNat, v3.toNat] S1x1.size (k0_off1_inb i 5)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_19 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x64) ![v2.toNat, v3.toNat] S1x1.size (k0_off1_inb i 6)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_20 (k0_off1_inb : ∀ i : grid0.Coords, ∀ (r : Fin 8), ∀ a, (k0_off1 i (BitVec.ofNat 32 r.val)) a + S1x1.size a ≤ S32x64.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x64) ![v2.toNat, v3.toNat] S1x1.size (k0_off1_inb i 7)) numel1_S1x1
  let c0_i32 : BitVec 32 := 0#32
  let c0_i32_0 : BitVec 32 := 0#32
  let c0_i32_1 : BitVec 32 := 0#32
  let c0_i32_2 : BitVec 32 := 0#32
  ![c0_i32.toNat, v4.toNat, c0_i32_0.toNat, c0_i32_1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x1024x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1024x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1024x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1024x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x1024x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x1024x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x1024x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x1024x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x1024x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x1024x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, false]
-- ==== AttnSampleIdeal.lean ====
variable {F : FTy → Type} [FloatOps F] [Named F]
def κ : String → Option EReal := fun
  | "mask" => some ⊥
  | _ => none
-- ==== AttnSampleRefIdeal.lean ====
abbrev S32x64 : Shape := ⟨2, ![32, 64]⟩
abbrev S256x512 : Shape := ⟨2, ![256, 512]⟩
abbrev S8x256 : Shape := ⟨2, ![8, 256]⟩
abbrev S4x2560x128x8x64 : Shape := ⟨5, ![4, 2560, 128, 8, 64]⟩
abbrev S4x2560x128x8 : Shape := ⟨4, ![4, 2560, 128, 8]⟩
abbrev S32x8x8x64 : Shape := ⟨4, ![32, 8, 8, 64]⟩
abbrev S8x32x8 : Shape := ⟨3, ![8, 32, 8]⟩
abbrev S32x8x8 : Shape := ⟨3, ![32, 8, 8]⟩
abbrev S1x2560x128x8x64 : Shape := ⟨5, ![1, 2560, 128, 8, 64]⟩
abbrev S2560x128x8x64 : Shape := ⟨4, ![2560, 128, 8, 64]⟩
abbrev S_ : Shape := ⟨0, ![]⟩
abbrev S32x64x1 : Shape := ⟨3, ![32, 64, 1]⟩
abbrev S32x64x128x8x64 : Shape := ⟨5, ![32, 64, 128, 8, 64]⟩
abbrev S32x8192x8x64 : Shape := ⟨4, ![32, 8192, 8, 64]⟩
abbrev S1x2560x128x8 : Shape := ⟨4, ![1, 2560, 128, 8]⟩
abbrev S2560x128x8 : Shape := ⟨3, ![2560, 128, 8]⟩
abbrev S32x64x128x8 : Shape := ⟨4, ![32, 64, 128, 8]⟩
abbrev S32x8192x8 : Shape := ⟨3, ![32, 8192, 8]⟩
abbrev S32x8x8x1 : Shape := ⟨4, ![32, 8, 8, 1]⟩
abbrev S32x8x8192 : Shape := ⟨3, ![32, 8, 8192]⟩
abbrev S32x8x1x8192 : Shape := ⟨4, ![32, 8, 1, 8192]⟩
abbrev S32x8x8x8192 : Shape := ⟨4, ![32, 8, 8, 8192]⟩
abbrev S32x8x1x8 : Shape := ⟨4, ![32, 8, 1, 8]⟩
abbrev S32x8x8x8 : Shape := ⟨4, ![32, 8, 8, 8]⟩
abbrev S8x8 : Shape := ⟨2, ![8, 8]⟩
abbrev S32x8x8x8200 : Shape := ⟨4, ![32, 8, 8, 8200]⟩
abbrev S32x8x64x8 : Shape := ⟨4, ![32, 8, 64, 8]⟩
abbrev S32x8x512 : Shape := ⟨3, ![32, 8, 512]⟩

abbrev nBuf : Space → Nat
  | .hbm => 113
  | .vmem => 0
  | .smem => 0
  | _ => 0

abbrev bufTy : (tb : Table) → Fin (tcTables nBuf tb) → BufTy
  | .hbm, ⟨0, _⟩ => ⟨S32x64, .i32⟩
  | .hbm, ⟨1, _⟩ => ⟨S256x512, .bf16⟩
  | .hbm, ⟨2, _⟩ => ⟨S256x512, .f32⟩
  | .hbm, ⟨3, _⟩ => ⟨S256x512, .f32⟩
  | .hbm, ⟨4, _⟩ => ⟨S8x256, .f32⟩
  | .hbm, ⟨5, _⟩ => ⟨S4x2560x128x8x64, .f32⟩
  | .hbm, ⟨6, _⟩ => ⟨S4x2560x128x8x64, .f32⟩
  | .hbm, ⟨7, _⟩ => ⟨S4x2560x128x8, .f32⟩
  | .hbm, ⟨8, _⟩ => ⟨S256x512, .f32⟩
  | .hbm, ⟨9, _⟩ => ⟨S32x8x8x64, .f32⟩
  | .hbm, ⟨10, _⟩ => ⟨S32x8x8x64, .f32⟩
  | .hbm, ⟨11, _⟩ => ⟨S32x8x8x64, .f32⟩
  | .hbm, ⟨12, _⟩ => ⟨S8x32x8, .f32⟩
  | .hbm, ⟨13, _⟩ => ⟨S32x8x8, .f32⟩
  | .hbm, ⟨14, _⟩ => ⟨S1x2560x128x8x64, .f32⟩
  | .hbm, ⟨15, _⟩ => ⟨S2560x128x8x64, .f32⟩
  | .hbm, ⟨16, _⟩ => ⟨S_, .i32⟩
  | .hbm, ⟨17, _⟩ => ⟨S32x64, .i32⟩
  | .hbm, ⟨18, _⟩ => ⟨S32x64, .i1⟩
  | .hbm, ⟨19, _⟩ => ⟨S_, .i32⟩
  | .hbm, ⟨20, _⟩ => ⟨S32x64, .i32⟩
  | .hbm, ⟨21, _⟩ => ⟨S32x64, .i32⟩
  | .hbm, ⟨22, _⟩ => ⟨S32x64, .i32⟩
  | .hbm, ⟨23, _⟩ => ⟨S32x64x1, .i32⟩
  | .hbm, ⟨24, _⟩ => ⟨S32x64x128x8x64, .f32⟩
  | .hbm, ⟨25, _⟩ => ⟨S32x8192x8x64, .f32⟩
  | .hbm, ⟨26, _⟩ => ⟨S1x2560x128x8x64, .f32⟩
  | .hbm, ⟨27, _⟩ => ⟨S2560x128x8x64, .f32⟩
  | .hbm, ⟨28, _⟩ => ⟨S_, .i32⟩
  | .hbm, ⟨29, _⟩ => ⟨S32x64, .i32⟩
  | .hbm, ⟨30, _⟩ => ⟨S32x64, .i1⟩
  | .hbm, ⟨31, _⟩ => ⟨S_, .i32⟩
  | .hbm, ⟨32, _⟩ => ⟨S32x64, .i32⟩
  | .hbm, ⟨33, _⟩ => ⟨S32x64, .i32⟩
  | .hbm, ⟨34, _⟩ => ⟨S32x64, .i32⟩
  | .hbm, ⟨35, _⟩ => ⟨S32x64x1, .i32⟩
  | .hbm, ⟨36, _⟩ => ⟨S32x64x128x8x64, .f32⟩
  | .hbm, ⟨37, _⟩ => ⟨S32x8192x8x64, .f32⟩
  | .hbm, ⟨38, _⟩ => ⟨S1x2560x128x8, .f32⟩
  | .hbm, ⟨39, _⟩ => ⟨S2560x128x8, .f32⟩
  | .hbm, ⟨40, _⟩ => ⟨S_, .i32⟩
  | .hbm, ⟨41, _⟩ => ⟨S32x64, .i32⟩
  | .hbm, ⟨42, _⟩ => ⟨S32x64, .i1⟩
  | .hbm, ⟨43, _⟩ => ⟨S_, .i32⟩
  | .hbm, ⟨44, _⟩ => ⟨S32x64, .i32⟩
  | .hbm, ⟨45, _⟩ => ⟨S32x64, .i32⟩
  | .hbm, ⟨46, _⟩ => ⟨S32x64, .i32⟩
  | .hbm, ⟨47, _⟩ => ⟨S32x64x1, .i32⟩
  | .hbm, ⟨48, _⟩ => ⟨S32x64x128x8, .f32⟩
  | .hbm, ⟨49, _⟩ => ⟨S32x8192x8, .f32⟩
  | .hbm, ⟨50, _⟩ => ⟨S_, .f32⟩
  | .hbm, ⟨51, _⟩ => ⟨S_, .f32⟩
  | .hbm, ⟨52, _⟩ => ⟨S32x8x8, .f32⟩
  | .hbm, ⟨53, _⟩ => ⟨S_, .f32⟩
  | .hbm, ⟨54, _⟩ => ⟨S_, .f32⟩
  | .hbm, ⟨55, _⟩ => ⟨S32x8192x8, .f32⟩
  | .hbm, ⟨56, _⟩ => ⟨S32x8192x8, .f32⟩
  | .hbm, ⟨57, _⟩ => ⟨S32x8x8, .f32⟩
  | .hbm, ⟨58, _⟩ => ⟨S32x8x8x1, .f32⟩
  | .hbm, ⟨59, _⟩ => ⟨S32x8x8192, .f32⟩
  | .hbm, ⟨60, _⟩ => ⟨S32x8x1x8192, .f32⟩
  | .hbm, ⟨61, _⟩ => ⟨S32x8x8x8192, .f32⟩
  | .hbm, ⟨62, _⟩ => ⟨S32x8x8x8192, .f32⟩
  | .hbm, ⟨63, _⟩ => ⟨S32x8x8x8192, .f32⟩
  | .hbm, ⟨64, _⟩ => ⟨S32x8x8x1, .f32⟩
  | .hbm, ⟨65, _⟩ => ⟨S32x8x1x8, .f32⟩
  | .hbm, ⟨66, _⟩ => ⟨S32x8x8x8, .f32⟩
  | .hbm, ⟨67, _⟩ => ⟨S32x8x8x8, .f32⟩
  | .hbm, ⟨68, _⟩ => ⟨S32x8x8x8, .f32⟩
  | .hbm, ⟨69, _⟩ => ⟨S_, .i1⟩
  | .hbm, ⟨70, _⟩ => ⟨S8x8, .i1⟩
  | .hbm, ⟨71, _⟩ => ⟨S8x8, .i32⟩
  | .hbm, ⟨72, _⟩ => ⟨S_, .i32⟩
  | .hbm, ⟨73, _⟩ => ⟨S8x8, .i32⟩
  | .hbm, ⟨74, _⟩ => ⟨S8x8, .i32⟩
  | .hbm, ⟨75, _⟩ => ⟨S8x8, .i32⟩
  | .hbm, ⟨76, _⟩ => ⟨S8x8, .i1⟩
  | .hbm, ⟨77, _⟩ => ⟨S_, .i1⟩
  | .hbm, ⟨78, _⟩ => ⟨S8x8, .i1⟩
  | .hbm, ⟨79, _⟩ => ⟨S8x8, .i1⟩
  | .hbm, ⟨80, _⟩ => ⟨S32x8x8x8192, .f32⟩
  | .hbm, ⟨81, _⟩ => ⟨S32x8x8x8192, .f32⟩
  | .hbm, ⟨82, _⟩ => ⟨S32x8x8x8, .f32⟩
  | .hbm, ⟨83, _⟩ => ⟨S32x8x8x8, .f32⟩
  | .hbm, ⟨84, _⟩ => ⟨S_, .f32⟩
  | .hbm, ⟨85, _⟩ => ⟨S_, .f32⟩
  | .hbm, ⟨86, _⟩ => ⟨S32x8x8x8, .i1⟩
  | .hbm, ⟨87, _⟩ => ⟨S32x8x8x8, .f32⟩
  | .hbm, ⟨88, _⟩ => ⟨S32x8x8x8, .f32⟩
  | .hbm, ⟨89, _⟩ => ⟨S32x8x8x8200, .f32⟩
  | .hbm, ⟨90, _⟩ => ⟨S_, .f32⟩
  | .hbm, ⟨91, _⟩ => ⟨S32x8x8, .f32⟩
  | .hbm, ⟨92, _⟩ => ⟨S_, .f32⟩
  | .hbm, ⟨93, _⟩ => ⟨S32x8x8, .f32⟩
  | .hbm, ⟨94, _⟩ => ⟨S32x8x8, .f32⟩
  | .hbm, ⟨95, _⟩ => ⟨S32x8x8x1, .f32⟩
  | .hbm, ⟨96, _⟩ => ⟨S32x8x8x8200, .f32⟩
  | .hbm, ⟨97, _⟩ => ⟨S32x8x8x8200, .f32⟩
  | .hbm, ⟨98, _⟩ => ⟨S32x8x8x8200, .f32⟩
  | .hbm, ⟨99, _⟩ => ⟨S_, .f32⟩
  | .hbm, ⟨100, _⟩ => ⟨S32x8x8, .f32⟩
  | .hbm, ⟨101, _⟩ => ⟨S32x8x8x1, .f32⟩
  | .hbm, ⟨102, _⟩ => ⟨S32x8x8x8200, .f32⟩
  | .hbm, ⟨103, _⟩ => ⟨S32x8x8x8200, .f32⟩
  | .hbm, ⟨104, _⟩ => ⟨S32x8x8x8192, .f32⟩
  | .hbm, ⟨105, _⟩ => ⟨S32x8x64x8, .f32⟩
  | .hbm, ⟨106, _⟩ => ⟨S32x8x8x64, .f32⟩
  | .hbm, ⟨107, _⟩ => ⟨S32x8x8x8, .f32⟩
  | .hbm, ⟨108, _⟩ => ⟨S32x8x64x8, .f32⟩
  | .hbm, ⟨109, _⟩ => ⟨S32x8x8x64, .f32⟩
  | .hbm, ⟨110, _⟩ => ⟨S32x8x8x64, .f32⟩
  | .hbm, ⟨111, _⟩ => ⟨S32x8x512, .f32⟩
  | .hbm, ⟨112, _⟩ => ⟨S32x8x512, .bf16⟩
  | _, _ => ⟨S32x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_call0_cst : Ref sig .tc := ⟨.hbm, 50, rfl⟩
abbrev main_call0_call0_v0 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_5 : Ref sig .tc := ⟨.hbm, 69, rfl⟩
abbrev main_v51 : Ref sig .tc := ⟨.hbm, 70, rfl⟩
abbrev main_call2_v0 : Ref sig .tc := ⟨.hbm, 71, rfl⟩
abbrev main_call2_c : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_c_0 : Ref sig .tc := ⟨.hbm, 77, rfl⟩
abbrev main_call2_v5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v57 : Ref sig .tc := ⟨.hbm, 88, rfl⟩
abbrev main_v58 : Ref sig .tc := ⟨.hbm, 89, rfl⟩
abbrev main_cst_6 : Ref sig .tc := ⟨.hbm, 90, rfl⟩
abbrev main_v59 : Ref sig .tc := ⟨.hbm, 91, rfl⟩
abbrev main_cst_7 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_8 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩

abbrev nD : Nat := 1
abbrev τ : Topo := Topo.v7x

variable {F : FTy → Type} [FloatOps F]
-- ==== Proof.FfnSpec.lean ====
/-
  The feed-forward layer on one row, as a function of extended reals: two projections of the row, the gated
  product, the projection back, half of it added to the scaled row, and the layer norm of the sum. Both the
  kernel and the reference are shown to compute this function; nothing here mentions a program.
-/
module

public import Idealize.ShloMosaic.Lib.Pointwise

@[expose] public section

noncomputable section

open Idealize.ShloMosaic

namespace Cert.FfnSpec

/-- Column `j` of the row `x` times the up-projection `w`. -/
def proj (x : Fin 1024 → EReal) (w : Fin 1024 → Fin 5632 → EReal) (j : Fin 5632) : EReal :=
  ∑ i : Fin 1024, x i * w i j

/-- Hidden unit `j`: the gate column times its logistic times the up column `2816 + j`. -/
def act (x : Fin 1024 → EReal) (w : Fin 1024 → Fin 5632 → EReal) (j : Fin 2816) : EReal :=
  proj x w ⟨j.val, by omega⟩ * Ideal.logistic (proj x w ⟨j.val, by omega⟩) * proj x w ⟨2816 + j.val, by omega⟩

/-- The scaled row plus one half of the layer's output, at column `d`. -/
def hidden (x : Fin 1024 → EReal) (w : Fin 1024 → Fin 5632 → EReal) (wd : Fin 2816 → Fin 1024 → EReal)
    (d : Fin 1024) : EReal :=
  Ideal.ofBits .f32 0x3FD744FD#32 * x d + Ideal.ofBits .f32 0x3F000000#32 * ∑ j : Fin 2816, act x w j * wd j d

/-- The mean of a row of 1024 entries. -/
def mean (h : Fin 1024 → EReal) : EReal := Ideal.div (∑ k : Fin 1024, h k) (Ideal.ofBits .f32 0x44800000#32)

/-- The layer norm of the row `h` with gain `g` and offset `b`. -/
def norm (h g b : Fin 1024 → EReal) (d : Fin 1024) : EReal :=
  (h d - mean h) * Ideal.rsqrt (mean (fun k => (h k - mean h) * (h k - mean h)) + Ideal.ofBits .f32 0x3727C5AC#32)
    * g d + b d

/-- The whole layer on one row. -/
def layer (x : Fin 1024 → EReal) (w : Fin 1024 → Fin 5632 → EReal) (wd : Fin 2816 → Fin 1024 → EReal)
    (g b : Fin 1024 → EReal) (d : Fin 1024) : EReal :=
  norm (hidden x w wd) g b d

/-- A sum over the 2816 hidden units is the sum of eleven runs of 256, added from the left. -/
theorem sum_runs (f : Fin 2816 → EReal) (p : ℕ → EReal)
    (hp : ∀ c : ℕ, (h : c < 11) → p c = ∑ k : Fin 256, f ⟨256 * c + k.val, by omega⟩) :
    ∑ j : Fin 2816, f j = ∑ c ∈ Finset.range 11, p c := by
  rw [← Equiv.sum_comp (finProdFinEquiv (m := 11) (n := 256)) f, Fintype.sum_prod_type,
    ← Fin.sum_univ_eq_sum_range]
  refine Finset.sum_congr rfl fun c _ => ?_
  rw [hp c.val c.isLt]
  refine Finset.sum_congr rfl fun k _ => congrArg f (Fin.ext ?_)
  show k.val + 256 * c.val = 256 * c.val + k.val
  omega

end Cert.FfnSpec

end
-- ==== Proof.FfnBlock.lean ====
/-
  One grid point of the feed-forward kernel: the block it writes, read at a row and a column, is the layer of
  `FfnSpec` on the block's row. The body takes the hidden units in eleven runs of 256; `run` is one of them,
  and `hid` adds the eleven up in the body's order.
-/
module

public import proofs.«01_k».proof.Defs
public import proofs.«01_k».proof.Proof.FfnSpec
public import proofs.«01_k».proof.Proof.Gen.FfnIdeal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.FfnIdeal.Block

open Cert.FfnIdeal Cert.FfnIdeal.Gen

/-- One run of 256 hidden units: both projections, the gated product, and its projection back. -/
def run (x : FVec Ideal S512x1024 .bf16) (wg wu : FVec Ideal S1024x256 .bf16) (wd : FVec Ideal S256x1024 .bf16) :
    FVec Ideal S512x1024 .f32 :=
  have z : FVec Ideal S512x256 .f32 := constant S512x256 .f32 0x00000000#32
  have p : FVec Ideal S512x256 .f32 := matmul dot_S512x1024_S1024x256_S512x256_1_0_0_1_n_n none x
    (shapeCast S1024x256 wg shapeCasts_S1024x256_S1024x256) z
  have q : FVec Ideal S512x256 .f32 := matmul dot_S512x1024_S1024x256_S512x256_1_0_0_1_n_n none x
    (shapeCast S1024x256 wu shapeCasts_S1024x256_S1024x256) z
  matmul dot_S512x256_S256x1024_S512x1024_1_0_0_1_n_n none
    (truncf .bf16 (mulf (mulf p (logistic p)) q) bitsLt_bf16_f32 : FVec Ideal S512x256 .bf16)
    (shapeCast S256x1024 wd shapeCasts_S256x1024_S256x1024) (constant S512x1024 .f32 0x00000000#32)

/-- The body's last part: the scaled row plus half the accumulated sum, and its layer norm. -/
def finish (x acc : FVec Ideal S512x1024 .f32) (g b : FVec Ideal S1x1024 .f32) : FVec Ideal S512x1024 .f32 :=
  have h : FVec Ideal S512x1024 .f32 := addf (mulf (broadcast S512x1024 (Scalar.ofBits .f32 0x3FD744FD#32)) x)
    (mulf (broadcast S512x1024 (Scalar.ofBits .f32 0x3F000000#32)) acc)
  have μ : FVec Ideal S512x1 .f32 := divf (shapeCast S512x1
    (multiReduction .add [1] S512 h 0x00000000#32 reduces_S512x1024_S512 (.inl rfl) rfl) shapeCasts_S512_S512x1)
    (broadcast S512x1 (Scalar.ofBits .f32 0x44800000#32))
  have e : FVec Ideal S512x1024 .f32 := subf h (broadcastTo S512x1024 μ broadcasts_S512x1_S512x1024)
  have v : FVec Ideal S512x1 .f32 := divf (shapeCast S512x1
    (multiReduction .add [1] S512 (mulf e e) 0x00000000#32 reduces_S512x1024_S512 (.inl rfl) rfl) shapeCasts_S512_S512x1)
    (broadcast S512x1 (Scalar.ofBits .f32 0x44800000#32))
  have r : FVec Ideal S512x1 .f32 := rsqrt (addf v (broadcast S512x1 (Scalar.ofBits .f32 0x3727C5AC#32)))
  addf (mulf (mulf e (broadcastTo S512x1024 r broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

/-- The offset of a run's columns stays inside the up-projection. -/
theorem inb_up (o : ℕ) (h : o + 256 ≤ 5632) : ∀ a, ![0, o] a + S1024x256.size a ≤ S1024x5632.size a := by
  intro a
  match a with
  | ⟨0, _⟩ => show 0 + 1024 ≤ 1024; omega
  | ⟨1, _⟩ => exact h

/-- The offset of a run's rows stays inside the down-projection. -/
theorem inb_down (o : ℕ) (h : o + 256 ≤ 2816) : ∀ a, ![o, 0] a + S256x1024.size a ≤ S2816x1024.size a := by
  intro a
  match a with
  | ⟨0, _⟩ => exact h
  | ⟨1, _⟩ => show 0 + 1024 ≤ 1024; omega

variable (x0 : Vec Ideal S512x1024 .f32) (x1 : Vec Ideal S1024x5632 .bf16) (x2 : Vec Ideal S2816x1024 .bf16)
  (x3 x4 : Vec Ideal S1x1024 .f32)

/-- The run whose hidden units begin at `o`, of the loaded blocks. -/
def runAt (o : ℕ) (h : o + 256 ≤ 2816) : FVec Ideal S512x1024 .f32 :=
  run (truncf .bf16 x0 bitsLt_bf16_f32) (View.ld x1 (Rect.unit (s := S1024x5632) ![0, o] S1024x256.size (inb_up o (by omega))))
    (View.ld x1 (Rect.unit (s := S1024x5632) ![0, 2816 + o] S1024x256.size (inb_up (2816 + o) (by omega))))
    (View.ld x2 (Rect.unit (s := S2816x1024) ![o, 0] S256x1024.size (inb_down o h)))

/-- The eleven runs added up in the body's order. -/
def hid : FVec Ideal S512x1024 .f32 :=
  addf (addf (addf (addf (addf (addf (addf (addf (addf (addf (addf (broadcast S512x1024 (Scalar.ofBits .f32 0x00000000#32))
    (runAt x0 x1 x2 0 (by omega))) (runAt x0 x1 x2 256 (by omega))) (runAt x0 x1 x2 512 (by omega)))
    (runAt x0 x1 x2 768 (by omega))) (runAt x0 x1 x2 1024 (by omega))) (runAt x0 x1 x2 1280 (by omega)))
    (runAt x0 x1 x2 1536 (by omega))) (runAt x0 x1 x2 1792 (by omega))) (runAt x0 x1 x2 2048 (by omega)))
    (runAt x0 x1 x2 2304 (by omega))) (runAt x0 x1 x2 2560 (by omega))

theorem hz : (![0, 0] : Fin 2 → Nat) = fun _ => 0 := funext fun a => by fin_cases a <;> rfl

/-- The block a point writes, in these words. -/
theorem out_eq : out0_5 x0 x1 x2 x3 x4 = finish x0 (hid x0 x1 x2) x3 x4 := by
  unfold_out out0_5
  rw [View.canon_unit_zero hz, View.ld_unit_zero hz, View.ld_unit_zero hz, View.ld_unit_zero hz]
  rfl

/-- The row of a block as a function of its column. -/
abbrev row (x : Vec Ideal S512x1024 .f32) (r : Fin 512) : Fin 1024 → EReal := fun k => x (ix2 r k)

/-- A run's contribution at row `r`, column `d`: the sum over its 256 hidden units. -/
theorem runAt_apply (o : ℕ) (h : o + 256 ≤ 2816) (r : Fin 512) (d : Fin 1024) :
    runAt x0 x1 x2 o h (ix2 r d) = ∑ k : Fin 256,
      FfnSpec.act (row x0 r) (fun i j => x1 (ix2 i j)) ⟨o + k.val, by omega⟩ * x2 (ix2 ⟨o + k.val, by omega⟩ d) := by
  unfold runAt run
  pointwise [FfnSpec.act, FfnSpec.proj]
  simp only [row, Nat.add_assoc]

/-- The body's last part at row `r`, column `d`. -/
theorem finish_apply (acc : FVec Ideal S512x1024 .f32) (r : Fin 512) (d : Fin 1024) :
    finish x0 acc x3 x4 (ix2 r d) = FfnSpec.norm
      (fun k => Ideal.ofBits .f32 0x3FD744FD#32 * x0 (ix2 r k) + Ideal.ofBits .f32 0x3F000000#32 * acc (ix2 r k))
      (fun k => x3 (ix2 0 k)) (fun k => x4 (ix2 0 k)) d := by
  unfold finish
  pointwise [FfnSpec.norm, FfnSpec.mean]

/-- The eleven runs added up are the sum over all 2816 hidden units. -/
theorem hid_apply (r : Fin 512) (d : Fin 1024) :
    hid x0 x1 x2 (ix2 r d) = ∑ j : Fin 2816,
      FfnSpec.act (row x0 r) (fun i j => x1 (ix2 i j)) j * x2 (ix2 j d) := by
  rw [FfnSpec.sum_runs _ (fun c => if h : 256 * c + 256 ≤ 2816 then runAt x0 x1 x2 (256 * c) h (ix2 r d) else 0)
    (fun c hc => by rw [dif_pos (by omega), runAt_apply])]
  unfold hid
  simp only [Finset.sum_range_succ, Finset.sum_range_zero, addf_apply, Ideal.addf_def]
  pointwise

/-- The block a point writes at row `r`, column `d` is the layer on the block's row `r`. -/
theorem out_apply (r : Fin 512) (d : Fin 1024) :
    out0_5 x0 x1 x2 x3 x4 (ix2 r d) = FfnSpec.layer (row x0 r) (fun i j => x1 (ix2 i j)) (fun j d => x2 (ix2 j d))
      (fun k => x3 (ix2 0 k)) (fun k => x4 (ix2 0 k)) d := by
  rw [out_eq, finish_apply]
  simp only [hid_apply]
  rfl

end Cert.FfnIdeal.Block

end
-- ==== Proof.FfnArray.lean ====
/-
  The feed-forward kernel's result array: every entry is the layer of `FfnSpec` on the argument's row. The 32
  grid points take 512 rows each; the weights and the layer norm's parameters reach each point whole.
-/
module

public import proofs.«01_k».proof.Proof.FfnBlock

@[expose] public section

set_option maxRecDepth 16384

noncomputable section

open Idealize.ShloMosaic Idealize.ShloMosaic.TcCoe Idealize.SL.Sem
open Idealize.ShloMosaic.Pipeline (Dat)

namespace Cert.FfnIdeal.Array

open Cert.FfnIdeal Cert.FfnIdeal.Gen

variable (m : (ℓ : Loc nD τ sig) → Buf (Elt Ideal) ℓ) (ρ : Dev nD → PrngReg)

/-- The arguments of device `c`, read as functions. -/
abbrev argX (c : Dev nD) (r : Fin 16384) (k : Fin 1024) : EReal := m ((c : Thread nD τ).loc main_arg0) (ix2 r k)
abbrev argUp (c : Dev nD) (i : Fin 1024) (j : Fin 5632) : EReal := m ((c : Thread nD τ).loc main_arg1) (ix2 i j)
abbrev argDown (c : Dev nD) (j : Fin 2816) (d : Fin 1024) : EReal := m ((c : Thread nD τ).loc main_arg2) (ix2 j d)
abbrev argG (c : Dev nD) (k : Fin 1024) : EReal := m ((c : Thread nD τ).loc main_arg3) (ix1 k)
abbrev argB (c : Dev nD) (k : Fin 1024) : EReal := m ((c : Thread nD τ).loc main_arg4) (ix1 k)

/-- The result array as one function of the arguments. -/
def whole (c : Dev nD) : S16384x1024.Idx → EReal := fun i =>
  FfnSpec.layer (argX m c (i 0)) (argUp m c) (argDown m c) (argG m c) (argB m c) (i 1)

/-- The windows' offsets at point `t`: 512 rows a point for the rows in and out, nothing for the rest. -/
theorem idx_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) :=
  (by decide +kernel : ∀ t : Fin grid0.N, _)

/-- The staged weights are the arguments: the casts on the way in change nothing here. -/
theorem V_v0 (c : Dev nD) : V m c main_v0 = m ((c : Thread nD τ).loc main_arg1) := by
  simp only [V, hostOps0]
  after_results_simp
  rfl
theorem V_v1 (c : Dev nD) : V m c main_v1 = m ((c : Thread nD τ).loc main_arg2) := by
  simp only [V, hostOps0]
  after_results_simp
  rfl
/-- The gain and the offset reach the kernel as one row each. -/
theorem V_v2 (c : Dev nD) (k : Fin 1024) : V m c main_v2 (ix2 0 k) = argG m c k := by
  have h : V m c main_v2 = shapeCast S1x1024 (m ((c : Thread nD τ).loc main_arg3)) shapeCasts_S1024_S1x1024 := by
    simp only [V, hostOps0]
    after_results_simp
    rfl
  rw [h]
  pointwise
theorem V_v3 (c : Dev nD) (k : Fin 1024) : V m c main_v3 (ix2 0 k) = argB m c k := by
  have h : V m c main_v3 = shapeCast S1x1024 (m ((c : Thread nD τ).loc main_arg4)) shapeCasts_S1024_S1x1024 := by
    simp only [V, hostOps0]
    after_results_simp
    rfl
  rw [h]
  pointwise

theorem lt_N (t : Fin cfg0.N) : t.val < 32 := lt_of_lt_of_eq t.isLt N_0

/-- An index of a block, as the array's index under it. -/
theorem blk_x (c : Dev nD) (t : Fin cfg0.N) (r : Fin 512) (k : Fin 1024) :
    iblk m c 0 t (ix2 r k) = argX m c ⟨512 * t.val + r.val, by have := lt_N t; omega⟩ k := by
  have e : iblk m c 0 t (ix2 r k) = V m c main_arg0 (((cfg0.win 0).blk t).view.emb (ix2 r k)) := rfl
  rw [e, V_main_arg0]
  refine congrArg (m ((c : Thread nD τ).loc main_arg0)) (funext fun a => Fin.ext ?_)
  have f := (idx_facts t).1
  match a with
  | ⟨0, _⟩ => show win0_0.index t 0 * 512 + 1 * r.val = 512 * t.val + r.val; omega
  | ⟨1, _⟩ => show win0_0.index t 1 * 1024 + 1 * k.val = k.val; omega

theorem blk_up (c : Dev nD) (t : Fin cfg0.N) (i : Fin 1024) (j : Fin 5632) :
    iblk m c 1 t (ix2 i j) = argUp m c i j := by
  have e : iblk m c 1 t (ix2 i j) = V m c main_v0 (((cfg0.win 1).blk t).view.emb (ix2 i j)) := rfl
  rw [e, V_v0]
  refine congrArg (m ((c : Thread nD τ).loc main_arg1)) (funext fun a => Fin.ext ?_)
  have f := (idx_facts t).2.1
  match a with
  | ⟨0, _⟩ => show win0_1.index t 0 * 1024 + 1 * i.val = i.val; omega
  | ⟨1, _⟩ => show win0_1.index t 1 * 5632 + 1 * j.val = j.val; omega

theorem blk_down (c : Dev nD) (t : Fin cfg0.N) (j : Fin 2816) (d : Fin 1024) :
    iblk m c 2 t (ix2 j d) = argDown m c j d := by
  have e : iblk m c 2 t (ix2 j d) = V m c main_v1 (((cfg0.win 2).blk t).view.emb (ix2 j d)) := rfl
  rw [e, V_v1]
  refine congrArg (m ((c : Thread nD τ).loc main_arg2)) (funext fun a => Fin.ext ?_)
  have f := (idx_facts t).2.2.1
  match a with
  | ⟨0, _⟩ => show win0_2.index t 0 * 2816 + 1 * j.val = j.val; omega
  | ⟨1, _⟩ => show win0_2.index t 1 * 1024 + 1 * d.val = d.val; omega

theorem blk_g (c : Dev nD) (t : Fin cfg0.N) (k : Fin 1024) : iblk m c 3 t (ix2 0 k) = argG m c k := by
  have e : iblk m c 3 t (ix2 0 k) = V m c main_v2 (((cfg0.win 3).blk t).view.emb (ix2 0 k)) := rfl
  rw [e, ← V_v2]
  refine congrArg (V m c main_v2) (funext fun a => Fin.ext ?_)
  have f := (idx_facts t).2.2.2.1
  match a with
  | ⟨0, _⟩ => show win0_3.index t 0 * 1 + 1 * 0 = 0; omega
  | ⟨1, _⟩ => show win0_3.index t 1 * 1024 + 1 * k.val = k.val; omega

theorem blk_b (c : Dev nD) (t : Fin cfg0.N) (k : Fin 1024) : iblk m c 4 t (ix2 0 k) = argB m c k := by
  have e : iblk m c 4 t (ix2 0 k) = V m c main_v3 (((cfg0.win 4).blk t).view.emb (ix2 0 k)) := rfl
  rw [e, ← V_v3]
  refine congrArg (V m c main_v3) (funext fun a => Fin.ext ?_)
  have f := (idx_facts t).2.2.2.2.1
  match a with
  | ⟨0, _⟩ => show win0_4.index t 0 * 1 + 1 * 0 = 0; omega
  | ⟨1, _⟩ => show win0_4.index t 1 * 1024 + 1 * k.val = k.val; omega

/-- What point `t` writes back is block `t` of the whole result. -/
theorem flushed_eq (c : Dev nD) (t : Fin cfg0.N) :
    (dats m 0 c).flushed 5 t = ((cfg0.win 5).blk t).view.read (Elt Ideal) (whole m c) := by
  rw [Value.flushed5]
  have hl := Block.out_apply (iblk m c 0 t) (iblk m c 1 t) (iblk m c 2 t) (iblk m c 3 t) (iblk m c 4 t)
  generalize out0_5 (iblk m c 0 t) (iblk m c 1 t) (iblk m c 2 t) (iblk m c 3 t) (iblk m c 4 t) = X at hl ⊢
  funext j
  obtain ⟨r, d, rfl⟩ : ∃ (r : Fin 512) (d : Fin 1024), j = ix2 r d := ⟨j 0, j 1, eq_ix2 j⟩
  have hr : ((cfg0.win 5).blk t).view.emb (ix2 r d)
      = (ix2 ⟨512 * t.val + r.val, by have := lt_N t; omega⟩ d : S16384x1024.Idx) := by
    refine funext fun a => Fin.ext ?_
    have f := (idx_facts t).2.2.2.2.2
    match a with
    | ⟨0, _⟩ => show win0_5.index t 0 * 512 + 1 * r.val = 512 * t.val + r.val; omega
    | ⟨1, _⟩ => show win0_5.index t 1 * 1024 + 1 * d.val = d.val; omega
  have hc : (cfg0.win 5).cut (grid0.coords t) X (ix2 r d) = X (ix2 r d) := rfl
  have hw : ((cfg0.win 5).blk t).view.read (Elt Ideal) (whole m c) (ix2 r d)
      = whole m c (((cfg0.win 5).blk t).view.emb (ix2 r d)) := rfl
  refine hc.trans (Eq.trans ?_ (hw.trans (congrArg (whole m c) hr)).symm)
  rw [hl]
  have e0 : Block.row (iblk m c 0 t) r = argX m c ⟨512 * t.val + r.val, by have := lt_N t; omega⟩ :=
    funext fun k => blk_x m c t r k
  have e1 : (fun i j => iblk m c 1 t (ix2 i j)) = argUp m c := funext fun i => funext fun j => blk_up m c t i j
  have e2 : (fun j d => iblk m c 2 t (ix2 j d)) = argDown m c := funext fun j => funext fun d => blk_down m c t j d
  have e3 : (fun k => iblk m c 3 t (ix2 0 k)) = argG m c := funext fun k => blk_g m c t k
  have e4 : (fun k => iblk m c 4 t (ix2 0 k)) = argB m c := funext fun k => blk_b m c t k
  rw [e0, e1, e2, e3, e4]
  rfl

/-- An index of the result array is in point `t`'s block exactly when its row is one of the point's 512. -/
theorem mem_blk (t : Fin cfg0.N) (i : S16384x1024.Idx) :
    i ∈ ((cfg0.win 5).blk t).view.set ↔ ∀ a, win0_5.index t a * win0_5.size a ≤ (i a : Nat)
      ∧ (i a : Nat) < win0_5.index t a * win0_5.size a + win0_5.xsize (grid0.coords t) a := by
  show i ∈ ((View.whole main_v4).slice (win0_5.rect t)).set ↔ _
  rw [View.set_slice_whole, Rect.mem_set_unit]

/-- The blocks tile the result. -/
theorem cover (i : S16384x1024.Idx) :
    ∃ t : Fin cfg0.N, (cfg0.win 5).flush t = true ∧ i ∈ ((cfg0.win 5).blk t).view.set := by
  have h0 : (i 0 : Nat) < 16384 := (i 0).isLt
  have h1 : (i 1 : Nat) < 1024 := (i 1).isLt
  have hN : cfg0.N = 32 := N_0
  refine ⟨⟨(i 0 : Nat) / 512, by omega⟩, flush0_5 _, ?_⟩
  rw [mem_blk]
  have f := (idx_facts ⟨(i 0 : Nat) / 512, by omega⟩).2.2.2.2.2
  intro a
  match a with
  | ⟨0, _⟩ =>
    show win0_5.index _ 0 * 512 ≤ (i 0 : Nat) ∧ (i 0 : Nat) < win0_5.index _ 0 * 512 + 512
    rw [f.1]; dsimp only; omega
  | ⟨1, _⟩ =>
    show win0_5.index _ 1 * 1024 ≤ (i 1 : Nat) ∧ (i 1 : Nat) < win0_5.index _ 1 * 1024 + 1024
    rw [f.2]; omega

/-- So the result array is the whole result. -/
theorem final (c : Dev nD) : (dats m 0 c).arrAt 5 cfg0.N = whole m c :=
  (dats m 0 c).arrAt_eq_of_cover 5 (whole m c) (fun t _ => flushed_eq m c t) cover

end Cert.FfnIdeal.Array

end
-- ==== Proof.FfnRefValue.lean ====
/-
  The feed-forward reference's result: every entry is the layer of `FfnSpec` on the argument's row.
-/
module

public import proofs.«01_k».proof.Defs
public import proofs.«01_k».proof.Proof.FfnSpec
public import proofs.«01_k».proof.Proof.Gen.FfnRefIdeal.Read
public import Idealize.ShloMosaic.Lib.Pointwise

@[expose] public section

set_option maxRecDepth 16384

noncomputable section

open Idealize.ShloMosaic Idealize.ShloMosaic.TcCoe Idealize.SL.Sem

namespace Cert.FfnRefIdeal.Row

open Cert.FfnRefIdeal Cert.FfnRefIdeal.Read

variable (x : FVec Ideal S16384x1024 .f32) (w : FVec Ideal S1024x5632 .f32) (wd : FVec Ideal S2816x1024 .f32)
  (g b : FVec Ideal S1024 .f32)

/-- The gated product at row `r`, hidden unit `j`. -/
theorem act_apply (r : Fin 16384) (j : Fin 2816) :
    val_main_v6 (F := Ideal) x w (ix2 r j) = FfnSpec.act (fun k => x (ix2 r k)) (fun i j => w (ix2 i j)) j := by
  simp only [val_main_v6, val_main_v5, val_main_call0_v5, val_main_call0_v4, val_main_call0_cst_0, val_main_call0_v3,
    val_main_call0_v2, val_main_call0_cst, val_main_call0_v1, val_main_call0_v0, val_main_v4, val_main_v3, val_main_v2]
  pointwise [FfnSpec.act, FfnSpec.proj]
  rfl

/-- The scaled row plus half the layer's output, at row `r`, column `d`. -/
theorem hidden_apply (r : Fin 16384) (d : Fin 1024) :
    val_main_v10 (F := Ideal) x w wd (ix2 r d) = FfnSpec.hidden (fun k => x (ix2 r k)) (fun i j => w (ix2 i j))
      (fun j d => wd (ix2 j d)) d := by
  rw [val_main_v10, val_main_v9, val_main_v7, val_main_v8, val_main_cst_0, val_main_v1, val_main_v0, val_main_cst]
  pointwise [FfnSpec.hidden]
  simp only [act_apply]

/-- The reference's result at row `r`, column `d`. -/
theorem out_apply (r : Fin 16384) (d : Fin 1024) :
    val_main_v34 (F := Ideal) x w wd g b (ix2 r d) = FfnSpec.layer (fun k => x (ix2 r k)) (fun i j => w (ix2 i j))
      (fun j d => wd (ix2 j d)) (fun k => g (ix1 k)) (fun k => b (ix1 k)) d := by
  unfold FfnSpec.layer
  rw [← show (fun k => val_main_v10 (F := Ideal) x w wd (ix2 r k)) = _ from funext fun k => hidden_apply x w wd r k]
  simp only [val_main_v34, val_main_v33, val_main_v32, val_main_v31, val_main_v30, val_main_v29, val_main_v28,
    val_main_v27, val_main_v26, val_main_v25, val_main_v24, val_main_v23, val_main_v22, val_main_v21, val_main_v20,
    val_main_v19, val_main_v18, val_main_v17, val_main_v16, val_main_v15, val_main_v14, val_main_v13, val_main_v12,
    val_main_v11, val_main_cst_1, val_main_cst_2, val_main_cst_3, val_main_cst_4, val_main_cst_5]
  generalize val_main_v10 (F := Ideal) x w wd = h
  pointwise [FfnSpec.norm, FfnSpec.mean]

end Cert.FfnRefIdeal.Row

end
-- ==== Proof.FfnClaims.lean ====
/-
  The five claims about the feed-forward layer's call: the three frames, the idealization, and the value claim.
-/
module

public import proofs.«01_k».proof.Proof.FfnArray
public import proofs.«01_k».proof.Proof.FfnRefValue
public import proofs.«01_k».proof.Proof.Gen.Ffn.Frame
public import Idealize.ShloMosaic.Lib.Quiescent

@[expose] public section

noncomputable section

open Idealize.ShloMosaic Idealize.ShloMosaic.TcCoe Idealize.SL.Sem

namespace Cert.FfnClaims

theorem frame_kernel : Cert.quiescent_Ffn := fun m ρ _ => Cert.Ffn.Gen.frame m ρ

theorem frame_ideal : Cert.quiescent_FfnIdeal := fun m ρ _ => Cert.FfnIdeal.Gen.frame m ρ

theorem frame_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem preserves : Cert.preserves_Ffn_FfnIdeal := trivial

/-- On arguments that agree, the reference's result is the kernel's. -/
theorem ref_eq (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ)
    (c : Dev Cert.FfnIdeal.nD)
    (h0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (h1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (h2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) :
    Cert.FfnRefIdeal.Value.res_out0 m' c = Cert.FfnIdeal.Array.whole m c := by
  refine (Cert.FfnRefIdeal.Read.val_main_v34_eq m' c).trans ?_
  rw [h0, h1, h2, h3, h4]
  funext i
  obtain ⟨r, d, rfl⟩ : ∃ (r : Fin 16384) (d : Fin 1024), i = ix2 r d := ⟨i 0, i 1, eq_ix2 i⟩
  exact Cert.FfnRefIdeal.Row.out_apply _ _ _ _ _ r d

theorem algebraic : Cert.algebraic_FfnIdeal_FfnRefIdeal := by
  intro m ρ m' ρ' _ hag
  refine ⟨fun c => Cert.FfnIdeal.Array.whole m c, ?_, ?_⟩
  · exact (θ_run Cert.FfnIdeal.defs _ _).mono (fun _ h c => ⟨(h c).1.trans (Cert.FfnIdeal.Array.final m c), (h c).2⟩)
      (Cert.FfnIdeal.Value.run_blocks (F := Ideal) m ρ)
  · exact (θ_run Cert.FfnRefIdeal.defs _ _).mono (fun _ h c => ⟨(h c).1.trans
      (ref_eq m m' c (hag c).1 (hag c).2.1 (hag c).2.2.1 (hag c).2.2.2.1 (hag c).2.2.2.2), (h c).2⟩)
      (Cert.FfnRefIdeal.Value.run (F := Ideal) m' ρ')

end Cert.FfnClaims

end
-- ==== Proof.AttnCumsum.lean ====
module

public import proofs.«01_k».proof.Defs
public import proofs.«01_k».proof.Proof.Gen.AttnIdeal.Value
public import Idealize.ShloMosaic.Lib.Pipeline.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

/-! The running sums that the first grid point of a (batch, head pair) leaves in the scratch: sixteen
    chunks of 128 lanes, each summed by seven shifted additions and raised by the chunk before. -/

namespace Cert.AttnIdeal.Cumsum

open Cert.AttnIdeal Cert.AttnIdeal.Gen

/-- One shifted addition: every lane takes the lane `d` before it on top, if there is one. -/
def shift (d : BitVec 32) (v : FVec Ideal S2x128 .f32) : FVec Ideal S2x128 .f32 :=
  addf v (select (cmpi .sge (iota .tc S2x128 32 [1] iota_S2x128_d1_w32) (broadcast S2x128 d))
    (dynamicRotate 1 d none v rotates_S2x128_d1) (broadcast S2x128 (Scalar.ofBits .f32 0x00000000#32)))

/-- The running sums within one chunk. -/
def scan (v : FVec Ideal S2x128 .f32) : FVec Ideal S2x128 .f32 :=
  shift 64#32 (shift 32#32 (shift 16#32 (shift 8#32 (shift 4#32 (shift 2#32 (shift 1#32 v))))))

theorem slices_chunk : ∀ k : Fin 16, S2x2048.Slices ![0, 128 * k.val] S2x128 := by decide

/-- Chunk `k` of the running sums. -/
def chunk (x : FVec Ideal S2x2048 .f32) : (k : ℕ) → (hk : k < 16) → FVec Ideal S2x128 .f32
  | 0, hk => addf (scan (extractStridedSlice S2x128 ![0, 128 * 0] x (slices_chunk ⟨0, hk⟩)))
      (broadcastTo S2x128 (broadcast S2x1 (Scalar.ofBits .f32 0x00000000#32)) broadcasts_S2x1_S2x128)
  | k + 1, hk => addf (scan (extractStridedSlice S2x128 ![0, 128 * (k + 1)] x (slices_chunk ⟨k + 1, hk⟩)))
      (broadcastTo S2x128 (extractStridedSlice S2x1 ![0, 127] (chunk x k (by omega)) slices_S2x128_o0_127_S2x1)
        broadcasts_S2x1_S2x128)

/-- All the running sums of the two heads. -/
def sums (x : FVec Ideal S2x2048 .f32) : FVec Ideal S2x2048 .f32 :=
  concatenate S2x2048 1 (List.ofFn fun k : Fin 16 => (⟨S2x128, chunk x k.val k.isLt⟩ : (s : Shape) × (s.Idx → Ideal .f32)))
    concatenates_S2x128_S2x128_S2x128_S2x128_S2x128_S2x128_S2x128_S2x128_S2x128_S2x128_S2x128_S2x128_S2x128_S2x128_S2x128_S2x128_S2x2048_d1

theorem sout_A (c : Dev nD) (i : grid0.Coords) (arg3 : Memref sig .tc .vmem S1x2x2048 .f32) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x128 .bf16) (harg7 : arg7.IsWhole) (arg8 : Memref sig .tc .vmem S2x2048 .f32) (harg8 : arg8.IsWhole) (hc0 : cond0_0 i)
    (x0 : Vec Ideal S1x2x2048 .f32) (x1 : Vec Ideal S256x128 .bf16) (x2 : Vec Ideal S2048x128 .bf16) (x3 : Vec Ideal S2048x128 .bf16) :
    sout0_A_0 c i arg3 harg3 arg4 harg4 arg5 harg5 arg6 harg6 arg7 harg7 arg8 harg8 hc0 x0 x1 x2 x3
      = k0_pay99 (sums (k0_pay2 x0)) := by
  frame_out
  have hz : (![0, 0, 0] : Fin S1x2x2048.rank → Nat) = fun _ => 0 := funext fun a => by fin_cases a <;> rfl
  rw [show View.read (Elt Ideal) arg3.view (harg3.unread x0) = x0 from harg3.read_unread x0]
  rw [View.ld_unit_zero (S := S1x2x2048) hz]
  rfl

theorem shift_apply (d : BitVec 32) (v : FVec Ideal S2x128 .f32) (h : Fin 2) (j : Fin 128) :
    shift d v (ix2 h j) = v (ix2 h j) + Scalar.select (IntOp.cmpi CmpIPredicate.sge (BitVec.ofNat 32 j.val) d)
      (v (ix2 h ⟨(j.val + 128 - d.toNat % 128) % 128, Nat.mod_lt _ (by decide)⟩)) 0 := by
  pointwise [shift]

/-- `v` holds, at each lane of head `h`, the sum of the last `w` values of `f` up to the lane. -/
def Window (v : FVec Ideal S2x128 .f32) (h : Fin 2) (f : ℕ → EReal) (w : ℕ) : Prop :=
  ∀ j : Fin 128, v (ix2 h j) = ∑ k ∈ Finset.range (min w (j.val + 1)), f (j.val - k)

theorem cmp_sge (j w : ℕ) (hj : j < 128) (hw : w < 128) :
    IntOp.cmpi CmpIPredicate.sge (BitVec.ofNat 32 j) (BitVec.ofNat 32 w) = if w ≤ j then 1#1 else 0#1 := by
  have e1 : (BitVec.ofNat 32 j).toNat = j := by rw [BitVec.toNat_ofNat]; omega
  have e2 : (BitVec.ofNat 32 w).toNat = w := by rw [BitVec.toNat_ofNat]; omega
  rw [WordCmp.cmpi_sge_of_lt (by omega) (by omega), e1, e2]
  by_cases h : w ≤ j <;> simp [h]

theorem shift_window (v : FVec Ideal S2x128 .f32) (h : Fin 2) (f : ℕ → EReal) (w : ℕ) (hw : w < 128)
    (H : Window v h f w) : Window (shift (BitVec.ofNat 32 w) v) h f (2 * w) := fun j => by
  rw [shift_apply, cmp_sge _ _ j.isLt hw, H j]
  have hd : (BitVec.ofNat 32 w).toNat = w := by rw [BitVec.toNat_ofNat]; omega
  by_cases hj : w ≤ j.val
  · rw [if_pos hj]
    have hi : (⟨(j.val + 128 - (BitVec.ofNat 32 w).toNat % 128) % 128, Nat.mod_lt _ (by decide)⟩ : Fin 128)
        = ⟨j.val - w, by omega⟩ := Fin.ext (by
      show (j.val + 128 - (BitVec.ofNat 32 w).toNat % 128) % 128 = j.val - w
      rw [hd]; omega)
    rw [hi]
    refine (congrArg (_ + ·) (H ⟨j.val - w, by omega⟩)).trans ?_
    · have e : min (2 * w) (j.val + 1) = w + min w (j.val - w + 1) := by omega
      rw [e, Finset.sum_range_add, min_eq_left (by omega : w ≤ j.val + 1)]
      refine congrArg (_ + ·) (Finset.sum_congr rfl fun k _ => congrArg f ?_)
      show j.val - w - k = _
      omega
  · rw [if_neg hj]
    refine (add_zero _).trans ?_
    rw [show min (2 * w) (j.val + 1) = min w (j.val + 1) by omega]

theorem scan_apply (v : FVec Ideal S2x128 .f32) (h : Fin 2) (f : ℕ → EReal)
    (hf : ∀ j : Fin 128, v (ix2 h j) = f j.val) (j : Fin 128) :
    scan v (ix2 h j) = ∑ k ∈ Finset.range (j.val + 1), f k := by
  have h0 : Window v h f 1 := fun j => by
    rw [hf, min_eq_left (by omega)]
    simp
  have h7 : Window (scan v) h f 128 :=
    shift_window _ h f 64 (by decide) (shift_window _ h f 32 (by decide) (shift_window _ h f 16 (by decide)
      (shift_window _ h f 8 (by decide) (shift_window _ h f 4 (by decide) (shift_window _ h f 2 (by decide)
        (shift_window v h f 1 (by decide) h0))))))
  rw [h7 j, min_eq_right (by omega)]
  exact Finset.sum_range_reflect f (j.val + 1)

/-- The values of head `h`, by their position alone. -/
def at2 (x : FVec Ideal S2x2048 .f32) (h : Fin 2) (n : ℕ) : EReal :=
  x (ix2 h ⟨n % 2048, Nat.mod_lt _ (by decide)⟩)

theorem slice_apply (x : FVec Ideal S2x2048 .f32) (k : ℕ) (hk : k < 16) (h : Fin 2) (j : Fin 128) :
    extractStridedSlice S2x128 ![0, 128 * k] x (slices_chunk ⟨k, hk⟩) (ix2 h j) = at2 x h (128 * k + j.val) := by
  pointwise [at2]
  refine congrArg (fun a => x (ix2 h a)) (Fin.ext ?_)
  show 128 * k + j.val = (128 * k + j.val) % 2048
  omega

theorem chunk_apply (x : FVec Ideal S2x2048 .f32) (h : Fin 2) (k : ℕ) (hk : k < 16) (j : Fin 128) :
    chunk x k hk (ix2 h j) = ∑ n ∈ Finset.range (128 * k + (j.val + 1)), at2 x h n := by
  induction k generalizing j with
  | zero =>
    have e : chunk x 0 hk (ix2 h j)
        = scan (extractStridedSlice S2x128 ![0, 128 * 0] x (slices_chunk ⟨0, hk⟩)) (ix2 h j) := by
      pointwise [chunk]
    rw [e, scan_apply _ h (fun n => at2 x h (128 * 0 + n)) (slice_apply x 0 hk h)]
    simp
  | succ k ih =>
    have e : chunk x (k + 1) hk (ix2 h j)
        = scan (extractStridedSlice S2x128 ![0, 128 * (k + 1)] x (slices_chunk ⟨k + 1, hk⟩)) (ix2 h j)
          + chunk x k (by omega) (ix2 h 127) := by
      pointwise [chunk]
    rw [e, scan_apply _ h (fun n => at2 x h (128 * (k + 1) + n)) (slice_apply x (k + 1) hk h), ih (by omega) 127,
      add_comm, Finset.sum_range_add (at2 x h) (128 * (k + 1)) (j.val + 1)]
    rfl

theorem sums_apply (x : FVec Ideal S2x2048 .f32) (h : Fin 2) (n : Fin 2048) :
    sums x (ix2 h n) = ∑ i ∈ Finset.range (n.val + 1), at2 x h i := by
  have e : sums x (ix2 h n)
      = chunk x (n.val / 128) (by omega) (ix2 h ⟨n.val % 128, Nat.mod_lt _ (by decide)⟩) :=
    concatenate_ofFn_apply (1 : Fin S2x2048.rank) (fun k : Fin 16 => chunk x k.val k.isLt) _ rfl 128 rfl (ix2 h n)
      ⟨n.val / 128, by omega⟩ rfl (ix2 h ⟨n.val % 128, Nat.mod_lt _ (by decide)⟩) rfl
      (fun b hb => match b with
        | ⟨0, _⟩ => rfl
        | ⟨1, _⟩ => absurd rfl hb)
  rw [e, chunk_apply]
  refine congrArg (fun t => ∑ i ∈ Finset.range t, at2 x h i) ?_
  show 128 * (n.val / 128) + (n.val % 128 + 1) = n.val + 1
  omega

/-- What the first grid point leaves in the scratch: the running sums of the heads' values. -/
theorem scratch_apply (x0 : Vec Ideal S1x2x2048 .f32) (h : Fin 2) (n : Fin 2048) :
    k0_pay99 (sums (k0_pay2 x0)) (ix2 h n)
      = ∑ i ∈ Finset.range (n.val + 1), x0 (ix3 0 h ⟨i % 2048, Nat.mod_lt _ (by decide)⟩) := by
  have e : k0_pay99 (sums (k0_pay2 x0)) (ix2 h n) = sums (k0_pay2 x0) (ix2 h n) := by
    pointwise [k0_pay99]
  rw [e, sums_apply]
  refine Finset.sum_congr rfl fun i _ => ?_
  pointwise [at2, k0_pay2]

end Cert.AttnIdeal.Cumsum
-- ==== Proof.AttnOut.lean ====
module

public import proofs.«01_k».proof.Defs
public import proofs.«01_k».proof.Proof.Gen.AttnIdeal.Value
public import Idealize.ShloMosaic.Lib.Pipeline.Value
public import Idealize.ShloMosaic.Lib.Pipeline.ValueKit
public import Idealize.ShloMosaic.Lib.Pipeline.ReadBack
public import Idealize.ShloMosaic.Lib.Pointwise
public import proofs.«01_k».proof.Proof.AttnCumsum

@[expose] public section

set_option maxRecDepth 16384

noncomputable section

open Idealize.ShloMosaic Idealize.ShloMosaic.TcCoe Idealize.SL.Sem

/-! What one grid point stores, as the two heads' block steps: each of the two heads keeps a running
    maximum, a running sum and a running accumulator over the key blocks before the diagonal, then
    takes the diagonal block. -/

namespace Cert.AttnIdeal.Out

open Cert.AttnIdeal Cert.AttnIdeal.Gen

/-- The running maximum after a block of scores `S`. -/
def bmax (S : FVec Ideal S256x256 .f32) (m : FVec Ideal S256x1 .f32) : FVec Ideal S256x1 .f32 :=
  maximumf m (shapeCast S256x1 (multiReduction .maximumf [1] S256 S 0xFF800000#32 reduces_S256x256_S256 (.inl rfl) rfl)
    shapeCasts_S256_S256x1)

/-- The weights of a block. -/
def wts (S : FVec Ideal S256x256 .f32) (m : FVec Ideal S256x1 .f32) : FVec Ideal S256x256 .f32 :=
  exp (subf S (broadcastTo S256x256 (bmax S m) broadcasts_S256x1_S256x256))

/-- What the earlier sums are multiplied by. -/
def corr (S : FVec Ideal S256x256 .f32) (m : FVec Ideal S256x1 .f32) : FVec Ideal S256x1 .f32 :=
  exp (subf m (bmax S m))

/-- The running sum after a block. -/
def bsum (S : FVec Ideal S256x256 .f32) (m l : FVec Ideal S256x1 .f32) : FVec Ideal S256x1 .f32 :=
  addf (mulf l (corr S m))
    (shapeCast S256x1 (multiReduction .add [1] S256 (wts S m) 0x00000000#32 reduces_S256x256_S256 (.inl rfl) rfl)
      shapeCasts_S256_S256x1)

/-- The running accumulator after a block with values `v`. -/
def bacc (S : FVec Ideal S256x256 .f32) (m : FVec Ideal S256x1 .f32) (a : FVec Ideal S256x128 .f32)
    (v : FVec Ideal S256x128 .bf16) : FVec Ideal S256x128 .f32 :=
  addf (mulf a (broadcastTo S256x128 (corr S m) broadcasts_S256x1_S256x128))
    (matmul dot_S256x256_S256x128_S256x128_1_0_0_1_n_n none (truncf .bf16 (wts S m) bitsLt_bf16_f32) v
      (constant S256x128 .f32 0x00000000#32))

/-- The loop's carried value: the two heads' maximum, sum and accumulator. -/
abbrev Carry : Type :=
  FVec Ideal S256x1 .f32 × FVec Ideal S256x1 .f32 × FVec Ideal S256x128 .f32 × FVec Ideal S256x1 .f32
    × FVec Ideal S256x1 .f32 × FVec Ideal S256x128 .f32

/-- The carried value after a block whose scores are `S0` and `S1`. -/
def after (S0 S1 : FVec Ideal S256x256 .f32) (v : FVec Ideal S256x128 .bf16) (s : Carry) : Carry :=
  (bmax S0 s.1, bsum S0 s.1 s.2.1, bacc S0 s.1 s.2.2.1 v,
    bmax S1 s.2.2.2.1, bsum S1 s.2.2.2.1 s.2.2.2.2.1, bacc S1 s.2.2.2.1 s.2.2.2.2.2 v)

/-- The carried value before the first block. -/
def start : Carry := (k0_pay105, k0_pay106, k0_pay107, k0_pay108, k0_pay109, k0_pay110)

/-- One trip of the loop over the key blocks before the diagonal. -/
theorem trip_eq (c : Dev nD) (i : grid0.Coords) (arg3 : Memref sig .tc .vmem S1x2x2048 .f32) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x128 .bf16) (harg7 : arg7.IsWhole) (arg8 : Memref sig .tc .vmem S2x2048 .f32) (harg8 : arg8.IsWhole)
    (q : Vec Ideal S256x128 .bf16) (b : Vec Ideal S2x128 .f32) (x2 x3 : Vec Ideal S2048x128 .bf16) (xs : Vec Ideal S2x2048 .f32)
    (k : Fin (k0_t1_loop i).trips) (s : Carry) :
    tripR_k0_t1 (F := Ideal) Variants.none c none i arg3 harg3 arg4 harg4 arg5 harg5 arg6 harg6 arg7 harg7 arg8 harg8 q b
        (harg5.unread x2) (harg6.unread x3) (harg8.unread xs) k s
      = after
          (k0_pay74 (k0_pay102 q) (k0_pay104 b) (View.ld x2 (Rect.unit (k0_off2 i k) S256x128.size (k0_off2_inb i k)))
            (View.ld xs (Rect.unit (k0_off3 i k) S2x256.size (k0_off3_inb i k))))
          (k0_pay80 (k0_pay103 q) (k0_pay104 b) (View.ld x2 (Rect.unit (k0_off2 i k) S256x128.size (k0_off2_inb i k)))
            (View.ld xs (Rect.unit (k0_off3 i k) S2x256.size (k0_off3_inb i k))))
          (View.ld x3 (Rect.unit (k0_off2 i k) S256x128.size (k0_off2_inb i k))) s := by
  unfold tripR_k0_t1 trip_k0_t1
  frame_out
  rfl

/-- The running sums' columns a grid point's base is taken from. -/
abbrev baseBlk (i : grid0.Coords) (xs : Vec Ideal S2x2048 .f32) : Vec Ideal S2x128 .f32 :=
  View.ld xs (Rect.unit (k0_off1 i) S2x128.size (k0_off1_inb i))

/-- The block stored after the diagonal, from the carried value before it. -/
def fin (i : grid0.Coords) (q : Vec Ideal S256x128 .bf16) (x2 x3 : Vec Ideal S2048x128 .bf16)
    (xs : Vec Ideal S2x2048 .f32) (s : Carry) : FVec Ideal S256x128 .bf16 :=
  let b : FVec Ideal S2x1 .f32 := k0_pay104 (baseBlk i xs)
  let K : Vec Ideal S256x128 .bf16 := View.ld x2 (Rect.unit (k0_off6 i) S256x128.size (k0_off6_inb i))
  let C : Vec Ideal S2x256 .f32 := View.ld xs (Rect.unit (k0_off7 i) S2x256.size (k0_off7_inb i))
  let e := after (k0_pay114 (k0_pay102 q) b K C) (k0_pay120 (k0_pay103 q) b K C)
    (View.ld x3 (Rect.unit (k0_off6 i) S256x128.size (k0_off6_inb i))) s
  truncf .bf16 (select k0_pay100
    (mulf e.2.2.1 (broadcastTo S256x128 (divf (broadcast S256x1 (Scalar.ofBits .f32 0x3F800000#32)) e.2.1)
      broadcasts_S256x1_S256x128))
    (mulf e.2.2.2.2.2 (broadcastTo S256x128 (divf (broadcast S256x1 (Scalar.ofBits .f32 0x3F800000#32)) e.2.2.2.2.1)
      broadcasts_S256x1_S256x128))) bitsLt_bf16_f32

theorem fin_eq (i : grid0.Coords) (q : Vec Ideal S256x128 .bf16) (x2 x3 : Vec Ideal S2048x128 .bf16)
    (xs : Vec Ideal S2x2048 .f32) (s : Carry) :
    (let b : FVec Ideal S2x1 .f32 := k0_pay104 (baseBlk i xs)
     let K : Vec Ideal S256x128 .bf16 := View.ld x2 (Rect.unit (k0_off6 i) S256x128.size (k0_off6_inb i))
     let V : Vec Ideal S256x128 .bf16 := View.ld x3 (Rect.unit (k0_off6 i) S256x128.size (k0_off6_inb i))
     let C : Vec Ideal S2x256 .f32 := View.ld xs (Rect.unit (k0_off7 i) S2x256.size (k0_off7_inb i))
     k0_pay1 k0_pay100 s.2.2.2.2.2 V (k0_pay118 (k0_pay102 q) b s.1 s.2.1 K C)
       (k0_pay119 (k0_pay102 q) b s.1 s.2.2.1 K V C) (k0_pay122 (k0_pay103 q) b s.2.2.2.1 K C)
       (k0_pay123 (k0_pay103 q) b s.2.2.2.1 K C) (k0_pay124 (k0_pay103 q) b s.2.2.2.1 s.2.2.2.2.1 K C))
      = fin i q x2 x3 xs s := rfl

theorem out_B (c : Dev nD) (i : grid0.Coords) (arg3 : Memref sig .tc .vmem S1x2x2048 .f32) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x128 .bf16) (harg7 : arg7.IsWhole) (arg8 : Memref sig .tc .vmem S2x2048 .f32) (harg8 : arg8.IsWhole)
    (hc0 : ¬cond0_0 i) (x0 : Vec Ideal S1x2x2048 .f32) (x1 : Vec Ideal S256x128 .bf16) (x2 x3 : Vec Ideal S2048x128 .bf16)
    (xs : Vec Ideal S2x2048 .f32) :
    out0_B_4 c i arg3 harg3 arg4 harg4 arg5 harg5 arg6 harg6 arg7 harg7 arg8 harg8 hc0 x0 x1 x2 x3 xs
      = fin i x1 x2 x3 xs (st_k0_t1 (F := Ideal) Variants.none c none i arg3 harg3 arg4 harg4 arg5 harg5 arg6 harg6 arg7 harg7 arg8 harg8 x1
          (baseBlk i xs)
          (harg5.unread x2) (harg6.unread x3) (harg8.unread xs) start (k0_t1_loop i).trips) := by
  have ht : (k0_t2_loop i).trips = 0 := Nat.le_zero.mp (k0_t2_abs i).2.1
  frame_out
  rw [show Scf.trips
                    (Scalar.addi (0#32)
                      (Scalar.muli (Scalar.divsi (Scalar.subi (BitVec.ofNat 32 ↑(i 2)) 0#32) 1#32) 1#32))
                    (Scalar.addi (0#32) (Scalar.subi (BitVec.ofNat 32 ↑(i 2)) 0#32)) 1#32 = 0 from ht]
  simp only [st_k0_t2_zero]
  exact fin_eq i x1 x2 x3 xs _

/-- A scratch stored whole holds what was stored. -/
theorem writes_eq_unread (arg8 : Memref sig .tc .vmem S2x2048 .f32) (harg8 : arg8.IsWhole) (P : Vec Ideal S2x2048 .f32) :
    arg8.view.writes (Elt Ideal) arg8.view.junk [⟨Rect.unit ![0, 0] ![2, 2048] inb_S2x2048_S2x2048_0_0, P⟩]
      = harg8.unread P := by
  have hz : (![0, 0] : Fin S2x2048.rank → Nat) = fun _ => 0 := funext fun a => by fin_cases a <;> rfl
  refine harg8.read_bijective.1 ?_
  rw [harg8.read_unread, View.read_writes_junk_eq_canon]
  exact View.canon_unit_zero (S := S2x2048) hz _ P

theorem out_A (c : Dev nD) (i : grid0.Coords) (arg3 : Memref sig .tc .vmem S1x2x2048 .f32) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x128 .bf16) (harg7 : arg7.IsWhole) (arg8 : Memref sig .tc .vmem S2x2048 .f32) (harg8 : arg8.IsWhole)
    (hc0 : cond0_0 i) (x0 : Vec Ideal S1x2x2048 .f32) (x1 : Vec Ideal S256x128 .bf16) (x2 x3 : Vec Ideal S2048x128 .bf16) :
    out0_A_4 c i arg3 harg3 arg4 harg4 arg5 harg5 arg6 harg6 arg7 harg7 arg8 harg8 hc0 x0 x1 x2 x3
      = fin i x1 x2 x3 (k0_pay99 (Cumsum.sums (k0_pay2 x0)))
         (st_k0_t1 (F := Ideal) Variants.none c none i arg3 harg3 arg4 harg4 arg5 harg5 arg6 harg6 arg7 harg7 arg8 harg8 x1
          (baseBlk i (k0_pay99 (Cumsum.sums (k0_pay2 x0))))
          (harg5.unread x2) (harg6.unread x3) (harg8.unread (k0_pay99 (Cumsum.sums (k0_pay2 x0)))) start (k0_t1_loop i).trips) := by
  have ht : (k0_t2_loop i).trips = 0 := Nat.le_zero.mp (k0_t2_abs i).2.1
  obtain ⟨P, hP⟩ : ∃ P, P = k0_pay99 (Cumsum.sums (k0_pay2 x0)) := ⟨_, rfl⟩
  have aux : ∀ x, x = Cumsum.sums (k0_pay2 x0) → k0_pay99 x = P := fun x hx => by rw [hP, hx]
  rw [← hP]
  frame_out
  rw [aux]
  · rw [show Scf.trips
                    (Scalar.addi (0#32)
                      (Scalar.muli (Scalar.divsi (Scalar.subi (BitVec.ofNat 32 ↑(i 2)) 0#32) 1#32) 1#32))
                    (Scalar.addi (0#32) (Scalar.subi (BitVec.ofNat 32 ↑(i 2)) 0#32)) 1#32 = 0 from ht]
    simp only [st_k0_t2_zero]
    rw [writes_eq_unread arg8 harg8 P]
    exact fin_eq i x1 x2 x3 P _
  · have hz : (![0, 0, 0] : Fin S1x2x2048.rank → Nat) = fun _ => 0 := funext fun a => by fin_cases a <;> rfl
    rw [show View.read (Elt Ideal) arg3.view (harg3.unread x0) = x0 from harg3.read_unread x0]
    rw [View.ld_unit_zero (S := S1x2x2048) hz]
    rfl

end Cert.AttnIdeal.Out
-- ==== Proof.AttnSpec.lean ====
module

public import Idealize.ShloMosaic.PureOps.Ideal

@[expose] public section

noncomputable section

open Idealize.ShloMosaic

/-! The arithmetic of a softmax taken in blocks.  A row's weighted sum is kept relative to a running
    maximum `m`; moving to another maximum multiplies it by `exp (m - m')`.  At the end the quotient
    by the row's total does not depend on the maximum, nor on a constant added to every score. -/

namespace Cert.AttnSpec

/-- The sum of the values `v` weighted by `exp (s k - m)`, over the first `n` keys. -/
def vsum (s v : ℕ → EReal) (m : EReal) (n : ℕ) : EReal :=
  ∑ k ∈ Finset.range n, Ideal.exp (s k - m) * v k

theorem sum_mul_coe {ι : Type*} (S : Finset ι) (f : ι → EReal) (r : ℝ) (hr : 0 ≤ r) :
    (∑ k ∈ S, f k) * (r : EReal) = ∑ k ∈ S, f k * (r : EReal) := by
  classical
  induction S using Finset.induction_on with
  | empty => simp
  | insert a S ha ih =>
    rw [Finset.sum_insert ha, Finset.sum_insert ha, ← ih]
    exact EReal.right_distrib_of_nonneg_of_ne_top (by exact_mod_cast hr) (EReal.coe_ne_top r) _ _

theorem coe_sum {ι : Type*} (S : Finset ι) (f : ι → ℝ) :
    ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

theorem exp_real (x y : ℝ) : Ideal.exp ((x : EReal) - (y : EReal)) = ((Real.exp (x - y) : ℝ) : EReal) := by
  rw [← EReal.coe_sub, Ideal.exp_coe]

theorem exp_bot_sub (y : EReal) : Ideal.exp (⊥ - y) = 0 := by
  rw [EReal.bot_sub, Ideal.exp_bot]

theorem exp_shift (x : EReal) (hx : x ≠ ⊤) (m m' : ℝ) :
    Ideal.exp (x - m) * Ideal.exp ((m : EReal) - m') = Ideal.exp (x - m') := by
  induction x using EReal.rec with
  | bot => rw [exp_bot_sub, exp_bot_sub, zero_mul]
  | top => exact absurd rfl hx
  | coe x =>
    rw [exp_real, exp_real, exp_real, ← EReal.coe_mul, ← Real.exp_add]
    congr 2; ring

theorem vsum_rescale (s v : ℕ → EReal) (m m' : ℝ) (n : ℕ) (hs : ∀ k, k < n → s k ≠ ⊤) :
    vsum s v m n * Ideal.exp ((m : EReal) - m') = vsum s v m' n := by
  unfold vsum
  rw [exp_real, sum_mul_coe _ _ _ (Real.exp_pos _).le]
  refine Finset.sum_congr rfl fun k hk => ?_
  rw [mul_right_comm, ← exp_real, exp_shift _ (hs k (Finset.mem_range.mp hk))]

/-- One block of `b` more keys under a new maximum `m'`, read off the sums over the first `n`. -/
theorem vsum_step (s v : ℕ → EReal) (m : EReal) (m' : ℝ) (n b : ℕ)
    (hm : n = 0 ∧ m = ⊥ ∨ ∃ x : ℝ, m = x) (hs : ∀ k, k < n → s k ≠ ⊤) :
    vsum s v m n * Ideal.exp (m - m')
        + ∑ j : Fin b, Ideal.exp (s (n + j.val) - m') * v (n + j.val)
      = vsum s v m' (n + b) := by
  have h1 : vsum s v m n * Ideal.exp (m - m') = vsum s v m' n := by
    rcases hm with ⟨rfl, _⟩ | ⟨x, rfl⟩
    · simp [vsum]
    · exact vsum_rescale s v x m' n hs
  rw [h1]
  unfold vsum
  rw [Finset.sum_range_add, Finset.sum_range (fun j => Ideal.exp (s (n + j) - m') * v (n + j))]

/-- A maximum taken over a block with no `⊤` and at least one real is real, whatever real or `⊥` it
    is joined with. -/
theorem max_fold_real {ι : Type*} [Fintype ι] (m : EReal) (f : ι → EReal) (hm : m ≠ ⊤)
    (hf : ∀ j, f j ≠ ⊤) (j : ι) (hj : f j ≠ ⊥) :
    ∃ x : ℝ, max m (Finset.univ.fold max ⊥ f) = x := by
  classical
  have htop : ∀ S : Finset ι, S.fold max ⊥ f ≠ ⊤ := fun S => by
    induction S using Finset.induction_on with
    | empty => simp
    | insert a S ha ih =>
      rw [Finset.fold_insert ha]
      exact fun h => (max_eq_top.mp h).elim (hf a) ih
  have hle : f j ≤ Finset.univ.fold max ⊥ f :=
    Finset.le_fold_max (s := Finset.univ) (b := ⊥) (f := f) (f j) |>.mpr
      (.inr ⟨j, Finset.mem_univ j, le_rfl⟩)
  have h1 : max m (Finset.univ.fold max ⊥ f) ≠ ⊤ :=
    fun h => (max_eq_top.mp h).elim hm (htop _)
  have h2 : max m (Finset.univ.fold max ⊥ f) ≠ ⊥ := fun h =>
    hj (le_bot_iff.mp (hle.trans ((le_max_right m _).trans h.le)))
  exact ⟨_, (EReal.coe_toReal h1 h2).symm⟩

/-- The scores of one row: real up to the row's own position `q`, `⊥` after it. -/
def masked (q : ℕ) (σ : ℕ → ℝ) (k : ℕ) : EReal := if k ≤ q then (σ k : EReal) else ⊥

theorem masked_ne_top (q : ℕ) (σ : ℕ → ℝ) (k : ℕ) : masked q σ k ≠ ⊤ := by
  unfold masked; split
  · exact EReal.coe_ne_top _
  · exact bot_ne_top

theorem masked_ne_bot (q : ℕ) (σ : ℕ → ℝ) (k : ℕ) (h : k ≤ q) : masked q σ k ≠ ⊥ := by
  unfold masked; rw [if_pos h]; exact EReal.coe_ne_bot _

theorem exp_masked (q : ℕ) (σ : ℕ → ℝ) (m : ℝ) (k : ℕ) :
    Ideal.exp (masked q σ k - m) = ((if k ≤ q then Real.exp (σ k - m) else 0 : ℝ) : EReal) := by
  unfold masked; split
  · exact exp_real _ _
  · rw [exp_bot_sub]; rfl

theorem sum_cut {α : Type*} [AddCommMonoid α] (f : ℕ → α) (q n : ℕ) (h : q < n)
    (hf : ∀ k, q < k → f k = 0) :
    ∑ k ∈ Finset.range n, f k = ∑ k ∈ Finset.range (q + 1), f k := by
  symm
  refine Finset.sum_subset (fun k hk => ?_) (fun k _ hk => hf k ?_)
  · exact Finset.mem_range.mpr (lt_of_lt_of_le (Finset.mem_range.mp hk) h)
  · rw [Finset.mem_range] at hk; omega

/-- The sums over any number of keys beyond the row's position, divided, are the softmax of the
    scores shifted by any constant `δ`, whatever reals the two maxima are. -/
theorem vsum_div (q n N : ℕ) (hn : q < n) (hN : q < N) (σ : ℕ → ℝ) (δ m M : ℝ) (v : ℕ → EReal) :
    vsum (masked q σ) v m n * Ideal.div 1 (vsum (masked q σ) (fun _ => 1) m n)
      = ∑ k ∈ Finset.range N, v k * Ideal.div (Ideal.exp (masked q (fun k => σ k + δ) k - M))
          (∑ j ∈ Finset.range N, Ideal.exp (masked q (fun k => σ k + δ) j - M)) := by
  obtain ⟨a, ha0⟩ : ∃ a : ℕ → ℝ, ∀ k, a k = if k ≤ q then Real.exp (σ k - m) else 0 := ⟨_, fun _ => rfl⟩
  have hτ : 0 < Real.exp (m + δ - M) := Real.exp_pos _
  have hb : ∀ k, Ideal.exp (masked q (fun k => σ k + δ) k - M)
      = ((a k * Real.exp (m + δ - M) : ℝ) : EReal) := fun k => by
    rw [exp_masked, ha0]
    congr 1
    split
    · rw [← Real.exp_add]; congr 1; ring
    · rw [zero_mul]
  have ha : ∀ k, Ideal.exp (masked q σ k - m) = (a k : EReal) := fun k => by rw [exp_masked, ha0]
  have hz : ∀ k, q < k → a k = 0 := fun k hk => by rw [ha0]; exact if_neg (by omega)
  have hA : 0 < ∑ k ∈ Finset.range (q + 1), a k := by
    refine Finset.sum_pos (fun k hk => ?_) ⟨0, by simp⟩
    rw [ha0, if_pos (by rw [Finset.mem_range] at hk; omega)]
    exact Real.exp_pos _
  unfold vsum
  simp only [ha, hb, mul_one]
  generalize Real.exp (m + δ - M) = τ at hτ
  rw [sum_cut (fun k => (a k : EReal) * v k) q n hn (fun k hk => by simp [hz k hk]),
    sum_cut (fun k => (a k : EReal)) q n hn (fun k hk => by simp [hz k hk]),
    sum_cut (fun j => ((a j * τ : ℝ) : EReal)) q N hN (fun k hk => by simp [hz k hk]),
    ← coe_sum, ← coe_sum, ← Finset.sum_mul]
  have hA' : (∑ k ∈ Finset.range (q + 1), a k) * τ ≠ 0 := (mul_pos hA hτ).ne'
  simp only [Ideal.div_coe hA.ne', Ideal.div_coe hA', one_mul]
  rw [sum_cut _ q N hN (fun k hk => by simp [hz k hk]), sum_mul_coe _ _ _ (one_div_pos.mpr hA).le]
  refine Finset.sum_congr rfl fun k _ => ?_
  rw [mul_right_comm, ← EReal.coe_mul, ← EReal.coe_mul, mul_comm (v k)]
  congr 2
  field_simp

end Cert.AttnSpec
-- ==== Proof.AttnBlock.lean ====
module

public import proofs.«01_k».proof.Defs
public import proofs.«01_k».proof.Proof.Gen.AttnIdeal.Value
public import Idealize.ShloMosaic.Lib.Pipeline.Value
public import Idealize.ShloMosaic.Lib.Pipeline.ValueKit
public import Idealize.ShloMosaic.Lib.Pipeline.ReadBack
public import Idealize.ShloMosaic.Lib.Pointwise
public import proofs.«01_k».proof.Proof.AttnOut
public import proofs.«01_k».proof.Proof.AttnSpec

@[expose] public section

set_option maxRecDepth 16384

noncomputable section

open Idealize.ShloMosaic Idealize.ShloMosaic.TcCoe Idealize.SL.Sem

/-! The value of one stored block: every row of every head is the softmax of its scores, up to the
    row's own position, applied to the values. -/

namespace Cert.AttnIdeal.Block

open Cert.AttnIdeal Cert.AttnIdeal.Gen Cert.AttnIdeal.Out Cert.AttnSpec

/-- Lane `e` of head `h` in a pair's 128 lanes. -/
def lane (h : Fin 2) (e : Fin 64) : Fin 128 := ⟨64 * h.val + e.val, by omega⟩

theorem cmp_lane (x : ℕ) (hx : x < 128) :
    IntOp.cmpi CmpIPredicate.slt (BitVec.ofNat 32 x) 64#32 = if x < 64 then 1#1 else 0#1 := by
  have e1 : (BitVec.ofNat 32 x).toNat = x := by rw [BitVec.toNat_ofNat]; omega
  rw [WordCmp.cmpi_slt_of_lt (by omega) (by decide), e1]
  by_cases h : x < 64 <;> simp [h]

theorem cmp_key (j r : Fin 256) :
    IntOp.cmpi CmpIPredicate.sle (BitVec.ofNat 32 j.val) (BitVec.ofNat 32 r.val) = if j.val ≤ r.val then 1#1 else 0#1 := by
  have e1 : (BitVec.ofNat 32 j.val).toNat = j.val := by rw [BitVec.toNat_ofNat]; omega
  have e2 : (BitVec.ofNat 32 r.val).toNat = r.val := by rw [BitVec.toNat_ofNat]; omega
  rw [WordCmp.cmpi_sle_of_lt (by omega) (by omega), e1, e2]
  by_cases h : j.val ≤ r.val <;> simp [h]

/-- The lanes of head 0 alone. -/
theorem sum_lane0 (f : Fin 128 → EReal) :
    ∑ x : Fin 128, Scalar.select (IntOp.cmpi CmpIPredicate.slt (BitVec.ofNat 32 x.val) 64#32) (f x) 0
      = ∑ e : Fin 64, f (lane 0 e) := by
  refine (Fin.sum_univ_add (a := 64) (b := 64) _).trans ?_
  refine (congrArg₂ (· + ·) (Finset.sum_congr rfl fun e _ => ?_)
    (Finset.sum_eq_zero fun e _ => ?_)).trans (add_zero _)
  · rw [cmp_lane _ (Fin.castAdd 64 e).isLt, if_pos (show (Fin.castAdd 64 e).val < 64 from e.isLt)]
    exact congrArg f (Fin.ext (show e.val = 64 * 0 + e.val by omega))
  · rw [cmp_lane _ (Fin.natAdd 64 e).isLt, if_neg (show ¬(Fin.natAdd 64 e).val < 64 by show ¬64 + e.val < 64; omega)]
    rfl

/-- The lanes of head 1 alone. -/
theorem sum_lane1 (f : Fin 128 → EReal) :
    ∑ x : Fin 128, Scalar.select (IntOp.cmpi CmpIPredicate.slt (BitVec.ofNat 32 x.val) 64#32) 0 (f x)
      = ∑ e : Fin 64, f (lane 1 e) := by
  refine (Fin.sum_univ_add (a := 64) (b := 64) _).trans ?_
  refine (congrArg₂ (· + ·) (Finset.sum_eq_zero fun e _ => ?_)
    (Finset.sum_congr rfl fun e _ => ?_)).trans (zero_add _)
  · rw [cmp_lane _ (Fin.castAdd 64 e).isLt, if_pos (show (Fin.castAdd 64 e).val < 64 from e.isLt)]
    rfl
  · rw [cmp_lane _ (Fin.natAdd 64 e).isLt, if_neg (show ¬(Fin.natAdd 64 e).val < 64 by show ¬64 + e.val < 64; omega)]
    exact congrArg f (Fin.ext (show 64 + e.val = 64 * 1 + e.val by omega))

/-- One score of head `h`: the product of a query and a key over the head's lanes, and the decay. -/
def score (h : Fin 2) (q K : Vec Ideal S256x128 .bf16) (b : Vec Ideal S2x128 .f32) (C : Vec Ideal S2x256 .f32)
    (r j : Fin 256) : EReal :=
  ∑ e : Fin 64, q (ix2 r (lane h e)) * K (ix2 j (lane h e)) + (b (ix2 h 0) - C (ix2 h j))

theorem score0 (q K : Vec Ideal S256x128 .bf16) (b : Vec Ideal S2x128 .f32) (C : Vec Ideal S2x256 .f32) (r j : Fin 256) :
    k0_pay74 (k0_pay102 q) (k0_pay104 b) K C (ix2 r j) = score 0 q K b C r j := by
  pointwise [k0_pay74, k0_pay102, k0_pay104, k0_pay73, k0_pay100, k0_pay101]
  exact congrArg (· + _) (sum_lane0 fun x => q (ix2 r x) * K (ix2 j x))

theorem score1 (q K : Vec Ideal S256x128 .bf16) (b : Vec Ideal S2x128 .f32) (C : Vec Ideal S2x256 .f32) (r j : Fin 256) :
    k0_pay80 (k0_pay103 q) (k0_pay104 b) K C (ix2 r j) = score 1 q K b C r j := by
  pointwise [k0_pay80, k0_pay103, k0_pay104, k0_pay73, k0_pay100, k0_pay101]
  exact congrArg (· + _) (sum_lane1 fun x => q (ix2 r x) * K (ix2 j x))

theorem mask_bot : (Named.named κ "mask" 4048155338#32 : Ideal .f32) = ⊥ :=
  IdealRules.named_const.ideal_named_scalar _ _ _ _ rfl

theorem diag0 (q K : Vec Ideal S256x128 .bf16) (b : Vec Ideal S2x128 .f32) (C : Vec Ideal S2x256 .f32) (r j : Fin 256) :
    k0_pay114 (k0_pay102 q) (k0_pay104 b) K C (ix2 r j) = if j.val ≤ r.val then score 0 q K b C r j else ⊥ := by
  pointwise [k0_pay114, k0_pay102, k0_pay104, k0_pay113, k0_pay100, k0_pay101]
  rw [sum_lane0 fun x => q (ix2 r x) * K (ix2 j x), cmp_key, mask_bot]
  by_cases h : j.val ≤ r.val
  · rw [if_pos h, if_pos h]; rfl
  · rw [if_neg h, if_neg h]; rfl

theorem diag1 (q K : Vec Ideal S256x128 .bf16) (b : Vec Ideal S2x128 .f32) (C : Vec Ideal S2x256 .f32) (r j : Fin 256) :
    k0_pay120 (k0_pay103 q) (k0_pay104 b) K C (ix2 r j) = if j.val ≤ r.val then score 1 q K b C r j else ⊥ := by
  pointwise [k0_pay120, k0_pay103, k0_pay104, k0_pay113, k0_pay100, k0_pay101]
  rw [sum_lane1 fun x => q (ix2 r x) * K (ix2 j x), cmp_key, mask_bot]
  by_cases h : j.val ≤ r.val
  · rw [if_pos h, if_pos h]; rfl
  · rw [if_neg h, if_neg h]; rfl

/-- What row `r` of one head carries after the first `n` keys: the sum of the weights and of the
    weighted values, relative to a maximum that is real once there is a key. -/
structure Row (s : ℕ → EReal) (v : Fin 128 → ℕ → EReal) (r : Fin 256) (n : ℕ) (m l : FVec Ideal S256x1 .f32)
    (a : FVec Ideal S256x128 .f32) : Prop where
  max : n = 0 ∧ m (ix2 r 0) = ⊥ ∨ ∃ x : ℝ, m (ix2 r 0) = x
  sum : l (ix2 r 0) = vsum s (fun _ => 1) (m (ix2 r 0)) n
  acc : ∀ d, a (ix2 r d) = vsum s (v d) (m (ix2 r 0)) n

theorem bmax_apply (S : FVec Ideal S256x256 .f32) (m : FVec Ideal S256x1 .f32) (r : Fin 256) :
    bmax S m (ix2 r 0) = max (m (ix2 r 0)) (Finset.univ.fold max ⊥ fun x => S (ix2 r x)) := by
  pointwise [bmax]
  rw [show Ideal.ofBits FTy.f32 4286578688#32 = ⊥ from rfl]

theorem Row.step {s : ℕ → EReal} {v : Fin 128 → ℕ → EReal} {r : Fin 256} {n : ℕ} {m l : FVec Ideal S256x1 .f32}
    {a : FVec Ideal S256x128 .f32} (H : Row s v r n m l a) (S : FVec Ideal S256x256 .f32) (V : FVec Ideal S256x128 .bf16)
    (hS : ∀ j, S (ix2 r j) = s (n + j.val)) (hV : ∀ j d, V (ix2 j d) = v d (n + j.val))
    (hs : ∀ k, s k ≠ ⊤) (hn : s n ≠ ⊥) :
    Row s v r (n + 256) (bmax S m) (bsum S m l) (bacc S m a V) := by
  have hm : m (ix2 r 0) ≠ ⊤ := by
    rcases H.max with ⟨_, h⟩ | ⟨x, h⟩
    · rw [h]; exact bot_ne_top
    · rw [h]; exact EReal.coe_ne_top x
  obtain ⟨x, hx⟩ : ∃ x : ℝ, bmax S m (ix2 r 0) = x := by
    rw [bmax_apply]
    refine max_fold_real _ _ hm (fun j => ?_) 0 ?_
    · rw [hS]; exact hs _
    · rw [hS]; exact hn
  refine ⟨.inr ⟨x, hx⟩, ?_, fun d => ?_⟩
  · have e : bsum S m l (ix2 r 0) = l (ix2 r 0) * Ideal.exp (m (ix2 r 0) - bmax S m (ix2 r 0))
        + ∑ j, Ideal.exp (S (ix2 r j) - bmax S m (ix2 r 0)) := by
      pointwise [bsum, corr, wts]
    rw [e, hx, H.sum, ← vsum_step s (fun _ => 1) _ x n 256 H.max (fun k _ => hs k)]
    simp only [hS, mul_one]
  · have e : bacc S m a V (ix2 r d) = a (ix2 r d) * Ideal.exp (m (ix2 r 0) - bmax S m (ix2 r 0))
        + ∑ j, Ideal.exp (S (ix2 r j) - bmax S m (ix2 r 0)) * V (ix2 j d) := by
      pointwise [bacc, corr, wts]
    rw [e, hx, H.acc, ← vsum_step s (v d) _ x n 256 H.max (fun k _ => hs k)]
    simp only [hS, hV]

theorem trips_eq : ∀ i : grid0.Coords, (k0_t1_loop i).trips = (i 2).val := by
  intro i
  have key : ∀ t : Fin 8, Scf.trips (0#32)
      (Scalar.addi (0#32) (Scalar.muli (Scalar.divsi (Scalar.subi (BitVec.ofNat 32 t.val) 0#32) 1#32) 1#32)) 1#32
        = t.val := by decide +kernel
  exact key (i 2)

/-- A block of 256 rows of keys or values, read at an index. -/
theorem ld_rows (x : Vec Ideal S2048x128 .bf16) (n : ℕ) (hn : n < 8) (off : Fin 2 → ℕ) (ho : off = ![256 * n, 0])
    (inb : ∀ a, off a + S256x128.size a ≤ S2048x128.size a) (j : Fin 256) (d : Fin 128) :
    View.ld x (Rect.unit off S256x128.size inb) (ix2 j d) = x (ix2 ⟨256 * n + j.val, by omega⟩ d) := by
  subst ho
  pointwise

/-- A block of 256 columns of the running sums, read at an index. -/
theorem ld_cols (x : Vec Ideal S2x2048 .f32) (n : ℕ) (hn : n < 8) (off : Fin 2 → ℕ) (ho : off = ![0, 256 * n])
    (inb : ∀ a, off a + S2x256.size a ≤ S2x2048.size a) (h : Fin 2) (j : Fin 256) :
    View.ld x (Rect.unit off S2x256.size inb) (ix2 h j) = x (ix2 h ⟨256 * n + j.val, by omega⟩) := by
  subst ho
  pointwise

theorem coord_lt (i : grid0.Coords) : (i 2).val < 8 := (i 2).isLt

theorem ld_base (x : Vec Ideal S2x2048 .f32) (i : grid0.Coords) (h : Fin 2) :
    baseBlk i x (ix2 h 0) = x (ix2 h ⟨256 * (i 2).val, by have := coord_lt i; omega⟩) := by
  have key : ∀ (off : Fin 2 → ℕ) (ho : off = ![0, 256 * (i 2).val]) (inb : ∀ a, off a + S2x128.size a ≤ S2x2048.size a),
      View.ld x (Rect.unit off S2x128.size inb) (ix2 h 0) = x (ix2 h ⟨256 * (i 2).val, by have := coord_lt i; omega⟩) := by
    intro off ho inb
    subst ho
    pointwise
  exact key _ (k0_off1_eq i) _

/-- The score of head `h`'s row `r` at key `k`, from the whole blocks. -/
def keyScore (i : grid0.Coords) (q : Vec Ideal S256x128 .bf16) (x2 : Vec Ideal S2048x128 .bf16) (xs : Vec Ideal S2x2048 .f32)
    (r : Fin 256) (h : Fin 2) (k : ℕ) : EReal :=
  ∑ e : Fin 64, q (ix2 r (lane h e)) * x2 (ix2 ⟨k % 2048, Nat.mod_lt _ (by decide)⟩ (lane h e))
    + (xs (ix2 h ⟨256 * (i 2).val, by have := coord_lt i; omega⟩) - xs (ix2 h ⟨k % 2048, Nat.mod_lt _ (by decide)⟩))

/-- The values of a column, by the key's position alone. -/
def val (x3 : Vec Ideal S2048x128 .bf16) (d : Fin 128) (k : ℕ) : EReal :=
  x3 (ix2 ⟨k % 2048, Nat.mod_lt _ (by decide)⟩ d)

theorem mod_fin (n : ℕ) (hn : n < 8) (j : Fin 256) :
    (⟨256 * n + j.val, by omega⟩ : Fin 2048) = ⟨(256 * n + j.val) % 2048, Nat.mod_lt _ (by decide)⟩ :=
  Fin.ext (Nat.mod_eq_of_lt (by omega)).symm

theorem score_blk (i : grid0.Coords) (q : Vec Ideal S256x128 .bf16) (x2 : Vec Ideal S2048x128 .bf16) (xs : Vec Ideal S2x2048 .f32)
    (r : Fin 256) (h : Fin 2) (n : ℕ) (hn : n < 8) (ok oc : Fin 2 → ℕ) (hk : ok = ![256 * n, 0]) (hc : oc = ![0, 256 * n])
    (ik : ∀ a, ok a + S256x128.size a ≤ S2048x128.size a) (ic : ∀ a, oc a + S2x256.size a ≤ S2x2048.size a) (j : Fin 256) :
    score h q (View.ld x2 (Rect.unit ok S256x128.size ik)) (baseBlk i xs) (View.ld xs (Rect.unit oc S2x256.size ic)) r j
      = keyScore i q x2 xs r h (256 * n + j.val) := by
  unfold score keyScore
  rw [ld_base, ld_cols xs n hn oc hc ic h j, mod_fin n hn j]
  refine congrArg (· + _) (Finset.sum_congr rfl fun e _ => ?_)
  rw [ld_rows x2 n hn ok hk ik j (lane h e), mod_fin n hn j]

theorem val_blk (x3 : Vec Ideal S2048x128 .bf16) (n : ℕ) (hn : n < 8) (ok : Fin 2 → ℕ) (hk : ok = ![256 * n, 0])
    (ik : ∀ a, ok a + S256x128.size a ≤ S2048x128.size a) (j : Fin 256) (d : Fin 128) :
    View.ld x3 (Rect.unit ok S256x128.size ik) (ix2 j d) = val x3 d (256 * n + j.val) := by
  rw [ld_rows x3 n hn ok hk ik j d, mod_fin n hn j]
  rfl

/-- The two heads' rows, carried together. -/
def Rows (Q : ℕ) (σ : Fin 2 → ℕ → ℝ) (x3 : Vec Ideal S2048x128 .bf16) (r : Fin 256) (n : ℕ) (s : Carry) : Prop :=
  Row (masked Q (σ 0)) (val x3) r n s.1 s.2.1 s.2.2.1
    ∧ Row (masked Q (σ 1)) (val x3) r n s.2.2.2.1 s.2.2.2.2.1 s.2.2.2.2.2

theorem rows_start (Q : ℕ) (σ : Fin 2 → ℕ → ℝ) (x3 : Vec Ideal S2048x128 .bf16) (r : Fin 256) : Rows Q σ x3 r 0 start := by
  refine ⟨⟨.inl ⟨rfl, ?_⟩, ?_, fun d => ?_⟩, ⟨.inl ⟨rfl, ?_⟩, ?_, fun d => ?_⟩⟩
  · show k0_pay105 (F := Ideal) (ix2 r 0) = _
    pointwise [k0_pay105]
    exact mask_bot
  · show k0_pay106 (F := Ideal) (ix2 r 0) = 0
    pointwise [k0_pay106]
  · show k0_pay107 (F := Ideal) (ix2 r d) = 0
    pointwise [k0_pay107]
  · show k0_pay108 (F := Ideal) (ix2 r 0) = _
    pointwise [k0_pay108]
    exact mask_bot
  · show k0_pay109 (F := Ideal) (ix2 r 0) = 0
    pointwise [k0_pay109]
  · show k0_pay110 (F := Ideal) (ix2 r d) = 0
    pointwise [k0_pay110]

theorem rows_state (c : Dev nD) (i : grid0.Coords) (arg3 : Memref sig .tc .vmem S1x2x2048 .f32) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x128 .bf16) (harg7 : arg7.IsWhole) (arg8 : Memref sig .tc .vmem S2x2048 .f32) (harg8 : arg8.IsWhole)
    (q : Vec Ideal S256x128 .bf16) (x2 x3 : Vec Ideal S2048x128 .bf16) (xs : Vec Ideal S2x2048 .f32) (r : Fin 256)
    (σ : Fin 2 → ℕ → ℝ) (hσ : ∀ h k, k ≤ 256 * (i 2).val + r.val → keyScore i q x2 xs r h k = σ h k) (k : ℕ)
    (hk : k ≤ (i 2).val) :
    Rows (256 * (i 2).val + r.val) σ x3 r (256 * k) (st_k0_t1 (F := Ideal) Variants.none c none i arg3 harg3 arg4 harg4 arg5 harg5 arg6 harg6 arg7 harg7 arg8 harg8 q (baseBlk i xs)
      (harg5.unread x2) (harg6.unread x3) (harg8.unread xs) start k) := by
  induction k with
  | zero =>
    rw [st_k0_t1_zero]
    exact rows_start _ σ x3 r
  | succ k ih =>
    have ht : k < (k0_t1_loop i).trips := by rw [trips_eq]; omega
    have h8 := coord_lt i
    have hσ' : ∀ h (j : Fin 256), keyScore i q x2 xs r h (256 * k + j.val)
        = masked (256 * (i 2).val + r.val) (σ h) (256 * k + j.val) := fun h j => by
      rw [hσ h _ (by omega), masked, if_pos (by omega)]
    obtain ⟨h0, h1⟩ := ih (by omega)
    rw [st_k0_t1_succ Variants.none c none i arg3 harg3 arg4 harg4 arg5 harg5 arg6 harg6 arg7 harg7 arg8 harg8 q (baseBlk i xs)
      (harg5.unread x2) (harg6.unread x3) (harg8.unread xs) start ⟨k, ht⟩, trip_eq]
    refine ⟨h0.step _ _ (fun j => ?_) (fun j d => ?_) (masked_ne_top _ _) (masked_ne_bot _ _ _ (by omega)),
      h1.step _ _ (fun j => ?_) (fun j d => ?_) (masked_ne_top _ _) (masked_ne_bot _ _ _ (by omega))⟩
    · rw [score0, score_blk i q x2 xs r 0 k (by omega) _ _ (k0_off2_eq i ⟨k, ht⟩) (k0_off3_eq i ⟨k, ht⟩)]
      exact hσ' 0 j
    · exact val_blk x3 k (by omega) _ (k0_off2_eq i ⟨k, ht⟩) _ j d
    · rw [score1, score_blk i q x2 xs r 1 k (by omega) _ _ (k0_off2_eq i ⟨k, ht⟩) (k0_off3_eq i ⟨k, ht⟩)]
      exact hσ' 1 j
    · exact val_blk x3 k (by omega) _ (k0_off2_eq i ⟨k, ht⟩) _ j d

/-- The stored block: the softmax of the scores up to the row, applied to the values. -/
theorem fin_apply (c : Dev nD) (i : grid0.Coords) (arg3 : Memref sig .tc .vmem S1x2x2048 .f32) (harg3 : arg3.IsWhole) (arg4 : Memref sig .tc .vmem S256x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x128 .bf16) (harg7 : arg7.IsWhole) (arg8 : Memref sig .tc .vmem S2x2048 .f32) (harg8 : arg8.IsWhole)
    (q : Vec Ideal S256x128 .bf16) (x2 x3 : Vec Ideal S2048x128 .bf16) (xs : Vec Ideal S2x2048 .f32) (r : Fin 256)
    (σ : Fin 2 → ℕ → ℝ) (hσ : ∀ h k, k ≤ 256 * (i 2).val + r.val → keyScore i q x2 xs r h k = σ h k)
    (h : Fin 2) (e : Fin 64) (δ M : ℝ) :
    fin i q x2 x3 xs (st_k0_t1 (F := Ideal) Variants.none c none i arg3 harg3 arg4 harg4 arg5 harg5 arg6 harg6 arg7 harg7 arg8 harg8 q (baseBlk i xs)
        (harg5.unread x2) (harg6.unread x3) (harg8.unread xs) start (k0_t1_loop i).trips) (ix2 r (lane h e))
      = ∑ k ∈ Finset.range 2048, val x3 (lane h e) k
          * Ideal.div (Ideal.exp (masked (256 * (i 2).val + r.val) (fun k => σ h k + δ) k - M))
              (∑ j ∈ Finset.range 2048, Ideal.exp (masked (256 * (i 2).val + r.val) (fun k => σ h k + δ) j - M)) := by
  have h8 := coord_lt i
  rw [trips_eq]
  obtain ⟨h0, h1⟩ := rows_state c i arg3 harg3 arg4 harg4 arg5 harg5 arg6 harg6 arg7 harg7 arg8 harg8 q x2 x3 xs r σ hσ _ le_rfl
  generalize st_k0_t1 (F := Ideal) Variants.none c none i arg3 harg3 arg4 harg4 arg5 harg5 arg6 harg6 arg7 harg7 arg8 harg8 q (baseBlk i xs)
        (harg5.unread x2) (harg6.unread x3) (harg8.unread xs) start (i 2).val = s at h0 h1 ⊢
  have hσ' : ∀ h (j : Fin 256), (if j.val ≤ r.val then keyScore i q x2 xs r h (256 * (i 2).val + j.val) else ⊥)
        = masked (256 * (i 2).val + r.val) (σ h) (256 * (i 2).val + j.val) := fun h j => by
    unfold masked
    by_cases hj : j.val ≤ r.val
    · rw [if_pos hj, if_pos (by omega), hσ h _ (by omega)]
    · rw [if_neg hj, if_neg (by omega)]
  have d0 := h0.step (k0_pay114 (k0_pay102 q) (k0_pay104 (baseBlk i xs))
      (View.ld x2 (Rect.unit (k0_off6 i) S256x128.size (k0_off6_inb i)))
      (View.ld xs (Rect.unit (k0_off7 i) S2x256.size (k0_off7_inb i))))
    (View.ld x3 (Rect.unit (k0_off6 i) S256x128.size (k0_off6_inb i)))
    (fun j => by rw [diag0, score_blk i q x2 xs r 0 _ h8 _ _ (k0_off6_eq i) (k0_off7_eq i), hσ'])
    (fun j d => val_blk x3 _ h8 _ (k0_off6_eq i) _ j d) (masked_ne_top _ _) (masked_ne_bot _ _ _ (by omega))
  have d1 := h1.step (k0_pay120 (k0_pay103 q) (k0_pay104 (baseBlk i xs))
      (View.ld x2 (Rect.unit (k0_off6 i) S256x128.size (k0_off6_inb i)))
      (View.ld xs (Rect.unit (k0_off7 i) S2x256.size (k0_off7_inb i))))
    (View.ld x3 (Rect.unit (k0_off6 i) S256x128.size (k0_off6_inb i)))
    (fun j => by rw [diag1, score_blk i q x2 xs r 1 _ h8 _ _ (k0_off6_eq i) (k0_off7_eq i), hσ'])
    (fun j d => val_blk x3 _ h8 _ (k0_off6_eq i) _ j d) (masked_ne_top _ _) (masked_ne_bot _ _ _ (by omega))
  have hr := r.isLt
  pointwise [fin, k0_pay100]
  rw [cmp_lane _ (lane h e).isLt]
  match h with
  | 0 =>
    rw [if_pos (show (lane 0 e).val < 64 by show 64 * 0 + e.val < 64; omega)]
    obtain ⟨m, hm⟩ := d0.max.resolve_left (fun h => by omega)
    have ea := d0.acc (lane 0 e)
    have el := d0.sum
    rw [hm] at ea el
    refine (congrArg₂ (fun x y => x * Ideal.div 1 y) ea el).trans ?_
    exact vsum_div _ _ 2048 (by omega) (by omega) (σ 0) δ m M _
  | 1 =>
    rw [if_neg (show ¬(lane 1 e).val < 64 by show ¬64 * 1 + e.val < 64; omega)]
    obtain ⟨m, hm⟩ := d1.max.resolve_left (fun h => by omega)
    have ea := d1.acc (lane 1 e)
    have el := d1.sum
    rw [hm] at ea el
    refine (congrArg₂ (fun x y => x * Ideal.div 1 y) ea el).trans ?_
    exact vsum_div _ _ 2048 (by omega) (by omega) (σ 1) δ m M _

end Cert.AttnIdeal.Block
-- ==== Proof.WindowSum.lean ====
/-
  Running sums along the middle axis of a three-axis array, written as sums over a window that reaches back to the
  start: the entry at position `n` is the sum of the entries at positions `0` to `n`.
-/
module

public import Idealize.ShloMosaic.Lib.Pointwise

@[expose] public section

noncomputable section

open Idealize.ShloMosaic

namespace Cert.WindowSum

theorem foldl_add {ι : Type*} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A window of `N + 1` positions that ends at `q`, of which those before the start hold zero. -/
theorem sum_window (N : ℕ) (f : ℕ → EReal) (q : ℕ) (hq : q < N + 1) :
    ∑ m : Fin (N + 1), (if N ≤ q + m.val then f (q + m.val - N) else 0) = ∑ i ∈ Finset.range (q + 1), f i := by
  rw [← Finset.sum_range (fun m => if N ≤ q + m then f (q + m - N) else 0),
    show N + 1 = (N - q) + (q + 1) by omega, Finset.sum_range_add]
  refine (congrArg₂ (· + ·) (Finset.sum_eq_zero fun m hm => ?_) (Finset.sum_congr rfl fun m _ => ?_)).trans (zero_add _)
  · rw [Finset.mem_range] at hm
    exact if_neg (by omega)
  · rw [if_pos (by omega)]
    exact congrArg f (by omega)

/-- The positions of the window, counted along its long axis. -/
theorem sum_pos (N : ℕ) (g : (⟨3, ![1, N + 1, 1]⟩ : Shape).Idx → EReal) :
    ∑ w, g w = ∑ m : Fin (N + 1), g (ix3 (0 : Fin 1) m (0 : Fin 1)) := by
  refine (Fintype.sum_equiv ⟨fun m => ix3 (0 : Fin 1) m (0 : Fin 1), fun w => w 1, fun _ => rfl, fun w => ?_⟩ _ _ fun _ => rfl).symm
  funext a
  match a with
  | ⟨0, _⟩ => exact (Subsingleton.elim (α := Fin 1) _ _)
  | ⟨1, _⟩ => rfl
  | ⟨2, _⟩ => exact (Subsingleton.elim (α := Fin 1) _ _)

theorem window_apply {A N C : ℕ} (y : FVec Ideal ⟨3, ![A, N + 1, C]⟩ .f32) (z : FVec Ideal ⟨0, ![]⟩ .f32) (hz : ∀ i, z i = 0)
    (hw : (⟨3, ![A, N + 1, C]⟩ : Shape).ReduceWindows (![1, N + 1, 1] : Fin 3 → Nat) ![1, 1, 1] ![0, N, 0] ![0, 0, 0] ⟨3, ![A, N + 1, C]⟩)
    (h0 : 0 < (⟨0, ![]⟩ : Shape).numel) (b : Fin A) (n : Fin (N + 1)) (h : Fin C) :
    Host.reduceWindowAdd ![1, N + 1, 1] ![1, 1, 1] ![0, N, 0] ![0, 0, 0] y z hw h0 (ix3 b n h)
      = ∑ i ∈ Finset.range (n.val + 1), y (ix3 b ⟨i % (N + 1), Nat.mod_lt _ (by omega)⟩ h) := by
  have hn := n.isLt
  simp only [Host.reduceWindowAdd, Ideal.hostReduceWindowAdd_def]
  unfold Ideal.hostReduceWindowAdd Host.reduceWindow
  rw [foldl_add, ← Fin.sum_univ_def, hz, zero_add]
  let g : (⟨3, ![1, N + 1, 1]⟩ : Shape).Idx → EReal := fun w =>
    let p : Fin 3 → Nat := fun a => (ix3 b n h a).val * (![1, 1, 1] : Fin 3 → Nat) a + (w a).val
    if hin : ∀ a, (![0, N, 0] : Fin 3 → Nat) a ≤ p a ∧ p a - (![0, N, 0] : Fin 3 → Nat) a < (![A, N + 1, C] : Fin 3 → Nat) a
      then y (fun a => ⟨p a - (![0, N, 0] : Fin 3 → Nat) a, (hin a).2⟩) else 0
  refine (Finset.sum_congr rfl fun i _ => ?_).trans ((Equiv.sum_comp (Shape.rowMajor (⟨3, ![1, N + 1, 1]⟩ : Shape)).symm g).trans ?_)
  · show _ = dite _ _ _
    congr
  rw [sum_pos, ← sum_window N _ _ hn]
  refine Finset.sum_congr rfl fun m _ => ?_
  have hm := m.isLt
  have hb := b.isLt
  have hh := h.isLt
  by_cases hc : N ≤ n.val + m.val
  · have hin : ∀ a : Fin 3, (![0, N, 0] : Fin 3 → Nat) a ≤ (ix3 b n h a).val * (![1, 1, 1] : Fin 3 → Nat) a + (ix3 (0 : Fin 1) m (0 : Fin 1) a).val
        ∧ (ix3 b n h a).val * (![1, 1, 1] : Fin 3 → Nat) a + (ix3 (0 : Fin 1) m (0 : Fin 1) a).val - (![0, N, 0] : Fin 3 → Nat) a < (![A, N + 1, C] : Fin 3 → Nat) a := fun a =>
      match a with
      | ⟨0, _⟩ => by show 0 ≤ b.val * 1 + 0 ∧ b.val * 1 + 0 - 0 < A; omega
      | ⟨1, _⟩ => by show N ≤ n.val * 1 + m.val ∧ n.val * 1 + m.val - N < N + 1; omega
      | ⟨2, _⟩ => by show 0 ≤ h.val * 1 + 0 ∧ h.val * 1 + 0 - 0 < C; omega
    rw [if_pos hc]
    refine (dif_pos hin).trans (congrArg y (funext fun a => Fin.ext ?_))
    match a with
    | ⟨0, _⟩ => show b.val * 1 + 0 - 0 = b.val; omega
    | ⟨1, _⟩ =>
      show n.val * 1 + m.val - N = (n.val + m.val - N) % (N + 1)
      rw [Nat.mod_eq_of_lt (by omega)]; omega
    | ⟨2, _⟩ => show h.val * 1 + 0 - 0 = h.val; omega
  · rw [if_neg hc]
    refine dif_neg fun hin => hc ?_
    have h1 : N ≤ n.val * 1 + m.val := (hin (1 : Fin 3)).1
    omega

end Cert.WindowSum

end
-- ==== Proof.AttnRefValue.lean ====
/-
  The attention reference's result: every entry is the softmax of the row's scores up to its own position,
  applied to the values of the batch's rows.
-/
module

public import proofs.«01_k».proof.Defs
public import proofs.«01_k».proof.Proof.AttnSpec
public import proofs.«01_k».proof.Proof.WindowSum
public import proofs.«01_k».proof.Proof.Gen.AttnRefIdeal.Read
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.AttnRefIdeal.Row

open Cert.AttnRefIdeal Cert.AttnRefIdeal.Read Cert.AttnRefIdeal.Gen Cert.AttnSpec

variable (xq xk xv : FVec Ideal S16384x512 .bf16) (xl : FVec Ideal S4x2x16384 .f32)

/-! ## The running sums -/

/-- The running sum of one head's log forget gates, from the start of the batch. -/
theorem v8_apply (b : Fin 8) (n : Fin 2048) (h : Fin 8) :
    val_main_v8 (F := Ideal) xl (ix3 b n h)
      = ∑ i ∈ Finset.range (n.val + 1), xl (ix3 ⟨h.val / 2, by omega⟩ ⟨h.val % 2, by omega⟩ ⟨b.val * 2048 + i % 2048, by omega⟩) := by
  unfold val_main_v8
  refine (WindowSum.window_apply (A := 8) (N := 2047) (C := 8) _ _
    (fun i => by rw [val_main_call0_call0_v0_apply, val_main_call0_call0_cst_apply]; exact Ideal.ofBits_zero _) _ _ b n h).trans ?_
  refine Finset.sum_congr rfl fun i _ => ?_
  rw [val_main_v7_apply, val_main_v6_apply]
  refine congrArg xl (funext fun a => Fin.ext ?_)
  have hb := b.isLt
  have hh := h.isLt
  match a with
  | ⟨0, _⟩ => show ((h.val * 8 + b.val) * 2048 + i % 2048) / 32768 = h.val / 2; omega
  | ⟨1, _⟩ => show ((h.val * 8 + b.val) * 2048 + i % 2048) / 16384 % 2 = h.val % 2; omega
  | ⟨2, _⟩ => show ((h.val * 8 + b.val) * 2048 + i % 2048) % 16384 = b.val * 2048 + i % 2048; omega

/-! ## The scores -/

theorem mask_apply (b h : Fin 8) (q k : Fin 2048) :
    val_main_call1_v1 (F := Ideal) (ix4 b h q k) = if k.val ≤ q.val then 1#1 else 0#1 := by
  rw [val_main_call1_v1_apply, val_main_v21_apply, val_main_v19_apply, val_main_v20_apply, val_main_v17_apply,
    val_main_v18_apply, val_main_v16_apply, val_main_v16_apply]
  show IntOp.cmpi CmpIPredicate.sle (BitVec.ofNat 32 k.val) (BitVec.ofNat 32 q.val) = _
  have hk : (BitVec.ofNat 32 k.val).toNat = k.val := Nat.mod_eq_of_lt (by omega)
  have hq : (BitVec.ofNat 32 q.val).toNat = q.val := Nat.mod_eq_of_lt (by omega)
  rw [WordCmp.cmpi_sle_of_lt (by omega) (by omega), hk, hq]
  by_cases hc : k.val ≤ q.val
  · rw [if_pos hc, decide_eq_true hc]; rfl
  · rw [if_neg hc, decide_eq_false hc]; rfl

/-- The score of one query and one key of a head: their product and the decay between them. -/
def score (b h : Fin 8) (q k : Fin 2048) : EReal :=
  ∑ e : Fin 64, xq (ix2 ⟨b.val * 2048 + q.val, by omega⟩ ⟨h.val * 64 + e.val, by omega⟩)
      * xk (ix2 ⟨b.val * 2048 + k.val, by omega⟩ ⟨h.val * 64 + e.val, by omega⟩)
    + (val_main_v8 (F := Ideal) xl (ix3 b q h) - val_main_v8 (F := Ideal) xl (ix3 b k h))

theorem v22_apply (b h : Fin 8) (q k : Fin 2048) :
    val_main_v22 (F := Ideal) xq xk xl (ix4 b h q k) = score xq xk xl b h q k := by
  unfold score
  simp only [val_main_v22, val_main_v15, val_main_v14, val_main_v13, val_main_v12, val_main_v11,
    val_main_v10, val_main_v9, val_main_v3, val_main_v2, val_main_v1, val_main_v0]
  generalize val_main_v8 (F := Ideal) xl = y
  pointwise

theorem v23_apply (b h : Fin 8) (q k : Fin 2048) :
    val_main_v23 (F := Ideal) xq xk xl (ix4 b h q k) = if k.val ≤ q.val then score xq xk xl b h q k else ⊥ := by
  rw [val_main_v23_apply, mask_apply, v22_apply, val_main_call1_v2_apply, val_main_call1_v0_apply, val_main_cst_apply]
  by_cases hc : k.val ≤ q.val
  · rw [if_pos hc, if_pos hc]; rfl
  · rw [if_neg hc, if_neg hc]; rfl

/-! ## The softmax -/

theorem v24_apply (b h : Fin 8) (q : Fin 2048) :
    val_main_v24 (F := Ideal) xq xk xl (ix3 b h q)
      = Finset.univ.fold max ⊥ fun k => val_main_v23 (F := Ideal) xq xk xl (ix4 b h q k) := by
  unfold val_main_v24
  generalize val_main_v23 (F := Ideal) xq xk xl = y
  pointwise [val_main_cst_0]
  rw [show Ideal.ofBits FTy.f32 4286578688#32 = ⊥ from rfl]

theorem v26_apply (b h : Fin 8) (q : Fin 2048) :
    val_main_v26 (F := Ideal) xq xk xl (ix3 b h q) = max ⊥ (val_main_v24 (F := Ideal) xq xk xl (ix3 b h q)) := by
  rw [val_main_v26_apply, val_main_v25_apply, val_main_cst_1_apply]
  rfl

theorem v30_apply (b h : Fin 8) (q k : Fin 2048) :
    val_main_v30 (F := Ideal) xq xk xl (ix4 b h q k)
      = Ideal.exp (val_main_v23 (F := Ideal) xq xk xl (ix4 b h q k) - val_main_v26 (F := Ideal) xq xk xl (ix3 b h q)) := by
  rw [val_main_v30_apply, val_main_v29_apply, val_main_v28_apply, val_main_v27_apply]
  rw [show idx_main_v27 (idx_main_v28 (ix4 b h q k)) = ix3 b h q from funext fun a => by
    match a with | ⟨0, _⟩ => rfl | ⟨1, _⟩ => rfl | ⟨2, _⟩ => rfl]
  rfl

theorem v34_apply (b h : Fin 8) (q k : Fin 2048) :
    val_main_v34 (F := Ideal) xq xk xl (ix4 b h q k)
      = Ideal.div (val_main_v30 (F := Ideal) xq xk xl (ix4 b h q k))
          (∑ j : Fin 2048, val_main_v30 (F := Ideal) xq xk xl (ix4 b h q j)) := by
  rw [val_main_v34_apply, val_main_v33_apply, val_main_v32_apply, val_main_v31_apply, val_main_cst_2_apply]
  have e : ∀ j, idx_main_v31 (idx_main_v32 (idx_main_v33 (ix4 b h q k))) j = ix4 b h q j := fun j => funext fun a => by
    match a with | ⟨0, _⟩ => rfl | ⟨1, _⟩ => rfl | ⟨2, _⟩ => rfl | ⟨3, _⟩ => rfl
  simp only [e]
  rw [show FloatOps.ofBits (F := Ideal) .f32 0x00000000#32 = (0 : EReal) from Ideal.ofBits_zero _, zero_add]
  rfl

/-- The reference's result, from the softmax's weights. -/
theorem v38_apply (b h : Fin 8) (q : Fin 2048) (e : Fin 64) :
    val_main_v38 (F := Ideal) xq xk xv xl (ix2 ⟨b.val * 2048 + q.val, by omega⟩ ⟨h.val * 64 + e.val, by omega⟩)
      = ∑ k : Fin 2048, xv (ix2 ⟨b.val * 2048 + k.val, by omega⟩ ⟨h.val * 64 + e.val, by omega⟩)
          * val_main_v34 (F := Ideal) xq xk xl (ix4 b h q k) := by
  simp only [val_main_v38, val_main_v37, val_main_v36, val_main_v35, val_main_v5, val_main_v4]
  generalize val_main_v34 (F := Ideal) xq xk xl = y
  pointwise

/-- The reference's result where the row's scores are the reals `σ`. -/
theorem out_apply (b h : Fin 8) (q : Fin 2048) (σ : ℕ → ℝ)
    (hσ : ∀ k : Fin 2048, k.val ≤ q.val → score xq xk xl b h q k = σ k.val) :
    ∃ M : ℝ, ∀ e : Fin 64,
      val_main_v38 (F := Ideal) xq xk xv xl (ix2 ⟨b.val * 2048 + q.val, by omega⟩ ⟨h.val * 64 + e.val, by omega⟩)
        = ∑ k ∈ Finset.range 2048,
            xv (ix2 ⟨b.val * 2048 + k % 2048, by omega⟩ ⟨h.val * 64 + e.val, by omega⟩)
              * Ideal.div (Ideal.exp (masked q.val σ k - M)) (∑ j ∈ Finset.range 2048, Ideal.exp (masked q.val σ j - M)) := by
  have h23 : ∀ k : Fin 2048, val_main_v23 (F := Ideal) xq xk xl (ix4 b h q k) = masked q.val σ k.val := fun k => by
    rw [v23_apply]
    unfold masked
    by_cases hc : k.val ≤ q.val
    · rw [if_pos hc, if_pos hc, hσ k hc]
    · rw [if_neg hc, if_neg hc]
  obtain ⟨M, hM⟩ : ∃ M : ℝ, val_main_v26 (F := Ideal) xq xk xl (ix3 b h q) = M := by
    rw [v26_apply, v24_apply]
    refine max_fold_real _ _ bot_ne_top (fun k => ?_) 0 ?_
    · rw [h23]; exact masked_ne_top _ _ _
    · rw [h23]; exact masked_ne_bot _ _ _ (Nat.zero_le _)
  have h30 : ∀ k : Fin 2048, val_main_v30 (F := Ideal) xq xk xl (ix4 b h q k) = Ideal.exp (masked q.val σ k.val - M) :=
    fun k => by rw [v30_apply, h23, hM]
  refine ⟨M, fun e => ?_⟩
  rw [v38_apply, Finset.sum_range]
  refine Finset.sum_congr rfl fun k _ => ?_
  rw [v34_apply, h30, Finset.sum_range (fun j => Ideal.exp (masked q.val σ j - M))]
  simp only [h30, Nat.mod_eq_of_lt k.isLt]

end Cert.AttnRefIdeal.Row

end
-- ==== Proof.AttnArray.lean ====
/-
  The attention kernel's result array. Grid point `t` is row tile `t % 8` of head pair `t / 8 % 4` in batch
  `t / 32`; the first tile of a pair leaves the running sums of the pair's gates in the scratch, which the seven
  others read. Where queries, keys and gates are real numbers the array is the reference's result.
-/
module

public import proofs.«01_k».proof.Proof.AttnBlock
public import proofs.«01_k».proof.Proof.AttnRefValue

@[expose] public section

set_option maxRecDepth 16384

noncomputable section

open Idealize.ShloMosaic Idealize.ShloMosaic.TcCoe Idealize.SL.Sem
open Idealize.ShloMosaic.Pipeline (Dat)

namespace Cert.AttnIdeal.Array

open Cert.AttnIdeal Cert.AttnIdeal.Gen Cert.AttnIdeal.Block Cert.AttnSpec

variable (m : (ℓ : Loc nD τ sig) → Buf (Elt Ideal) ℓ)

/-- The arguments of device `c`. -/
abbrev argQ (c : Dev nD) : FVec Ideal S16384x512 .bf16 := m ((c : Thread nD τ).loc main_arg0)
abbrev argK (c : Dev nD) : FVec Ideal S16384x512 .bf16 := m ((c : Thread nD τ).loc main_arg1)
abbrev argV (c : Dev nD) : FVec Ideal S16384x512 .bf16 := m ((c : Thread nD τ).loc main_arg2)
abbrev argL (c : Dev nD) : FVec Ideal S4x2x16384 .f32 := m ((c : Thread nD τ).loc main_arg3)

/-- The reference's result, from the kernel's arguments. -/
def whole (c : Dev nD) : S16384x512.Idx → EReal :=
  Cert.AttnRefIdeal.Read.val_main_v38 (F := Ideal) (argQ m c) (argK m c) (argV m c) (argL m c)

/-- The windows' offsets at point `t`. -/
theorem idx_facts : ∀ t : Fin cfg0.N,
    (win0_0.index t 0 = t.val / 8 % 4 ∧ win0_0.index t 1 = 0 ∧ win0_0.index t 2 = t.val / 32)
    ∧ (win0_1.index t 0 = t.val / 32 * 8 + t.val % 8 ∧ win0_1.index t 1 = t.val / 8 % 4)
    ∧ (win0_2.index t 0 = t.val / 32 ∧ win0_2.index t 1 = t.val / 8 % 4)
    ∧ (win0_3.index t 0 = t.val / 32 ∧ win0_3.index t 1 = t.val / 8 % 4)
    ∧ (win0_4.index t 0 = t.val / 32 * 8 + t.val % 8 ∧ win0_4.index t 1 = t.val / 8 % 4)
    ∧ (grid0.coords t 2).val = t.val % 8 :=
  (by decide +kernel : ∀ t : Fin grid0.N, _)

theorem lt_N (t : Fin cfg0.N) : t.val < 256 := lt_of_lt_of_eq t.isLt N_0

/-- The batch and the head pair of a point; a row of its tile within the batch; a head of the pair. -/
def bat (t : Fin cfg0.N) : Fin 8 := ⟨t.val / 32, by have := lt_N t; omega⟩
def pair (t : Fin cfg0.N) : Fin 4 := ⟨t.val / 8 % 4, by omega⟩
def row (t : Fin cfg0.N) (r : Fin 256) : Fin 2048 := ⟨256 * (t.val % 8) + r.val, by omega⟩
def head (t : Fin cfg0.N) (h : Fin 2) : Fin 8 := ⟨2 * (t.val / 8 % 4) + h.val, by omega⟩

theorem blk_l (c : Dev nD) (t : Fin cfg0.N) (h : Fin 2) (n : Fin 2048) :
    iblk m c 0 t (ix3 0 h n) = argL m c (ix3 (pair t) h ⟨(bat t).val * 2048 + n.val, by omega⟩) := by
  have e : iblk m c 0 t (ix3 0 h n) = V m c main_arg3 (((cfg0.win 0).blk t).view.emb (ix3 0 h n)) := rfl
  rw [e, V_main_arg3]
  refine congrArg (m ((c : Thread nD τ).loc main_arg3)) (funext fun a => Fin.ext ?_)
  have f := (idx_facts t).1
  match a with
  | ⟨0, _⟩ => show win0_0.index t 0 * 1 + 1 * 0 = t.val / 8 % 4; omega
  | ⟨1, _⟩ => show win0_0.index t 1 * 2 + 1 * h.val = h.val; omega
  | ⟨2, _⟩ => show win0_0.index t 2 * 2048 + 1 * n.val = t.val / 32 * 2048 + n.val; omega

theorem blk_q (c : Dev nD) (t : Fin cfg0.N) (r : Fin 256) (h : Fin 2) (e : Fin 64) :
    iblk m c 1 t (ix2 r (lane h e))
      = argQ m c (ix2 ⟨(bat t).val * 2048 + (row t r).val, by omega⟩ ⟨(head t h).val * 64 + e.val, by omega⟩) := by
  have e : iblk m c 1 t (ix2 r (lane h e)) = V m c main_arg0 (((cfg0.win 1).blk t).view.emb (ix2 r (lane h e))) := rfl
  rw [e, V_main_arg0]
  refine congrArg (m ((c : Thread nD τ).loc main_arg0)) (funext fun a => Fin.ext ?_)
  have f := (idx_facts t).2.1
  match a with
  | ⟨0, _⟩ => show win0_1.index t 0 * 256 + 1 * r.val = t.val / 32 * 2048 + (256 * (t.val % 8) + r.val); omega
  | ⟨1, _⟩ => show win0_1.index t 1 * 128 + 1 * (64 * h.val + _) = (2 * (t.val / 8 % 4) + h.val) * 64 + _; omega

theorem blk_k (c : Dev nD) (t : Fin cfg0.N) (k : Fin 2048) (h : Fin 2) (e : Fin 64) :
    iblk m c 2 t (ix2 k (lane h e))
      = argK m c (ix2 ⟨(bat t).val * 2048 + k.val, by omega⟩ ⟨(head t h).val * 64 + e.val, by omega⟩) := by
  have e : iblk m c 2 t (ix2 k (lane h e)) = V m c main_arg1 (((cfg0.win 2).blk t).view.emb (ix2 k (lane h e))) := rfl
  rw [e, V_main_arg1]
  refine congrArg (m ((c : Thread nD τ).loc main_arg1)) (funext fun a => Fin.ext ?_)
  have f := (idx_facts t).2.2.1
  match a with
  | ⟨0, _⟩ => show win0_2.index t 0 * 2048 + 1 * k.val = t.val / 32 * 2048 + k.val; omega
  | ⟨1, _⟩ => show win0_2.index t 1 * 128 + 1 * (64 * h.val + _) = (2 * (t.val / 8 % 4) + h.val) * 64 + _; omega

theorem blk_v (c : Dev nD) (t : Fin cfg0.N) (k : Fin 2048) (h : Fin 2) (e : Fin 64) :
    iblk m c 3 t (ix2 k (lane h e))
      = argV m c (ix2 ⟨(bat t).val * 2048 + k.val, by omega⟩ ⟨(head t h).val * 64 + e.val, by omega⟩) := by
  have e : iblk m c 3 t (ix2 k (lane h e)) = V m c main_arg2 (((cfg0.win 3).blk t).view.emb (ix2 k (lane h e))) := rfl
  rw [e, V_main_arg2]
  refine congrArg (m ((c : Thread nD τ).loc main_arg2)) (funext fun a => Fin.ext ?_)
  have f := (idx_facts t).2.2.2.1
  match a with
  | ⟨0, _⟩ => show win0_3.index t 0 * 2048 + 1 * k.val = t.val / 32 * 2048 + k.val; omega
  | ⟨1, _⟩ => show win0_3.index t 1 * 128 + 1 * (64 * h.val + _) = (2 * (t.val / 8 % 4) + h.val) * 64 + _; omega

/-! ## The scratch -/

/-- The running sums of the gates of point `t`'s batch and head pair. -/
def scr (c : Dev nD) (t : Fin cfg0.N) : Vec Ideal S2x2048 .f32 := k0_pay99 (Cumsum.sums (k0_pay2 (iblk m c 0 t)))

/-- Two points of one batch and head pair read the same gates. -/
theorem scr_congr (c : Dev nD) (s t : Fin cfg0.N) (h : s.val / 8 = t.val / 8) : scr m c s = scr m c t := by
  unfold scr
  refine congrArg (fun x => k0_pay99 (Cumsum.sums (k0_pay2 x))) (funext fun i => ?_)
  obtain ⟨z, a, n, rfl⟩ : ∃ (z : Fin 1) (a : Fin 2) (n : Fin 2048), i = ix3 z a n := ⟨i 0, i 1, i 2, eq_ix3 i⟩
  obtain rfl : z = 0 := Subsingleton.elim _ _
  rw [blk_l, blk_l]
  have hp : pair s = pair t := Fin.ext (show s.val / 8 % 4 = t.val / 8 % 4 by omega)
  have hb : bat s = bat t := Fin.ext (show s.val / 32 = t.val / 32 by omega)
  simp only [hp, hb]

theorem scratch_first (c : Dev nD) (t : Fin cfg0.N) (h0 : t.val % 8 = 0) : (outsAt0 m c t.val t.isLt).2 = scr m c t := by
  rw [outsAt0_A m c t h0]
  dsimp only
  rw [Cumsum.sout_A]
  rfl

theorem scratch_next (c : Dev nD) (t : Fin cfg0.N) (h0 : ¬t.val % 8 = 0) :
    (outsAt0 m c t.val t.isLt).2 = (outsAt0 m c (t.val - 1) (Nat.lt_of_le_of_lt (Nat.sub_le _ _) t.isLt)).2 := by
  rw [outsAt0_B m c t h0]
  unfold sout0_B_0
  dsimp only

/-- After every point the scratch holds the running sums of the point's batch and head pair. -/
theorem scratch_eq (c : Dev nD) (n : ℕ) : ∀ hn : n < cfg0.N, (outsAt0 m c n hn).2 = scr m c ⟨n, hn⟩ := by
  induction n with
  | zero => exact fun hn => scratch_first m c ⟨0, hn⟩ (Nat.zero_mod 8)
  | succ n ih =>
    intro hn
    by_cases h0 : (n + 1) % 8 = 0
    · exact scratch_first m c ⟨n + 1, hn⟩ h0
    · exact (scratch_next m c ⟨n + 1, hn⟩ h0).trans
        ((ih (Nat.lt_of_succ_lt hn)).trans (scr_congr m c _ _ (show n / 8 = (n + 1) / 8 by omega)))

theorem scr_apply (c : Dev nD) (t : Fin cfg0.N) (h : Fin 2) (n : Fin 2048) :
    scr m c t (ix2 h n) = ∑ i ∈ Finset.range (n.val + 1),
      argL m c (ix3 (pair t) h ⟨(bat t).val * 2048 + i % 2048, by omega⟩) := by
  unfold scr
  rw [Cumsum.scratch_apply]
  exact Finset.sum_congr rfl fun i _ => blk_l m c t h _

/-! ## Real arguments -/

variable (qr kr : S16384x512.Idx → ℝ) (lr : S4x2x16384.Idx → ℝ)

/-- The product of a query and a key of one head. -/
def dot (b H : Fin 8) (q k : Fin 2048) : ℝ :=
  ∑ e : Fin 64, qr (ix2 ⟨b.val * 2048 + q.val, by omega⟩ ⟨H.val * 64 + e.val, by omega⟩)
      * kr (ix2 ⟨b.val * 2048 + k.val, by omega⟩ ⟨H.val * 64 + e.val, by omega⟩)

/-- The running sum of one head's gates. -/
def cum (b H : Fin 8) (n : ℕ) : ℝ :=
  ∑ i ∈ Finset.range (n + 1), lr (ix3 ⟨H.val / 2, by omega⟩ ⟨H.val % 2, by omega⟩ ⟨b.val * 2048 + i % 2048, by omega⟩)

theorem dot_coe (xq xk : FVec Ideal S16384x512 .bf16) (hq : ∀ i, xq i = (qr i : EReal)) (hk : ∀ i, xk i = (kr i : EReal))
    (b H : Fin 8) (q k : Fin 2048) :
    ∑ e : Fin 64, xq (ix2 ⟨b.val * 2048 + q.val, by omega⟩ ⟨H.val * 64 + e.val, by omega⟩)
        * xk (ix2 ⟨b.val * 2048 + k.val, by omega⟩ ⟨H.val * 64 + e.val, by omega⟩) = ((dot qr kr b H q k : ℝ) : EReal) := by
  unfold dot
  rw [coe_sum]
  refine Finset.sum_congr rfl fun e _ => ?_
  rw [hq, hk, EReal.coe_mul]

theorem cum_coe (xl : FVec Ideal S4x2x16384 .f32) (hl : ∀ i, xl i = (lr i : EReal)) (b H : Fin 8) (n : ℕ) :
    ∑ i ∈ Finset.range (n + 1), xl (ix3 ⟨H.val / 2, by omega⟩ ⟨H.val % 2, by omega⟩ ⟨b.val * 2048 + i % 2048, by omega⟩)
      = ((cum lr b H n : ℝ) : EReal) := by
  unfold cum
  rw [coe_sum]
  exact Finset.sum_congr rfl fun i _ => hl _

theorem ref_score (xq xk : FVec Ideal S16384x512 .bf16) (xl : FVec Ideal S4x2x16384 .f32)
    (hq : ∀ i, xq i = (qr i : EReal)) (hk : ∀ i, xk i = (kr i : EReal)) (hl : ∀ i, xl i = (lr i : EReal))
    (b H : Fin 8) (q k : Fin 2048) :
    Cert.AttnRefIdeal.Row.score xq xk xl b H q k
      = ((dot qr kr b H q k + (cum lr b H q.val - cum lr b H k.val) : ℝ) : EReal) := by
  unfold Cert.AttnRefIdeal.Row.score
  rw [dot_coe qr kr xq xk hq hk, Cert.AttnRefIdeal.Row.v8_apply, Cert.AttnRefIdeal.Row.v8_apply,
    cum_coe lr xl hl, cum_coe lr xl hl, EReal.coe_add, EReal.coe_sub]

theorem scr_coe (c : Dev nD) (hl : ∀ i, argL m c i = (lr i : EReal)) (t : Fin cfg0.N) (h : Fin 2) (n : Fin 2048) :
    scr m c t (ix2 h n) = ((cum lr (bat t) (head t h) n.val : ℝ) : EReal) := by
  rw [scr_apply, ← cum_coe lr (argL m c) hl]
  refine Finset.sum_congr rfl fun i _ => congrArg (argL m c) ?_
  rw [show pair t = ⟨(head t h).val / 2, by omega⟩ from
      Fin.ext (show t.val / 8 % 4 = (2 * (t.val / 8 % 4) + h.val) / 2 by omega),
    show (⟨(head t h).val % 2, by omega⟩ : Fin 2) = h from
      Fin.ext (show (2 * (t.val / 8 % 4) + h.val) % 2 = h.val by omega)]

theorem kernel_score (c : Dev nD) (hq : ∀ i, argQ m c i = (qr i : EReal)) (hk : ∀ i, argK m c i = (kr i : EReal))
    (hl : ∀ i, argL m c i = (lr i : EReal)) (t : Fin cfg0.N) (r : Fin 256) (h : Fin 2) (k : ℕ) :
    keyScore (grid0.coords t) (iblk m c 1 t) (iblk m c 2 t) (scr m c t) r h k
      = ((dot qr kr (bat t) (head t h) (row t r) ⟨k % 2048, Nat.mod_lt _ (by decide)⟩
          + (cum lr (bat t) (head t h) (256 * (t.val % 8)) - cum lr (bat t) (head t h) (k % 2048)) : ℝ) : EReal) := by
  obtain ⟨A, hA⟩ : ∃ A : FVec Ideal S256x128 .bf16, A = iblk m c 1 t := ⟨_, rfl⟩
  obtain ⟨B, hB⟩ : ∃ B : FVec Ideal S2048x128 .bf16, B = iblk m c 2 t := ⟨_, rfl⟩
  rw [← hA, ← hB]
  unfold keyScore
  have e : ∑ e : Fin 64, A (ix2 r (lane h e)) * B (ix2 ⟨k % 2048, Nat.mod_lt _ (by decide)⟩ (lane h e))
      = ((dot qr kr (bat t) (head t h) (row t r) ⟨k % 2048, Nat.mod_lt _ (by decide)⟩ : ℝ) : EReal) :=
    (Finset.sum_congr rfl fun e _ => by rw [hA, hB, blk_q, blk_k]).trans
      (dot_coe qr kr (argQ m c) (argK m c) hq hk (bat t) (head t h) (row t r) ⟨k % 2048, Nat.mod_lt _ (by decide)⟩)
  rw [e, scr_coe m lr c hl, scr_coe m lr c hl, EReal.coe_add, EReal.coe_sub]
  dsimp only
  rw [(idx_facts t).2.2.2.2.2]

/-- The block a point writes, from the scratch of its batch and head pair. -/
theorem block_eq (c : Dev nD) (t : Fin cfg0.N) :
    (outsAt0 m c t.val t.isLt).1 = Out.fin (grid0.coords t) (iblk m c 1 t) (iblk m c 2 t) (iblk m c 3 t) (scr m c t)
      (st_k0_t1 (F := Ideal) Variants.none c none (grid0.coords t) (ms0_0 t) (hs0_0 t) (ms0_1 t) (hs0_1 t) (ms0_2 t) (hs0_2 t)
        (ms0_3 t) (hs0_3 t) (ms0_4 t) (hs0_4 t) scM0_0 (Memref.isWhole_whole _) (iblk m c 1 t) (Out.baseBlk (grid0.coords t) (scr m c t))
        ((hs0_2 t).unread (iblk m c 2 t)) ((hs0_3 t).unread (iblk m c 3 t)) ((Memref.isWhole_whole _).unread (scr m c t)) Out.start
        (k0_t1_loop (grid0.coords t)).trips) := by
  by_cases h0 : t.val % 8 = 0
  · rw [outsAt0_A m c t h0]
    exact Out.out_A (hc0 := (hcond0_0 t).mpr h0) ..
  · have hs : (outsAt0 m c (t.val - 1) (Nat.lt_of_le_of_lt (Nat.sub_le _ _) t.isLt)).2 = scr m c t :=
      (scratch_eq m c _ _).trans (scr_congr m c _ _ (show (t.val - 1) / 8 = t.val / 8 by omega))
    rw [outsAt0_B m c t h0, hs]
    exact Out.out_B (hc0 := fun h => h0 ((hcond0_0 t).mp h)) (x0 := iblk m c 0 t) ..

/-- One entry of the block is the reference's. -/
theorem entry_eq (c : Dev nD) (hq : ∀ i, argQ m c i = (qr i : EReal)) (hk : ∀ i, argK m c i = (kr i : EReal))
    (hl : ∀ i, argL m c i = (lr i : EReal)) (t : Fin cfg0.N) (r : Fin 256) (h : Fin 2) (e : Fin 64) :
    (outsAt0 m c t.val t.isLt).1 (ix2 r (lane h e))
      = whole m c (ix2 ⟨(bat t).val * 2048 + (row t r).val, by omega⟩ ⟨(head t h).val * 64 + e.val, by omega⟩) := by
  obtain ⟨M, hM⟩ := Cert.AttnRefIdeal.Row.out_apply (argQ m c) (argK m c) (argV m c) (argL m c) (bat t) (head t h) (row t r)
    (fun k => dot qr kr (bat t) (head t h) (row t r) ⟨k % 2048, Nat.mod_lt _ (by decide)⟩
      + (cum lr (bat t) (head t h) (row t r).val - cum lr (bat t) (head t h) (k % 2048)))
    (fun k _ => by
      rw [ref_score qr kr lr _ _ _ hq hk hl]
      simp only [Nat.mod_eq_of_lt k.isLt])
  have hrow : 256 * (grid0.coords t 2).val + r.val = (row t r).val := by rw [(idx_facts t).2.2.2.2.2]; rfl
  have hK := fin_apply c (grid0.coords t) (ms0_0 t) (hs0_0 t) (ms0_1 t) (hs0_1 t) (ms0_2 t) (hs0_2 t) (ms0_3 t) (hs0_3 t)
    (ms0_4 t) (hs0_4 t) scM0_0 (Memref.isWhole_whole _) (iblk m c 1 t) (iblk m c 2 t) (iblk m c 3 t) (scr m c t) r
    (fun h k => dot qr kr (bat t) (head t h) (row t r) ⟨k % 2048, Nat.mod_lt _ (by decide)⟩
      + (cum lr (bat t) (head t h) (256 * (t.val % 8)) - cum lr (bat t) (head t h) (k % 2048)))
    (fun h k _ => kernel_score m qr kr lr c hq hk hl t r h k) h e
    (cum lr (bat t) (head t h) (row t r).val - cum lr (bat t) (head t h) (256 * (t.val % 8))) M
  rw [block_eq, hK, hrow]
  refine Eq.trans ?_ (hM e).symm
  have hσ : ∀ k : ℕ, dot qr kr (bat t) (head t h) (row t r) ⟨k % 2048, Nat.mod_lt _ (by decide)⟩
        + (cum lr (bat t) (head t h) (256 * (t.val % 8)) - cum lr (bat t) (head t h) (k % 2048))
        + (cum lr (bat t) (head t h) (row t r).val - cum lr (bat t) (head t h) (256 * (t.val % 8)))
      = dot qr kr (bat t) (head t h) (row t r) ⟨k % 2048, Nat.mod_lt _ (by decide)⟩
        + (cum lr (bat t) (head t h) (row t r).val - cum lr (bat t) (head t h) (k % 2048)) := fun k => by ring
  simp only [hσ]
  refine Finset.sum_congr rfl fun k _ => ?_
  exact congrArg (· * _) (blk_v m c t _ h e)

/-- What point `t` writes back is block `t` of the whole result. -/
theorem flushed_eq (c : Dev nD) (hq : ∀ i, argQ m c i = (qr i : EReal)) (hk : ∀ i, argK m c i = (kr i : EReal))
    (hl : ∀ i, argL m c i = (lr i : EReal)) (t : Fin cfg0.N) :
    (dats m 0 c).flushed 4 t = ((cfg0.win 4).blk t).view.read (Elt Ideal) (whole m c) := by
  rw [Value.flushed4]
  have hl := entry_eq m qr kr lr c hq hk hl t
  generalize (outsAt0 m c t.val t.isLt).1 = X at hl ⊢
  funext j
  obtain ⟨r, h, e, rfl⟩ : ∃ (r : Fin 256) (h : Fin 2) (e : Fin 64), j = ix2 r (lane h e) := by
    have hj : (j 1).val < 128 := (j 1).isLt
    refine ⟨j 0, ⟨(j 1).val / 64, by omega⟩, ⟨(j 1).val % 64, by omega⟩, (eq_ix2 j).trans (congrArg (ix2 (j 0)) (Fin.ext ?_))⟩
    show (j 1).val = 64 * ((j 1).val / 64) + (j 1).val % 64
    omega
  have hr : ((cfg0.win 4).blk t).view.emb (ix2 r (lane h e))
      = (ix2 ⟨(bat t).val * 2048 + (row t r).val, by omega⟩ ⟨(head t h).val * 64 + e.val, by omega⟩ : S16384x512.Idx) := by
    refine funext fun a => Fin.ext ?_
    have f := (idx_facts t).2.2.2.2.1
    match a with
    | ⟨0, _⟩ => show win0_4.index t 0 * 256 + 1 * r.val = t.val / 32 * 2048 + (256 * (t.val % 8) + r.val); omega
    | ⟨1, _⟩ => show win0_4.index t 1 * 128 + 1 * (64 * h.val + e.val) = (2 * (t.val / 8 % 4) + h.val) * 64 + e.val; omega
  have hc : (cfg0.win 4).cut (grid0.coords t) X (ix2 r (lane h e)) = X (ix2 r (lane h e)) := rfl
  have hw : ((cfg0.win 4).blk t).view.read (Elt Ideal) (whole m c) (ix2 r (lane h e))
      = whole m c (((cfg0.win 4).blk t).view.emb (ix2 r (lane h e))) := rfl
  exact hc.trans ((hl r h e).trans (hw.trans (congrArg (whole m c) hr)).symm)

theorem mem_blk (t : Fin cfg0.N) (i : S16384x512.Idx) :
    i ∈ ((cfg0.win 4).blk t).view.set ↔ ∀ a, win0_4.index t a * win0_4.size a ≤ (i a : Nat)
      ∧ (i a : Nat) < win0_4.index t a * win0_4.size a + win0_4.xsize (grid0.coords t) a := by
  show i ∈ ((View.whole main_v0).slice (win0_4.rect t)).set ↔ _
  rw [View.set_slice_whole, Rect.mem_set_unit]

/-- The blocks tile the result. -/
theorem cover (i : S16384x512.Idx) :
    ∃ t : Fin cfg0.N, (cfg0.win 4).flush t = true ∧ i ∈ ((cfg0.win 4).blk t).view.set := by
  have h0 : (i 0 : Nat) < 16384 := (i 0).isLt
  have h1 : (i 1 : Nat) < 512 := (i 1).isLt
  have hN : cfg0.N = 256 := N_0
  obtain ⟨t, ht⟩ : ∃ t : Fin cfg0.N, t.val = (i 0 : Nat) / 2048 * 32 + (i 1 : Nat) / 128 * 8 + (i 0 : Nat) % 2048 / 256 :=
    ⟨⟨_, by omega⟩, rfl⟩
  refine ⟨t, flush0_4 _, ?_⟩
  rw [mem_blk]
  have f := (idx_facts t).2.2.2.2.1
  intro a
  match a with
  | ⟨0, _⟩ =>
    show win0_4.index _ 0 * 256 ≤ (i 0 : Nat) ∧ (i 0 : Nat) < win0_4.index _ 0 * 256 + 256
    rw [f.1]; omega
  | ⟨1, _⟩ =>
    show win0_4.index _ 1 * 128 ≤ (i 1 : Nat) ∧ (i 1 : Nat) < win0_4.index _ 1 * 128 + 128
    rw [f.2]; omega

/-- So the result array is the whole result. -/
theorem final (c : Dev nD) (hq : ∀ i, argQ m c i = (qr i : EReal)) (hk : ∀ i, argK m c i = (kr i : EReal))
    (hl : ∀ i, argL m c i = (lr i : EReal)) : (dats m 0 c).arrAt 4 cfg0.N = whole m c :=
  (dats m 0 c).arrAt_eq_of_cover 4 (whole m c) (fun t _ => flushed_eq m qr kr lr c hq hk hl t) cover

end Cert.AttnIdeal.Array

end
-- ==== Proof.AttnClaims.lean ====
/-
  The claims about the attention's call: the frames, the idealization, and the value claim where queries, keys and
  gates are finite.
-/
module

public import proofs.«01_k».proof.Proof.AttnArray
public import proofs.«01_k».proof.Proof.Gen.Attn.Frame
public import proofs.«01_k».proof.Proof.Gen.Pre_finite
public import Idealize.ShloMosaic.Lib.Quiescent

@[expose] public section

noncomputable section

open Idealize.ShloMosaic Idealize.ShloMosaic.TcCoe Idealize.SL.Sem

namespace Cert.AttnClaims

theorem frame_kernel : Cert.quiescent_Attn := fun m ρ _ => Cert.Attn.Gen.frame m ρ

theorem frame_ideal : Cert.quiescent_AttnIdeal := fun m ρ _ => Cert.AttnIdeal.Gen.frame m ρ

theorem frame_ideal_finite : Cert.quiescent_AttnIdeal_pre_finite := fun m ρ _ => Cert.AttnIdeal.Gen.frame m ρ

theorem frame_ref : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem frame_ref_finite : Cert.quiescent_AttnRefIdeal_pre_finite := fun m ρ _ => frame_ref m ρ trivial

theorem preserves : Cert.preserves_Attn_AttnIdeal :=
  IdealRules.named_const.statement Cert.AttnIdeal.κ "mask" .f32 0xF149F2CA#32 ⊥ rfl

/-- A number whose absolute value is below infinity is real. -/
theorem real_of_abs (x : EReal) (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  refine (EReal.coe_toReal (fun hx => ?_) (fun hx => ?_)).symm
  · simp [hx, Ideal.cmp] at h
  · simp [hx, Ideal.cmp] at h

theorem real_of_finite (m : (ℓ : Loc Cert.AttnIdeal.nD Cert.AttnIdeal.τ Cert.AttnIdeal.sig) → Buf (Elt Ideal) ℓ)
    (hp : Cert.Pre_AttnIdeal_finite m) (c : Dev Cert.AttnIdeal.nD) :
    (∀ i, Cert.AttnIdeal.Array.argQ m c i = ((EReal.toReal (Cert.AttnIdeal.Array.argQ m c i) : ℝ) : EReal))
    ∧ (∀ i, Cert.AttnIdeal.Array.argK m c i = ((EReal.toReal (Cert.AttnIdeal.Array.argK m c i) : ℝ) : EReal))
    ∧ (∀ i, Cert.AttnIdeal.Array.argL m c i = ((EReal.toReal (Cert.AttnIdeal.Array.argL m c i) : ℝ) : EReal)) :=
  ⟨fun i => real_of_abs _ (congrFun (hp c).1 i), fun i => real_of_abs _ (congrFun (hp c).2.1 i),
    fun i => real_of_abs _ (congrFun (hp c).2.2 i)⟩

/-- On arguments that agree, the reference's result is the kernel's. -/
theorem ref_eq (m : (ℓ : Loc Cert.AttnIdeal.nD Cert.AttnIdeal.τ Cert.AttnIdeal.sig) → Buf (Elt Ideal) ℓ)
    (m' : (ℓ : Loc Cert.AttnRefIdeal.nD Cert.AttnRefIdeal.τ Cert.AttnRefIdeal.sig) → Buf (Elt Ideal) ℓ)
    (c : Dev Cert.AttnIdeal.nD)
    (h0 : m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0))
    (h1 : m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1))
    (h2 : m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2))
    (h3 : m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) :
    Cert.AttnRefIdeal.Value.res_main_v38 m' c = Cert.AttnIdeal.Array.whole m c := by
  refine (Cert.AttnRefIdeal.Read.val_main_v38_eq m' c).trans ?_
  rw [h0, h1, h2, h3]
  rfl

theorem algebraic : Cert.algebraic_AttnIdeal_AttnRefIdeal_pre_finite := by
  intro m ρ m' ρ' hp hag
  refine ⟨fun c => Cert.AttnIdeal.Array.whole m c, ?_, ?_⟩
  · exact (θ_run Cert.AttnIdeal.defs _ _).mono (fun _ h c => ⟨(h c).1.trans (Cert.AttnIdeal.Array.final m _ _ _ c
      (real_of_finite m hp c).1 (real_of_finite m hp c).2.1 (real_of_finite m hp c).2.2), (h c).2⟩)
      (Cert.AttnIdeal.Value.run_blocks (F := Ideal) m ρ)
  · exact (θ_run Cert.AttnRefIdeal.defs _ _).mono (fun _ h c => ⟨(h c).1.trans
      (ref_eq m m' c (hag c).1 (hag c).2.1 (hag c).2.2.1 (hag c).2.2.2), (h c).2⟩)
      (Cert.AttnRefIdeal.Value.run (F := Ideal) m' ρ')

end Cert.AttnClaims

end
-- ==== Proof.InProjSpec.lean ====
/-
  The layer's first projections, in plain words: one product of a row with the fused weight, of which the queries, keys,
  values, pooling inputs and forget logits are columns; and the logarithm of the sigmoid, which both programs write in
  their own way.
-/
module

public import Idealize.ShloMosaic.Lib.Pointwise

@[expose] public section

noncomputable section

open Idealize.ShloMosaic

namespace Cert.InProjSpec

/-- Column `j` of a row's product with the fused weight. -/
def proj (x : Fin 1024 → EReal) (w : Fin 1024 → Fin 4104 → EReal) (j : Fin 4104) : EReal := ∑ k : Fin 1024, x k * w k j

/-- The logarithm of the sigmoid, as the kernel writes it. -/
def logSig (f : EReal) : EReal := min f 0 - Ideal.log1p (Ideal.exp (0 - max f (-f)))

/-- An exponential is not negative. -/
theorem exp_nonneg (x : EReal) : 0 ≤ Ideal.exp x := by
  induction x with
  | bot => exact le_refl _
  | top => exact le_top
  | coe r => exact EReal.coe_nonneg.2 (Real.exp_pos r).le

/-- The logarithm of one plus a number that is not negative is not minus infinity. -/
theorem log1p_ne_bot (x : EReal) (hx : 0 ≤ x) : Ideal.log1p x ≠ ⊥ := by
  induction x with
  | bot => exact absurd hx (not_le.2 EReal.bot_lt_zero)
  | top => show Ideal.log (1 + ⊤) ≠ ⊥; rw [EReal.add_top_of_ne_bot (by decide)]; exact bot_ne_top.symm
  | coe r =>
    have hr : 0 ≤ r := EReal.coe_nonneg.1 hx
    show Ideal.log (((1 : ℝ) : EReal) + (r : EReal)) ≠ ⊥
    rw [← EReal.coe_add]
    show (if 1 + r ≤ 0 then ⊥ else ((Real.log (1 + r) : ℝ) : EReal)) ≠ ⊥
    rw [if_neg (by linarith)]
    exact EReal.coe_ne_bot _

/-- The reference takes the soft plus of the negated logit, `max (-f) 0 + log1p (exp (-|-f|))`, and negates it. The sum
    is never of two opposite infinities, so the sign goes through it. -/
theorem neg_softplus (f : EReal) : -(max (-f) 0 + Ideal.log1p (Ideal.exp (-max (-f) (- -f)))) = logSig f := by
  have h : max (-f) (- -f) = max f (-f) := by rw [neg_neg, max_comm]
  have hm : -max (-f) 0 = min f 0 := by rw [← neg_zero, EReal.max_neg_neg, neg_neg, neg_zero]
  have hA : max (-f) 0 ≠ ⊥ := ne_of_gt (lt_of_lt_of_le EReal.bot_lt_zero (le_max_right _ _))
  rw [EReal.neg_add (.inl hA) (.inr (log1p_ne_bot _ (exp_nonneg _))), hm, h]
  unfold logSig
  rw [zero_sub]

end Cert.InProjSpec

end
-- ==== Proof.InProjBlock.lean ====
/-
  One grid point of the first projections' kernel: the seven blocks it writes, read at a row and a column.
-/
module

public import proofs.«01_k».proof.Defs
public import proofs.«01_k».proof.Proof.InProjSpec
public import proofs.«01_k».proof.Proof.Gen.InProjIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InProjIdeal.Block

open Cert.InProjIdeal Cert.InProjIdeal.Gen

variable (x0 : Vec Ideal S512x1024 .f32) (x1 : Vec Ideal S1024x1536 .bf16) (x2 : Vec Ideal S1024x512 .bf16)
  (x3 : Vec Ideal S8x1024 .bf16) (x4 : Vec Ideal S8x1 .f32)

theorem hz : (![0, 0] : Fin 2 → Nat) = fun _ => 0 := funext fun a => by fin_cases a <;> rfl

/-- A row's product with the weight of the queries, keys and values. -/
theorem qkv_apply (r : Fin 512) (j : Fin 1536) : k0_pay3 x0 x1 (ix2 r j) = ∑ k : Fin 1024, x0 (ix2 r k) * x1 (ix2 k j) := by
  unfold k0_pay3 k0_pay2
  pointwise

theorem q_apply (r d : Fin 512) : out0_5 x0 x1 x2 x3 x4 (ix2 r d)
    = (∑ k : Fin 1024, x0 (ix2 r k) * x1 (ix2 k ⟨0 + d.val, by omega⟩)) * Ideal.ofBits .f32 0x3E000000#32 := by
  unfold out0_5
  rw [View.canon_unit_zero hz]
  repeat rw [View.ld_unit_zero hz]
  unfold k0_pay6
  have h := qkv_apply x0 x1 r
  generalize k0_pay3 x0 x1 = X at h ⊢
  pointwise
  rw [h]

theorem k_apply (r d : Fin 512) : out0_6 x0 x1 x2 x3 x4 (ix2 r d)
    = ∑ k : Fin 1024, x0 (ix2 r k) * x1 (ix2 k ⟨512 + d.val, by omega⟩) := by
  unfold out0_6
  rw [View.canon_unit_zero hz]
  repeat rw [View.ld_unit_zero hz]
  rw [← qkv_apply]
  unfold k0_pay4
  pointwise

theorem v_apply (r d : Fin 512) : out0_7 x0 x1 x2 x3 x4 (ix2 r d)
    = ∑ k : Fin 1024, x0 (ix2 r k) * x1 (ix2 k ⟨1024 + d.val, by omega⟩) := by
  unfold out0_7
  rw [View.canon_unit_zero hz]
  repeat rw [View.ld_unit_zero hz]
  rw [← qkv_apply]
  unfold k0_pay5
  pointwise

/-- The narrow copies hold the same numbers. -/
theorem kb_eq : out0_8 x0 x1 x2 x3 x4 = out0_6 x0 x1 x2 x3 x4 := by
  unfold out0_8 out0_6
  rw [View.canon_unit_zero hz, View.canon_unit_zero hz]
  rfl

theorem vb_eq : out0_9 x0 x1 x2 x3 x4 = out0_7 x0 x1 x2 x3 x4 := by
  unfold out0_9 out0_7
  rw [View.canon_unit_zero hz, View.canon_unit_zero hz]
  rfl

theorem u_apply (r d : Fin 512) : out0_10 x0 x1 x2 x3 x4 (ix2 r d) = ∑ k : Fin 1024, x0 (ix2 r k) * x2 (ix2 k d) := by
  unfold out0_10
  rw [View.canon_unit_zero hz]
  repeat rw [View.ld_unit_zero hz]
  unfold k0_pay9 k0_pay2
  pointwise

theorem g_apply (h : Fin 8) (r : Fin 512) : out0_11 x0 x1 x2 x3 x4 (ix2 h r)
    = InProjSpec.logSig ((∑ k : Fin 1024, x0 (ix2 r k) * x3 (ix2 h k)) + x4 (ix2 h 0)) := by
  unfold out0_11
  rw [View.canon_unit_zero hz]
  repeat rw [View.ld_unit_zero hz]
  unfold k0_pay1 k0_pay10 k0_pay11 k0_pay2
  have e : ∑ k : Fin 1024, x3 (ix2 h k) * x0 (ix2 r k) = ∑ k : Fin 1024, x0 (ix2 r k) * x3 (ix2 h k) :=
    Finset.sum_congr rfl fun k _ => mul_comm _ _
  pointwise [InProjSpec.logSig]
  rw [e]
  rfl

end Cert.InProjIdeal.Block

end
-- ==== Proof.InProjArray.lean ====
/-
  The first projections' seven result arrays, each as one function of the arguments. The 32 grid points take 512 rows each;
  the weights reach each point whole, as runs of the fused weight's columns.
-/
module

public import proofs.«01_k».proof.Proof.InProjBlock

@[expose] public section

set_option maxRecDepth 16384

noncomputable section

open Idealize.ShloMosaic Idealize.ShloMosaic.TcCoe Idealize.SL.Sem
open Idealize.ShloMosaic.Pipeline (Dat)

namespace Cert.InProjIdeal.Array

open Cert.InProjIdeal Cert.InProjIdeal.Gen

variable (m : (ℓ : Loc nD τ sig) → Buf (Elt Ideal) ℓ) (ρ : Dev nD → PrngReg)

/-- The arguments of device `c`, read as functions. -/
abbrev argX (c : Dev nD) (r : Fin 16384) (k : Fin 1024) : EReal := m ((c : Thread nD τ).loc main_arg0) (ix2 r k)
abbrev argW (c : Dev nD) (k : Fin 1024) (j : Fin 4104) : EReal := m ((c : Thread nD τ).loc main_arg1) (ix2 k j)
abbrev argF (c : Dev nD) (h : Fin 8) : EReal := m ((c : Thread nD τ).loc main_arg2) (ix1 h)

/-- The 512 columns of the product that begin at column `o`. -/
def part (c : Dev nD) (o : ℕ) (ho : o + 512 ≤ 4104) : S16384x512.Idx → EReal := fun i =>
  InProjSpec.proj (argX m c (i 0)) (argW m c) ⟨o + (i 1).val, by have h : (i 1).val < 512 := (i 1).isLt; omega⟩

/-- The queries, scaled. -/
def queries (c : Dev nD) : S16384x512.Idx → EReal := fun i =>
  part m c 0 (by omega) i * Ideal.ofBits .f32 0x3E000000#32

/-- The logarithms of the forget gates, a row a head. -/
def gates (c : Dev nD) : S8x16384.Idx → EReal := fun i =>
  InProjSpec.logSig (InProjSpec.proj (argX m c (i 1)) (argW m c)
    ⟨1536 + (i 0).val, by have h : (i 0).val < 8 := (i 0).isLt; omega⟩ + argF m c (i 0))

/-- The windows in: 512 rows a point for the rows, nothing for the rest. -/
theorem idx_in : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) :=
  (by decide +kernel : ∀ t : Fin grid0.N, _)

/-- The staged weights are the fused weight's columns: the casts on the way in change nothing here. -/
theorem V_v1 (c : Dev nD) (k : Fin 1024) (j : Fin 1536) : V m c main_v1 (ix2 k j) = argW m c k ⟨j.val, by omega⟩ := by
  have h : V m c main_v1 = extractStridedSlice S1024x1536 ![0, 0] (m ((c : Thread nD τ).loc main_arg1))
      slices_S1024x4104_S1024x1536_0_0 := by
    simp only [V, hostOps0]
    after_results_simp
    rfl
  rw [h]
  pointwise
theorem V_v4 (c : Dev nD) (h : Fin 8) (k : Fin 1024) : V m c main_v4 (ix2 h k) = argW m c k ⟨1536 + h.val, by omega⟩ := by
  have e : V m c main_v4 = transpose S8x1024 [1, 0] (extractStridedSlice S1024x8 ![0, 1536]
      (m ((c : Thread nD τ).loc main_arg1)) slices_S1024x4104_S1024x8_0_1536) transposes_S1024x8_S8x1024_1_0 := by
    simp only [V, hostOps0]
    after_results_simp
    rfl
  rw [e]
  pointwise
theorem V_v6 (c : Dev nD) (k : Fin 1024) (j : Fin 512) : V m c main_v6 (ix2 k j) = argW m c k ⟨1544 + j.val, by omega⟩ := by
  have h : V m c main_v6 = extractStridedSlice S1024x512 ![0, 1544] (m ((c : Thread nD τ).loc main_arg1))
      slices_S1024x4104_S1024x512_0_1544 := by
    simp only [V, hostOps0]
    after_results_simp
    rfl
  rw [h]
  pointwise
/-- The forget bias reaches the kernel as one column. -/
theorem V_v7 (c : Dev nD) (h : Fin 8) : V m c main_v7 (ix2 h 0) = argF m c h := by
  have e : V m c main_v7 = shapeCast S8x1 (m ((c : Thread nD τ).loc main_arg2)) shapeCasts_S8_S8x1 := by
    simp only [V, hostOps0]
    after_results_simp
    rfl
  rw [e]
  pointwise

theorem lt_N (t : Fin cfg0.N) : t.val < 32 := lt_of_lt_of_eq t.isLt N_0

/-- Row `r` of point `t`. -/
abbrev rowAt (t : Fin cfg0.N) (r : Fin 512) : Fin 16384 := ⟨512 * t.val + r.val, by have := lt_N t; omega⟩

/-! ## The blocks at a point -/

theorem blk_x (c : Dev nD) (t : Fin cfg0.N) (r : Fin 512) (k : Fin 1024) :
    iblk m c 0 t (ix2 r k) = argX m c (rowAt t r) k := by
  have e : iblk m c 0 t (ix2 r k) = V m c main_arg0 (((cfg0.win 0).blk t).view.emb (ix2 r k)) := rfl
  rw [e, V_main_arg0]
  refine congrArg (m ((c : Thread nD τ).loc main_arg0)) (funext fun a => Fin.ext ?_)
  have f := (idx_in t).1
  match a with
  | ⟨0, _⟩ => show win0_0.index t 0 * 512 + 1 * r.val = 512 * t.val + r.val; omega
  | ⟨1, _⟩ => show win0_0.index t 1 * 1024 + 1 * k.val = k.val; omega

theorem blk_qkv (c : Dev nD) (t : Fin cfg0.N) (k : Fin 1024) (j : Fin 1536) :
    iblk m c 1 t (ix2 k j) = argW m c k ⟨j.val, by omega⟩ := by
  have e : iblk m c 1 t (ix2 k j) = V m c main_v1 (((cfg0.win 1).blk t).view.emb (ix2 k j)) := rfl
  rw [e, ← V_v1]
  refine congrArg (V m c main_v1) (funext fun a => Fin.ext ?_)
  have f := (idx_in t).2.1
  match a with
  | ⟨0, _⟩ => show win0_1.index t 0 * 1024 + 1 * k.val = k.val; omega
  | ⟨1, _⟩ => show win0_1.index t 1 * 1536 + 1 * j.val = j.val; omega

theorem blk_u (c : Dev nD) (t : Fin cfg0.N) (k : Fin 1024) (j : Fin 512) :
    iblk m c 2 t (ix2 k j) = argW m c k ⟨1544 + j.val, by omega⟩ := by
  have e : iblk m c 2 t (ix2 k j) = V m c main_v6 (((cfg0.win 2).blk t).view.emb (ix2 k j)) := rfl
  rw [e, ← V_v6]
  refine congrArg (V m c main_v6) (funext fun a => Fin.ext ?_)
  have f := (idx_in t).2.2.1
  match a with
  | ⟨0, _⟩ => show win0_2.index t 0 * 1024 + 1 * k.val = k.val; omega
  | ⟨1, _⟩ => show win0_2.index t 1 * 512 + 1 * j.val = j.val; omega

theorem blk_f (c : Dev nD) (t : Fin cfg0.N) (h : Fin 8) (k : Fin 1024) :
    iblk m c 3 t (ix2 h k) = argW m c k ⟨1536 + h.val, by omega⟩ := by
  have e : iblk m c 3 t (ix2 h k) = V m c main_v4 (((cfg0.win 3).blk t).view.emb (ix2 h k)) := rfl
  rw [e, ← V_v4]
  refine congrArg (V m c main_v4) (funext fun a => Fin.ext ?_)
  have f := (idx_in t).2.2.2.1
  match a with
  | ⟨0, _⟩ => show win0_3.index t 0 * 8 + 1 * h.val = h.val; omega
  | ⟨1, _⟩ => show win0_3.index t 1 * 1024 + 1 * k.val = k.val; omega

theorem blk_bias (c : Dev nD) (t : Fin cfg0.N) (h : Fin 8) : iblk m c 4 t (ix2 h 0) = argF m c h := by
  have e : iblk m c 4 t (ix2 h 0) = V m c main_v7 (((cfg0.win 4).blk t).view.emb (ix2 h 0)) := rfl
  rw [e, ← V_v7]
  refine congrArg (V m c main_v7) (funext fun a => Fin.ext ?_)
  have f := (idx_in t).2.2.2.2
  match a with
  | ⟨0, _⟩ => show win0_4.index t 0 * 8 + 1 * h.val = h.val; omega
  | ⟨1, _⟩ => show win0_4.index t 1 * 1 + 1 * 0 = 0; omega

/-! ## The arrays -/

/-- The windows out: 512 rows a point, and of the gates 512 columns. -/
theorem idx_out : ∀ t : Fin cfg0.N,
    (win0_5.index t 0 = t.val ∧ win0_5.index t 1 = 0) ∧ (win0_11.index t 0 = 0 ∧ win0_11.index t 1 = t.val) :=
  (by decide +kernel : ∀ t : Fin grid0.N, _)

/-- Row `r` of point `t`'s block in an array of rows. The six arrays of rows are cut alike, so this serves them all. -/
theorem emb_rows (t : Fin cfg0.N) (r d : Fin 512) :
    (win0_5.blk t).view.emb (ix2 r d) = (ix2 (rowAt t r) d : S16384x512.Idx) := by
  refine funext fun a => Fin.ext ?_
  have f := (idx_out t).1
  match a with
  | ⟨0, _⟩ => show win0_5.index t 0 * 512 + 1 * r.val = 512 * t.val + r.val; omega
  | ⟨1, _⟩ => show win0_5.index t 1 * 512 + 1 * d.val = d.val; omega

theorem emb_gates (t : Fin cfg0.N) (h : Fin 8) (r : Fin 512) :
    (win0_11.blk t).view.emb (ix2 h r) = (ix2 h (rowAt t r) : S8x16384.Idx) := by
  refine funext fun a => Fin.ext ?_
  have f := (idx_out t).2
  match a with
  | ⟨0, _⟩ => show win0_11.index t 0 * 8 + 1 * h.val = h.val; omega
  | ⟨1, _⟩ => show win0_11.index t 1 * 512 + 1 * r.val = 512 * t.val + r.val; omega

/-- A block of rows that holds, at each row and column, the sum a part has there, is that part's block. -/
theorem block_part (c : Dev nD) (t : Fin cfg0.N) (o : ℕ) (ho : o + 512 ≤ 4104) (X : S512x512.Idx → EReal)
    (hX : ∀ r d : Fin 512, X (ix2 r d) = ∑ k : Fin 1024, argX m c (rowAt t r) k * argW m c k ⟨o + d.val, by omega⟩)
    (y : S512x512.Idx) : X y = part m c o ho ((win0_5.blk t).view.emb y) := by
  obtain ⟨r, d, rfl⟩ : ∃ (r : Fin 512) (d : Fin 512), y = ix2 r d := ⟨y 0, y 1, eq_ix2 y⟩
  rw [emb_rows, hX]
  rfl

theorem final_q (c : Dev nD) : (dats m 0 c).arrAt 5 cfg0.N = queries m c := by
  refine (dats m 0 c).arrAt_eq_of_covers 5 _ (by decide +kernel) fun t _ y => ?_
  blk_simp
  rw [after0_5]
  obtain ⟨r, d, rfl⟩ : ∃ (r : Fin 512) (d : Fin 512), y = ix2 r d := ⟨y 0, y 1, eq_ix2 y⟩
  rw [emb_rows, Block.q_apply]
  simp only [blk_x, blk_qkv]
  rfl

theorem final_k (c : Dev nD) : (dats m 0 c).arrAt 6 cfg0.N = part m c 512 (by omega) := by
  refine (dats m 0 c).arrAt_eq_of_covers 6 _ (by decide +kernel) fun t _ y => ?_
  blk_simp
  rw [after0_6]
  refine block_part m c t 512 (by omega) _ (fun r d => ?_) y
  rw [Block.k_apply]
  simp only [blk_x, blk_qkv]

theorem final_v (c : Dev nD) : (dats m 0 c).arrAt 7 cfg0.N = part m c 1024 (by omega) := by
  refine (dats m 0 c).arrAt_eq_of_covers 7 _ (by decide +kernel) fun t _ y => ?_
  blk_simp
  rw [after0_7]
  refine block_part m c t 1024 (by omega) _ (fun r d => ?_) y
  rw [Block.v_apply]
  simp only [blk_x, blk_qkv]

theorem final_kb (c : Dev nD) : (dats m 0 c).arrAt 8 cfg0.N = part m c 512 (by omega) := by
  refine (dats m 0 c).arrAt_eq_of_covers 8 _ (by decide +kernel) fun t _ y => ?_
  blk_simp
  rw [after0_8, Block.kb_eq]
  refine block_part m c t 512 (by omega) _ (fun r d => ?_) y
  rw [Block.k_apply]
  simp only [blk_x, blk_qkv]

theorem final_vb (c : Dev nD) : (dats m 0 c).arrAt 9 cfg0.N = part m c 1024 (by omega) := by
  refine (dats m 0 c).arrAt_eq_of_covers 9 _ (by decide +kernel) fun t _ y => ?_
  blk_simp
  rw [after0_9, Block.vb_eq]
  refine block_part m c t 1024 (by omega) _ (fun r d => ?_) y
  rw [Block.v_apply]
  simp only [blk_x, blk_qkv]

theorem final_u (c : Dev nD) : (dats m 0 c).arrAt 10 cfg0.N = part m c 1544 (by omega) := by
  refine (dats m 0 c).arrAt_eq_of_covers 10 _ (by decide +kernel) fun t _ y => ?_
  blk_simp
  rw [after0_10]
  refine block_part m c t 1544 (by omega) _ (fun r d => ?_) y
  rw [Block.u_apply]
  simp only [blk_x, blk_u]

theorem final_g (c : Dev nD) : (dats m 0 c).arrAt 11 cfg0.N = gates m c := by
  refine (dats m 0 c).arrAt_eq_of_covers 11 _ (by decide +kernel) fun t _ y => ?_
  blk_simp
  rw [after0_11]
  obtain ⟨h, r, rfl⟩ : ∃ (h : Fin 8) (r : Fin 512), y = ix2 h r := ⟨y 0, y 1, eq_ix2 y⟩
  rw [emb_gates, Block.g_apply]
  simp only [blk_x, blk_f, blk_bias]
  rfl

end Cert.InProjIdeal.Array

end
-- ==== Proof.InProjRefValue.lean ====
/-
  The first projections' reference, read at a row and a column: the same columns of the product, and the same gates.
-/
module

public import proofs.«01_k».proof.Defs
public import proofs.«01_k».proof.Proof.InProjSpec
public import proofs.«01_k».proof.Proof.Gen.InProjRefIdeal.Read
public import Idealize.ShloMosaic.Lib.Pointwise

@[expose] public section

set_option maxRecDepth 16384

noncomputable section

open Idealize.ShloMosaic Idealize.ShloMosaic.TcCoe Idealize.SL.Sem

namespace Cert.InProjRefIdeal.Value

open Cert.InProjRefIdeal Cert.InProjRefIdeal.Read

variable (x0 : (⟨S16384x1024, .f32⟩ : BufTy).Contents (Elt Ideal)) (x1 : (⟨S1024x4104, .f32⟩ : BufTy).Contents (Elt Ideal))
  (x2 : (⟨S8, .f32⟩ : BufTy).Contents (Elt Ideal))

/-- The product at row `r`, column `j`. -/
theorem v0_apply (r : Fin 16384) (j : Fin 4104) : val_main_v0 (F := Ideal) x0 x1 (ix2 r j)
    = InProjSpec.proj (fun k => x0 (ix2 r k)) (fun k j => x1 (ix2 k j)) j := by
  unfold val_main_v0
  pointwise [InProjSpec.proj]

theorem k_apply (r : Fin 16384) (d : Fin 512) : val_main_v2 (F := Ideal) x0 x1 (ix2 r d)
    = InProjSpec.proj (fun k => x0 (ix2 r k)) (fun k j => x1 (ix2 k j)) ⟨512 + d.val, by omega⟩ := by
  rw [← v0_apply]
  unfold val_main_v2
  pointwise

theorem v_apply (r : Fin 16384) (d : Fin 512) : val_main_v3 (F := Ideal) x0 x1 (ix2 r d)
    = InProjSpec.proj (fun k => x0 (ix2 r k)) (fun k j => x1 (ix2 k j)) ⟨1024 + d.val, by omega⟩ := by
  rw [← v0_apply]
  unfold val_main_v3
  pointwise

theorem u_apply (r : Fin 16384) (d : Fin 512) : val_main_v5 (F := Ideal) x0 x1 (ix2 r d)
    = InProjSpec.proj (fun k => x0 (ix2 r k)) (fun k j => x1 (ix2 k j)) ⟨1544 + d.val, by omega⟩ := by
  rw [← v0_apply]
  unfold val_main_v5
  pointwise

theorem q_apply (r : Fin 16384) (d : Fin 512) : val_main_v14 (F := Ideal) x0 x1 (ix2 r d)
    = InProjSpec.proj (fun k => x0 (ix2 r k)) (fun k j => x1 (ix2 k j)) ⟨0 + d.val, by omega⟩
      * Ideal.ofBits .f32 0x3E000000#32 := by
  rw [← v0_apply]
  unfold val_main_v14 val_main_v13 val_main_v12 val_main_v1
  pointwise
  rfl

/-- The gate's logit at row `r`, head `h`. -/
theorem v10_apply (r : Fin 16384) (h : Fin 8) : val_main_v10 (F := Ideal) x0 x1 x2 (ix2 r h)
    = InProjSpec.proj (fun k => x0 (ix2 r k)) (fun k j => x1 (ix2 k j)) ⟨1536 + h.val, by omega⟩ + x2 (ix1 h) := by
  rw [← v0_apply]
  unfold val_main_v10 val_main_v4 val_main_v9 val_main_v8
  pointwise

/-- The gate at head `h`, row `r`. -/
theorem g_apply (h : Fin 8) (r : Fin 16384) : val_main_v17 (F := Ideal) x0 x1 x2 (ix2 h r)
    = InProjSpec.logSig (val_main_v10 (F := Ideal) x0 x1 x2 (ix2 r h)) := by
  rw [← InProjSpec.neg_softplus]
  unfold val_main_v17 val_main_v11 val_main_call0_v1 val_main_call0_call0_v11 val_main_call0_call0_v10
    val_main_call0_call0_v9 val_main_call0_call0_v8 val_main_call0_call0_v7 val_main_call0_call0_v6 val_main_call0_call0_v4
    val_main_call0_call0_v3 val_main_call0_call0_v1 val_main_call0_call0_v0 val_main_call0_call0_v2 val_main_call0_call0_v5
    val_main_call0_call0_cst val_main_call0_v0
  generalize val_main_v10 (F := Ideal) x0 x1 x2 = z
  pointwise
  rw [if_neg (not_not.2 rfl)]
  rfl

end Cert.InProjRefIdeal.Value

end
-- ==== Proof.InProjClaims.lean ====
/-
  The five claims about the first projections' call: the three frames, the idealization, and the value claim.
-/
module

public import proofs.«01_k».proof.Proof.InProjArray
public import proofs.«01_k».proof.Proof.InProjRefValue
public import proofs.«01_k».proof.Proof.Gen.InProj.Frame
public import Idealize.ShloMosaic.Lib.Quiescent

@[expose] public section

noncomputable section

open Idealize.ShloMosaic Idealize.ShloMosaic.TcCoe Idealize.SL.Sem

namespace Cert.InProjClaims

theorem frame_kernel : Cert.quiescent_InProj := fun m ρ _ => Cert.InProj.Gen.frame m ρ

theorem frame_ideal : Cert.quiescent_InProjIdeal := fun m ρ _ => Cert.InProjIdeal.Gen.frame m ρ

theorem frame_ref : Cert.quiescent_InProjRefIdeal := fun m ρ _ =>
  (θ_run Cert.InProjRefIdeal.defs _ _).mono
    (fun r h => ⟨fun c => (h c).2.2.2.2.2.2.2, sem_eq_zero_of_no_sems (by decide) r.2⟩)
    (Cert.InProjRefIdeal.Value.run (F := Ideal) m ρ)

theorem preserves : Cert.preserves_InProj_InProjIdeal := trivial

/-! ## The reference's results on the kernel's arguments -/

section
variable (m : (ℓ : Loc Cert.InProjIdeal.nD Cert.InProjIdeal.τ Cert.InProjIdeal.sig) → Buf (Elt Ideal) ℓ) (c : Dev Cert.InProjIdeal.nD)

open Cert.InProjIdeal Cert.InProjRefIdeal.Read

/-- The kernel's arguments as the reference takes them. -/
abbrev a0 := m ((c : Thread nD τ).loc main_arg0)
abbrev a1 := m ((c : Thread nD τ).loc main_arg1)
abbrev a2 := m ((c : Thread nD τ).loc main_arg2)

theorem ref_q : val_main_v14 (F := Ideal) (a0 m c) (a1 m c) = Array.queries m c := by
  funext i
  obtain ⟨r, d, rfl⟩ : ∃ (r : Fin 16384) (d : Fin 512), i = ix2 r d := ⟨i 0, i 1, eq_ix2 i⟩
  exact Cert.InProjRefIdeal.Value.q_apply _ _ r d

theorem ref_k : val_main_v2 (F := Ideal) (a0 m c) (a1 m c) = Array.part m c 512 (by omega) := by
  funext i
  obtain ⟨r, d, rfl⟩ : ∃ (r : Fin 16384) (d : Fin 512), i = ix2 r d := ⟨i 0, i 1, eq_ix2 i⟩
  exact Cert.InProjRefIdeal.Value.k_apply _ _ r d

theorem ref_v : val_main_v3 (F := Ideal) (a0 m c) (a1 m c) = Array.part m c 1024 (by omega) := by
  funext i
  obtain ⟨r, d, rfl⟩ : ∃ (r : Fin 16384) (d : Fin 512), i = ix2 r d := ⟨i 0, i 1, eq_ix2 i⟩
  exact Cert.InProjRefIdeal.Value.v_apply _ _ r d

/-- The narrow copies hold the same numbers. -/
theorem ref_kb : val_main_v15 (F := Ideal) (a0 m c) (a1 m c) = Array.part m c 512 (by omega) := ref_k m c

theorem ref_vb : val_main_v16 (F := Ideal) (a0 m c) (a1 m c) = Array.part m c 1024 (by omega) := ref_v m c

theorem ref_u : val_main_v5 (F := Ideal) (a0 m c) (a1 m c) = Array.part m c 1544 (by omega) := by
  funext i
  obtain ⟨r, d, rfl⟩ : ∃ (r : Fin 16384) (d : Fin 512), i = ix2 r d := ⟨i 0, i 1, eq_ix2 i⟩
  exact Cert.InProjRefIdeal.Value.u_apply _ _ r d

theorem ref_g : val_main_v17 (F := Ideal) (a0 m c) (a1 m c) (a2 m c) = Array.gates m c := by
  funext i
  obtain ⟨h, r, rfl⟩ : ∃ (h : Fin 8) (r : Fin 16384), i = ix2 h r := ⟨i 0, i 1, eq_ix2 i⟩
  refine (Cert.InProjRefIdeal.Value.g_apply _ _ _ h r).trans ?_
  rw [Cert.InProjRefIdeal.Value.v10_apply]
  rfl

end

theorem algebraic : Cert.algebraic_InProjIdeal_InProjRefIdeal := by
  intro m ρ m' ρ' _ hag
  refine ⟨fun c => Cert.InProjIdeal.Array.queries m c, fun c => Cert.InProjIdeal.Array.part m c 512 (by omega),
    fun c => Cert.InProjIdeal.Array.part m c 1024 (by omega), fun c => Cert.InProjIdeal.Array.part m c 512 (by omega),
    fun c => Cert.InProjIdeal.Array.part m c 1024 (by omega), fun c => Cert.InProjIdeal.Array.part m c 1544 (by omega),
    fun c => Cert.InProjIdeal.Array.gates m c, ?_, ?_⟩
  · refine (θ_run Cert.InProjIdeal.defs _ _).mono (fun _ h c => ?_) (Cert.InProjIdeal.Value.run_blocks (F := Ideal) m ρ)
    obtain ⟨r0, r1, r2, r3, r4, r5, r6, rest⟩ := h c
    exact ⟨r0.trans (Cert.InProjIdeal.Array.final_q m c), r1.trans (Cert.InProjIdeal.Array.final_k m c),
      r2.trans (Cert.InProjIdeal.Array.final_v m c), r3.trans (Cert.InProjIdeal.Array.final_kb m c),
      r4.trans (Cert.InProjIdeal.Array.final_vb m c), r5.trans (Cert.InProjIdeal.Array.final_u m c),
      r6.trans (Cert.InProjIdeal.Array.final_g m c), rest⟩
  · refine (θ_run Cert.InProjRefIdeal.defs _ _).mono (fun _ h c => ?_) (Cert.InProjRefIdeal.Value.run (F := Ideal) m' ρ')
    obtain ⟨r0, r1, r2, r3, r4, r5, r6, rest⟩ := h c
    obtain ⟨h0, h1, h2⟩ := hag c
    refine ⟨r0.trans ?_, r1.trans ?_, r2.trans ?_, r3.trans ?_, r4.trans ?_, r5.trans ?_, r6.trans ?_, rest⟩
    · rw [h0, h1]; exact ref_q m c
    · rw [h0, h1]; exact ref_k m c
    · rw [h0, h1]; exact ref_v m c
    · rw [h0, h1]; exact ref_kb m c
    · rw [h0, h1]; exact ref_vb m c
    · rw [h0, h1]; exact ref_u m c
    · rw [h0, h1, h2]; exact ref_g m c

end Cert.InProjClaims

end
-- ==== Proof.MergeSpec.lean ====
/-
  The merge of one row as a function of extended reals: the pooling of the row's trailing windows, its projection by
  group, the two gates, the gated sum of the two branches, the output projection, and the layer norm of the sum with
  the scaled row. Both the kernel and the reference are shown to compute this function; nothing here mentions a program.
-/
module

public import proofs.«01_k».proof.Proof.FfnSpec
public import proofs.«01_k».proof.Proof.AttnSpec

@[expose] public section

noncomputable section

open Idealize.ShloMosaic

namespace Cert.MergeSpec

/-- The entry `k` rows before row `r` of a column of the pooling input, zero before the sequence's start. -/
def back (u : Fin 16384 → EReal) (r : Fin 16384) (k : ℕ) : EReal :=
  if k ≤ r.val % 2048 then u ⟨r.val - k, by omega⟩ else 0

/-- How many positions of a window of `w` that ends at row `r` lie in the sequence. -/
def count (r : Fin 16384) (w : ℕ) : EReal := (((min (r.val % 2048 + 1) w : ℕ) : ℝ) : EReal)

/-- The mean of the trailing window of `w` rows, less the row itself. -/
def mixed (u : Fin 16384 → EReal) (r : Fin 16384) (w : ℕ) : EReal :=
  (∑ k ∈ Finset.range w, back u r k) * Ideal.div 1 (count r w) - u r

/-- The window of group `g`: 2, 4, 8 or 16 rows. -/
def width (g : ℕ) : ℕ := 2 ^ (g + 1)

/-- The pooled row at column `j`: the group's linear map of its 128 mixed channels, scaled. -/
def pooled (u : Fin 16384 → Fin 512 → EReal) (wg : Fin 4 → Fin 128 → Fin 128 → EReal) (ps : Fin 512 → EReal)
    (r : Fin 16384) (j : Fin 512) : EReal :=
  (∑ k : Fin 128, mixed (fun r => u r ⟨j.val / 128 * 128 + k.val, by omega⟩) r (width (j.val / 128))
    * wg ⟨j.val / 128, by omega⟩ k ⟨j.val % 128, by omega⟩) * ps j

/-- Gate `j` of the row `x`. -/
def gate (x : Fin 1024 → EReal) (w : Fin 1024 → Fin 2048 → EReal) (j : Fin 2048) : EReal :=
  Ideal.logistic (∑ k : Fin 1024, x k * w k j)

/-- The gated sum of the attention's branch and the pooling's branch. -/
def merged (x : Fin 1024 → EReal) (o p : Fin 512 → EReal) (w : Fin 1024 → Fin 2048 → EReal)
    (wa wb : Fin 512 → Fin 1024 → EReal) (d : Fin 1024) : EReal :=
  gate x w ⟨d.val, by omega⟩ * (∑ k : Fin 512, o k * wa k d)
    + gate x w ⟨1024 + d.val, by omega⟩ * (∑ k : Fin 512, p k * wb k d)

/-- The scaled row plus the projected merge. -/
def hidden (x : Fin 1024 → EReal) (o p : Fin 512 → EReal) (w : Fin 1024 → Fin 2048 → EReal)
    (wa wb : Fin 512 → Fin 1024 → EReal) (wo : Fin 1024 → Fin 1024 → EReal) (d : Fin 1024) : EReal :=
  Ideal.ofBits .f32 0x3FD744FD#32 * x d + ∑ k : Fin 1024, merged x o p w wa wb k * wo k d

/-- The whole call on one row, of the pooled row `p`. -/
def layer (x : Fin 1024 → EReal) (o p : Fin 512 → EReal) (w : Fin 1024 → Fin 2048 → EReal)
    (wa wb : Fin 512 → Fin 1024 → EReal) (wo : Fin 1024 → Fin 1024 → EReal) (g b : Fin 1024 → EReal) (d : Fin 1024) : EReal :=
  FfnSpec.norm (hidden x o p w wa wb wo) g b d

/-- Of finite entries, the running sum at the window's end less the running sum before it is the window's sum. -/
theorem sub_sums (f : ℕ → EReal) (hf : ∀ i, f i = (((f i).toReal : ℝ) : EReal)) (n w : ℕ) :
    ∑ i ∈ Finset.range (n + w), f i - ∑ i ∈ Finset.range n, f i = ∑ k ∈ Finset.range w, f (n + w - 1 - k) := by
  have hs : ∀ (s : Finset ℕ) (e : ℕ → ℕ), ∑ i ∈ s, f (e i) = ((∑ i ∈ s, (f (e i)).toReal : ℝ) : EReal) := fun s e => by
    rw [AttnSpec.coe_sum]
    exact Finset.sum_congr rfl fun i _ => hf _
  have h0 := hs (Finset.range n) id
  simp only [id] at h0
  rw [Finset.sum_range_add, h0, hs (Finset.range w) (fun x => n + x), ← EReal.coe_add, ← EReal.coe_sub,
    add_sub_cancel_left, ← hs (Finset.range w) (fun x => n + x), ← Finset.sum_range_reflect]
  refine Finset.sum_congr rfl fun k hk => ?_
  rw [Finset.mem_range] at hk
  rw [show n + (w - 1 - k) = n + w - 1 - k by omega]

/-- A division by a count is a product with its reciprocal. -/
theorem div_count (a : EReal) (r : Fin 16384) (w : ℕ) (hw : 0 < w) :
    Ideal.div a (count r w) = a * Ideal.div 1 (count r w) := by
  have h : count r w ≠ 0 := by
    unfold count
    rw [Ne, EReal.coe_eq_zero, Nat.cast_eq_zero]
    omega
  unfold Ideal.div
  rw [if_neg h, if_neg h, one_mul]

theorem toInt_ofNat (n : ℕ) (h : n < 4096) : (BitVec.ofNat 32 n).toInt = n := by
  rw [BitVec.toInt_eq_toNat_of_lt (by rw [BitVec.toNat_ofNat]; omega), BitVec.toNat_ofNat]
  omega

/-- The count as both programs compute it, on 32-bit words. -/
theorem count_word (r : Fin 16384) (w : ℕ) (hw : w ≤ 16) :
    (((IntOp.minsi (IntOp.addi (BitVec.ofNat 32 (r.val % 2048)) 1#32) (BitVec.ofNat 32 w)).toInt : ℝ) : EReal) = count r w := by
  have h1 : IntOp.addi (BitVec.ofNat 32 (r.val % 2048)) 1#32 = BitVec.ofNat 32 (r.val % 2048 + 1) := by
    show BitVec.ofNat 32 (r.val % 2048) + BitVec.ofNat 32 1 = _
    rw [← BitVec.ofNat_add]
  have h : (IntOp.minsi (BitVec.ofNat 32 (r.val % 2048 + 1)) (BitVec.ofNat 32 w)).toInt = ((min (r.val % 2048 + 1) w : ℕ) : ℤ) := by
    unfold IntOp.minsi
    rw [BitVec.slt_eq_decide, toInt_ofNat _ (by omega), toInt_ofNat _ (by omega)]
    by_cases hc : ((r.val % 2048 + 1 : ℕ) : ℤ) < (w : ℤ)
    · rw [decide_eq_true hc, if_pos rfl, toInt_ofNat _ (by omega)]; omega
    · rw [decide_eq_false hc, if_neg (by decide), toInt_ofNat _ (by omega)]; omega
  rw [h1, h]
  rfl

end Cert.MergeSpec

end
-- ==== Proof.MergePool.lean ====
/-
  The pooling inside one grid point of the merge kernel. A point holds 512 rows of the pooling input and the 16 rows
  before them (zeros at the start of a sequence); each group of 128 channels sums its trailing window of 2, 4, 8 or 16
  rows by repeated doubling, and what is read at a row is `MergeSpec.mixed`.
-/
module

public import proofs.«01_k».proof.Defs
public import proofs.«01_k».proof.Proof.MergeSpec
public import proofs.«01_k».proof.Proof.Gen.MergeIdeal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.MergeIdeal.Pool

open Cert.MergeIdeal Cert.MergeIdeal.Gen

/-! ## Windows by doubling -/

/-- Every row takes the row `d` before it on top. -/
def shift (d : BitVec 32) (v : FVec Ideal S528x128 .f32) : FVec Ideal S528x128 .f32 :=
  addf v (dynamicRotate 0 d none v rotates_S528x128_d0)

theorem shift_apply (d : BitVec 32) (v : FVec Ideal S528x128 .f32) (p : Fin 528) (c : Fin 128) :
    shift d v (ix2 p c) = v (ix2 p c) + v (ix2 ⟨(p.val + 528 - d.toNat % 528) % 528, Nat.mod_lt _ (by decide)⟩ c) := by
  pointwise [shift]

/-- `v` holds, at each row with `w` rows up to it, the sum of the last `w` values of `f` up to the row. -/
def Window (v : FVec Ideal S528x128 .f32) (c : Fin 128) (f : ℕ → EReal) (w : ℕ) : Prop :=
  ∀ p : Fin 528, w ≤ p.val + 1 → v (ix2 p c) = ∑ k ∈ Finset.range w, f (p.val - k)

theorem shift_window (v : FVec Ideal S528x128 .f32) (c : Fin 128) (f : ℕ → EReal) (w : ℕ) (hw : w < 528)
    (H : Window v c f w) : Window (shift (BitVec.ofNat 32 w) v) c f (w + w) := fun p hp => by
  have hd : (BitVec.ofNat 32 w).toNat = w := by rw [BitVec.toNat_ofNat]; omega
  have hi : (⟨(p.val + 528 - (BitVec.ofNat 32 w).toNat % 528) % 528, Nat.mod_lt _ (by decide)⟩ : Fin 528)
      = ⟨p.val - w, by omega⟩ := Fin.ext (by
    show (p.val + 528 - (BitVec.ofNat 32 w).toNat % 528) % 528 = p.val - w
    rw [hd]; omega)
  rw [shift_apply, H p (by omega), hi, H ⟨p.val - w, by omega⟩ (by show w ≤ p.val - w + 1; omega), Finset.sum_range_add]
  refine congrArg (_ + ·) (Finset.sum_congr rfl fun k _ => congrArg f ?_)
  show p.val - w - k = _
  omega

theorem window_one (v : FVec Ideal S528x128 .f32) (c : Fin 128) (f : ℕ → EReal) (hf : ∀ p : Fin 528, v (ix2 p c) = f p.val) :
    Window v c f 1 := fun p _ => by
  rw [hf, Finset.sum_range_one, Nat.sub_zero]

/-- The sums of 2, 4, 8 and 16 rows. -/
def two (v : FVec Ideal S528x128 .f32) : FVec Ideal S528x128 .f32 := shift 1#32 v
def four (v : FVec Ideal S528x128 .f32) : FVec Ideal S528x128 .f32 := shift 2#32 (two v)
def eight (v : FVec Ideal S528x128 .f32) : FVec Ideal S528x128 .f32 := shift 4#32 (four v)
def sixteen (v : FVec Ideal S528x128 .f32) : FVec Ideal S528x128 .f32 := shift 8#32 (eight v)

section
variable (v : FVec Ideal S528x128 .f32) (c : Fin 128) (f : ℕ → EReal) (hf : ∀ p : Fin 528, v (ix2 p c) = f p.val)
include hf
theorem two_window : Window (two v) c f 2 := shift_window v c f 1 (by decide) (window_one v c f hf)
theorem four_window : Window (four v) c f 4 := shift_window _ c f 2 (by decide) (two_window v c f hf)
theorem eight_window : Window (eight v) c f 8 := shift_window _ c f 4 (by decide) (four_window v c f hf)
theorem sixteen_window : Window (sixteen v) c f 16 := shift_window _ c f 8 (by decide) (eight_window v c f hf)
end

/-! ## Positions -/

/-- The point's quarter of its sequence, as the body computes it. -/
def quarter (i : grid0.Coords) : BitVec 32 :=
  let n : BitVec 32 := Scalar.select (Scalar.cmpi .eq 4#32 0#32) 1#32 4#32
  let q : BitVec 32 := Scalar.remsi (BitVec.ofNat 32 (i 0).val) n
  Scalar.select (Scalar.andi (Scalar.xori (Scalar.cmpi .slt q 0#32) (Scalar.cmpi .slt n 0#32)) (Scalar.cmpi .ne q 0#32))
    (Scalar.addi q n) q

theorem quarter_eq (i : grid0.Coords) (t : Fin 32) (ht : (i 0).val = t.val) : quarter i = BitVec.ofNat 32 (t.val % 4) := by
  have h : ∀ t : Fin 32, (let n : BitVec 32 := Scalar.select (Scalar.cmpi .eq 4#32 0#32) 1#32 4#32
      let q : BitVec 32 := Scalar.remsi (BitVec.ofNat 32 t.val) n
      Scalar.select (Scalar.andi (Scalar.xori (Scalar.cmpi .slt q 0#32) (Scalar.cmpi .slt n 0#32)) (Scalar.cmpi .ne q 0#32))
        (Scalar.addi q n) q) = BitVec.ofNat 32 (t.val % 4) := by decide +kernel
  unfold quarter
  rw [ht]
  exact h t

/-- The rows' positions, as the body computes them. -/
theorem pos_apply (i : grid0.Coords) (t : Fin 32) (ht : (i 0).val = t.val) (r : Fin 512) :
    k0_pay3 i (ix2 r 0) = BitVec.ofNat 32 ((512 * t.val + r.val) % 2048) := by
  have e : k0_pay3 i = addi (broadcast S512x1 (Scalar.muli (quarter i) 512#32)) (iota .tc S512x1 32 [0] iota_S512x1_d0_w32) := rfl
  rw [e, quarter_eq i t ht]
  have hr := r.isLt
  pointwise
  have hm : Scalar.muli (BitVec.ofNat 32 (t.val % 4)) 512#32 = BitVec.ofNat 32 (t.val % 4 * 512) :=
    (BitVec.ofNat_mul _ _).symm
  rw [hm]
  refine (BitVec.ofNat_add _ _).symm.trans (congrArg (BitVec.ofNat 32) ?_)
  omega

/-- The point's channel `c` by its row, the 16 rows before the point first. -/
def at_ (U : Fin 16384 → EReal) (t : Fin 32) (p : ℕ) : EReal :=
  if h : (t.val % 4 = 0 ∧ p < 16) ∨ 528 ≤ p then 0 else U ⟨512 * t.val + p - 16, by omega⟩

theorem at_back (U : Fin 16384 → EReal) (t : Fin 32) (r : Fin 512) (k : ℕ) (hk : k < 16) :
    at_ U t (r.val + 16 - k) = MergeSpec.back U ⟨512 * t.val + r.val, by omega⟩ k := by
  have hr := r.isLt
  unfold at_ MergeSpec.back
  by_cases h : t.val % 4 = 0 ∧ r.val + 16 - k < 16
  · rw [dif_pos (.inl h), if_neg (by dsimp only; omega)]
  · rw [dif_neg (by omega), if_pos (by dsimp only; omega)]
    refine congrArg U (Fin.ext ?_)
    show 512 * t.val + (r.val + 16 - k) - 16 = 512 * t.val + r.val - k
    omega

/-- Row `r` of point `t`, and row `p` of the 16 before it. -/
abbrev rowAt (t : Fin 32) (r : Fin 512) : Fin 16384 := ⟨512 * t.val + r.val, by omega⟩
abbrev rowBefore (t : Fin 32) (p : Fin 16) : Fin 16384 := ⟨512 * t.val + p.val - 16, by omega⟩

variable (i : grid0.Coords) (t : Fin 32) (ht : (i 0).val = t.val) (x2 : Vec Ideal S512x512 .f32) (x3 : Vec Ideal S16x512 .f32)
  (U : Fin 16384 → Fin 512 → EReal)
  (h2 : ∀ (r : Fin 512) (c : Fin 512), x2 (ix2 r c) = U (rowAt t r) c)
  (h3 : t.val % 4 ≠ 0 → ∀ (p : Fin 16) (c : Fin 512), x3 (ix2 p c) = U (rowBefore t p) c)
include ht h2 h3

theorem rows_apply (p : Fin 528) (c : Fin 512) : k0_pay2 i x2 x3 (ix2 p c) = at_ (fun r => U r c) t p.val := by
  have hp := p.isLt
  have hs : (Scalar.select (Scalar.cmpi .eq (quarter i) 0#32) (broadcast S16x512 (Scalar.ofBits .f32 0x00000000#32)) x3
      : FVec Ideal S16x512 .f32) = if t.val % 4 = 0 then broadcast S16x512 (Scalar.ofBits .f32 0x00000000#32) else x3 := by
    rw [quarter_eq i t ht]
    by_cases hq : t.val % 4 = 0
    · rw [if_pos hq, hq]; rfl
    · have hc : ∀ q : Fin 4, q.val ≠ 0 → Scalar.cmpi .eq (BitVec.ofNat 32 q.val) 0#32 = 0#1 := by decide
      rw [if_neg hq, hc ⟨t.val % 4, by omega⟩ hq]; rfl
  have e : k0_pay2 i x2 x3 = concatenate S528x512 0 [⟨S16x512, (Scalar.select (Scalar.cmpi .eq (quarter i) 0#32)
      (broadcast S16x512 (Scalar.ofBits .f32 0x00000000#32)) x3 : FVec Ideal S16x512 .f32)⟩, ⟨S512x512, x2⟩]
      concatenates_S16x512_S512x512_S528x512_d0 := rfl
  rw [e, hs]
  unfold at_
  by_cases hh : p.val < 16
  · by_cases hq : t.val % 4 = 0
    · rw [dif_pos (.inl ⟨hq, hh⟩), if_pos hq]
      pointwise
      rw [dif_pos hh]
    · rw [dif_neg (by omega), if_neg hq]
      pointwise
      rw [dif_pos hh, h3 hq]
  · rw [dif_neg (by omega)]
    generalize (if t.val % 4 = 0 then broadcast S16x512 (Scalar.ofBits .f32 0x00000000#32) else x3 : FVec Ideal S16x512 .f32) = y
    pointwise
    rw [dif_neg hh, h2]
    refine congrArg (fun r => U r c) (Fin.ext ?_)
    show 512 * t.val + (p.val - 16) = 512 * t.val + p.val - 16
    omega

/-! ## Means -/

/-- The reciprocals of the rows' counts. -/
def scale (pos : IVec S512x1 32) (w : BitVec 32) : FVec Ideal S512x1 .f32 :=
  divf (broadcast S512x1 (Scalar.ofBits .f32 0x3F800000#32))
    (sitofp .f32 (minsi (addi pos (broadcast S512x1 1#32)) (broadcast S512x1 w)))

/-- The windows' means less the rows themselves. -/
def means (v : FVec Ideal S528x128 .f32) (pos : IVec S512x1 32) (w : BitVec 32) (o : FVec Ideal S512x128 .f32) :
    FVec Ideal S512x128 .f32 :=
  subf (mulf (extractStridedSlice S512x128 ![16, 0] v slices_S528x128_o16_0_S512x128)
    (broadcastTo S512x128 (scale pos w) broadcasts_S512x1_S512x128)) o

omit h2 h3 in
theorem means_apply (v : FVec Ideal S528x128 .f32) (o : FVec Ideal S512x128 .f32) (c : Fin 128) (d : Fin 512) (w : ℕ) (hw : w ≤ 16)
    (hv : Window v c (at_ (fun r => U r d) t) w) (r : Fin 512) (ho : o (ix2 r c) = U (rowAt t r) d) :
    means v (k0_pay3 i) (BitVec.ofNat 32 w) o (ix2 r c) = MergeSpec.mixed (fun r => U r d) (rowAt t r) w := by
  have hr := r.isLt
  have e : means v (k0_pay3 i) (BitVec.ofNat 32 w) o (ix2 r c) = v (ix2 ⟨16 + r.val, by omega⟩ c)
      * Ideal.div 1 (((IntOp.minsi (IntOp.addi (k0_pay3 i (ix2 r 0)) 1#32) (BitVec.ofNat 32 w)).toInt : ℝ) : EReal)
      - o (ix2 r c) := by
    pointwise [means, scale]
    rfl
  rw [e, pos_apply i t ht, MergeSpec.count_word ⟨512 * t.val + r.val, by omega⟩ w hw, ho,
    hv ⟨16 + r.val, by omega⟩ (by show w ≤ 16 + r.val + 1; omega)]
  unfold MergeSpec.mixed
  refine congrArg (fun s => s * _ - _) (Finset.sum_congr rfl fun k hk => ?_)
  have hk := Finset.mem_range.1 hk
  rw [← at_back _ t r k (by omega)]
  refine congrArg (at_ _ t) ?_
  show 16 + r.val - k = r.val + 16 - k
  omega

/-- The four groups' mixed channels. -/
def mix0 (i : grid0.Coords) (x2 : Vec Ideal S512x512 .f32) (x3 : Vec Ideal S16x512 .f32) : FVec Ideal S512x128 .f32 :=
  means (two (extractStridedSlice S528x128 ![0, 0] (k0_pay2 i x2 x3) slices_S528x512_o0_0_S528x128)) (k0_pay3 i) (BitVec.ofNat 32 2)
    (extractStridedSlice S512x128 ![0, 0] x2 slices_S512x512_o0_0_S512x128)
def mix1 (i : grid0.Coords) (x2 : Vec Ideal S512x512 .f32) (x3 : Vec Ideal S16x512 .f32) : FVec Ideal S512x128 .f32 :=
  means (four (extractStridedSlice S528x128 ![0, 128] (k0_pay2 i x2 x3) slices_S528x512_o0_128_S528x128)) (k0_pay3 i) (BitVec.ofNat 32 4)
    (extractStridedSlice S512x128 ![0, 128] x2 slices_S512x512_o0_128_S512x128)
def mix2 (i : grid0.Coords) (x2 : Vec Ideal S512x512 .f32) (x3 : Vec Ideal S16x512 .f32) : FVec Ideal S512x128 .f32 :=
  means (eight (extractStridedSlice S528x128 ![0, 256] (k0_pay2 i x2 x3) slices_S528x512_o0_256_S528x128)) (k0_pay3 i) (BitVec.ofNat 32 8)
    (extractStridedSlice S512x128 ![0, 256] x2 slices_S512x512_o0_256_S512x128)
def mix3 (i : grid0.Coords) (x2 : Vec Ideal S512x512 .f32) (x3 : Vec Ideal S16x512 .f32) : FVec Ideal S512x128 .f32 :=
  means (sixteen (extractStridedSlice S528x128 ![0, 384] (k0_pay2 i x2 x3) slices_S528x512_o0_384_S528x128)) (k0_pay3 i) (BitVec.ofNat 32 16)
    (extractStridedSlice S512x128 ![0, 384] x2 slices_S512x512_o0_384_S512x128)

theorem mix0_apply (r : Fin 512) (c : Fin 128) : mix0 i x2 x3 (ix2 r c)
    = MergeSpec.mixed (fun r => U r ⟨c.val, by omega⟩) (rowAt t r) 2 :=
  means_apply i t ht U _ _ c ⟨c.val, by omega⟩ 2 (by decide) (two_window _ c _ fun p => by
      rw [← rows_apply i t ht x2 x3 U h2 h3 p ⟨c.val, by omega⟩]
      generalize k0_pay2 i x2 x3 = y
      pointwise) r (by
    rw [← h2]
    pointwise)
theorem mix1_apply (r : Fin 512) (c : Fin 128) : mix1 i x2 x3 (ix2 r c)
    = MergeSpec.mixed (fun r => U r ⟨128 + c.val, by omega⟩) (rowAt t r) 4 :=
  means_apply i t ht U _ _ c ⟨128 + c.val, by omega⟩ 4 (by decide) (four_window _ c _ fun p => by
      rw [← rows_apply i t ht x2 x3 U h2 h3 p ⟨128 + c.val, by omega⟩]
      generalize k0_pay2 i x2 x3 = y
      pointwise) r (by
    rw [← h2]
    pointwise)
theorem mix2_apply (r : Fin 512) (c : Fin 128) : mix2 i x2 x3 (ix2 r c)
    = MergeSpec.mixed (fun r => U r ⟨256 + c.val, by omega⟩) (rowAt t r) 8 :=
  means_apply i t ht U _ _ c ⟨256 + c.val, by omega⟩ 8 (by decide) (eight_window _ c _ fun p => by
      rw [← rows_apply i t ht x2 x3 U h2 h3 p ⟨256 + c.val, by omega⟩]
      generalize k0_pay2 i x2 x3 = y
      pointwise) r (by
    rw [← h2]
    pointwise)
theorem mix3_apply (r : Fin 512) (c : Fin 128) : mix3 i x2 x3 (ix2 r c)
    = MergeSpec.mixed (fun r => U r ⟨384 + c.val, by omega⟩) (rowAt t r) 16 :=
  means_apply i t ht U _ _ c ⟨384 + c.val, by omega⟩ 16 (by decide) (sixteen_window _ c _ fun p => by
      rw [← rows_apply i t ht x2 x3 U h2 h3 p ⟨384 + c.val, by omega⟩]
      generalize k0_pay2 i x2 x3 = y
      pointwise) r (by
    rw [← h2]
    pointwise)

/-! ## The groups' linear maps -/

/-- One group's linear map. -/
def group (y : FVec Ideal S512x128 .f32) (w : Vec Ideal S1x128x128 .bf16) : FVec Ideal S512x128 .f32 :=
  matmul dot_S512x128_S128x128_S512x128_1_0_0_1_n_n none (truncf .bf16 y bitsLt_bf16_f32 : FVec Ideal S512x128 .bf16)
    (shapeCast S128x128 w shapeCasts_S1x128x128_S128x128 : FVec Ideal S128x128 .bf16) (constant S512x128 .f32 0x00000000#32)

omit ht h2 h3 in
theorem group_apply (y : FVec Ideal S512x128 .f32) (w : Vec Ideal S1x128x128 .bf16) (r : Fin 512) (c : Fin 128) :
    group y w (ix2 r c) = ∑ k : Fin 128, y (ix2 r k) * w (ix3 0 k c) := by
  unfold group
  pointwise

/-- The pooled rows of a point, of the four groups' weights. -/
def pool (i : grid0.Coords) (x2 : Vec Ideal S512x512 .f32) (x3 : Vec Ideal S16x512 .f32) (w0 w1 w2 w3 : Vec Ideal S1x128x128 .bf16) :
    FVec Ideal S512x512 .f32 :=
  concatenate S512x512 1 [⟨S512x128, group (mix0 i x2 x3) w0⟩, ⟨S512x128, group (mix1 i x2 x3) w1⟩,
    ⟨S512x128, group (mix2 i x2 x3) w2⟩, ⟨S512x128, group (mix3 i x2 x3) w3⟩]
    concatenates_S512x128_S512x128_S512x128_S512x128_S512x512_d1

theorem pool_apply (W : Fin 4 → Fin 128 → Fin 128 → EReal) (w0 w1 w2 w3 : Vec Ideal S1x128x128 .bf16)
    (g0 : ∀ k c, w0 (ix3 0 k c) = W 0 k c) (g1 : ∀ k c, w1 (ix3 0 k c) = W 1 k c)
    (g2 : ∀ k c, w2 (ix3 0 k c) = W 2 k c) (g3 : ∀ k c, w3 (ix3 0 k c) = W 3 k c) (r j : Fin 512) :
    pool i x2 x3 w0 w1 w2 w3 (ix2 r j) = ∑ k : Fin 128,
      MergeSpec.mixed (fun r => U r ⟨j.val / 128 * 128 + k.val, by omega⟩) (rowAt t r) (MergeSpec.width (j.val / 128))
        * W ⟨j.val / 128, by omega⟩ k ⟨j.val % 128, by omega⟩ := by
  have hj := j.isLt
  have hg : ∀ (g : ℕ) (hg : g < 4) (c : Fin 128) (F : Fin 128 → EReal) (G : Fin 128 → EReal), j.val = 128 * g + c.val →
      (∀ k : Fin 128, F k = MergeSpec.mixed (fun r => U r ⟨128 * g + k.val, by omega⟩) (rowAt t r)
        (MergeSpec.width g)) → (∀ k, G k = W ⟨g, hg⟩ k c) → ∑ k : Fin 128, F k * G k = ∑ k : Fin 128,
      MergeSpec.mixed (fun r => U r ⟨j.val / 128 * 128 + k.val, by omega⟩) (rowAt t r) (MergeSpec.width (j.val / 128))
        * W ⟨j.val / 128, by omega⟩ k ⟨j.val % 128, by omega⟩ := fun g hg c F G hjg hF hG => by
    have hc := c.isLt
    obtain rfl : g = j.val / 128 := by omega
    rw [show (⟨j.val % 128, by omega⟩ : Fin 128) = c from Fin.ext (by dsimp only; omega)]
    refine Finset.sum_congr rfl fun k _ => ?_
    rw [hF, hG]
    refine congrArg (fun a => MergeSpec.mixed (fun r => U r a) _ _ * _) (Fin.ext ?_)
    show 128 * (j.val / 128) + k.val = j.val / 128 * 128 + k.val
    omega
  have m0 := mix0_apply i t ht x2 x3 U h2 h3
  have m1 := mix1_apply i t ht x2 x3 U h2 h3
  have m2 := mix2_apply i t ht x2 x3 U h2 h3
  have m3 := mix3_apply i t ht x2 x3 U h2 h3
  unfold pool
  generalize mix0 i x2 x3 = y0 at *
  generalize mix1 i x2 x3 = y1 at *
  generalize mix2 i x2 x3 = y2 at *
  generalize mix3 i x2 x3 = y3 at *
  have q0 := group_apply y0 w0 r
  have q1 := group_apply y1 w1 r
  have q2 := group_apply y2 w2 r
  have q3 := group_apply y3 w3 r
  generalize group y0 w0 = z0 at *
  generalize group y1 w1 = z1 at *
  generalize group y2 w2 = z2 at *
  generalize group y3 w3 = z3 at *
  pointwise
  by_cases h1 : j.val < 128
  · rw [dif_pos h1, q0]
    refine hg 0 (by decide) ⟨j.val, h1⟩ _ _ (by dsimp only; omega) (fun k => (m0 r k).trans ?_) (fun k => g0 k _)
    refine congrArg (fun a => MergeSpec.mixed (fun r => U r a) _ _) (Fin.ext ?_)
    show k.val = 128 * 0 + k.val
    omega
  rw [dif_neg h1]
  by_cases h2 : j.val - 128 < 128
  · rw [dif_pos h2, q1]
    exact hg 1 (by decide) ⟨j.val - 128, h2⟩ _ _ (by dsimp only; omega) (fun k => m1 r k) (fun k => g1 k _)
  rw [dif_neg h2]
  by_cases h3 : j.val - 128 - 128 < 128
  · rw [dif_pos h3, q2]
    exact hg 2 (by decide) ⟨j.val - 128 - 128, h3⟩ _ _ (by dsimp only; omega) (fun k => m2 r k) (fun k => g2 k _)
  · rw [dif_neg h3, q3]
    exact hg 3 (by decide) ⟨j.val - 128 - 128 - 128, by omega⟩ _ _ (by dsimp only; omega) (fun k => m3 r k) (fun k => g3 k _)

end Cert.MergeIdeal.Pool

end
-- ==== Proof.MergeBlock.lean ====
/-
  One grid point of the merge kernel: the block it writes, read at a row and a column, is the layer of `MergeSpec` on
  the point's row.
-/
module

public import proofs.«01_k».proof.Proof.MergePool

@[expose] public section

set_option maxRecDepth 16384

noncomputable section

open Idealize.ShloMosaic Idealize.ShloMosaic.TcCoe Idealize.SL.Sem

namespace Cert.MergeIdeal.Block

open Cert.MergeIdeal Cert.MergeIdeal.Gen

/-- The gated sum of the two branches, of the gates `G`, the attention's rows `o` and the pooled rows `p`. -/
def merge (o : Vec Ideal S512x512 .bf16) (G : FVec Ideal S512x2048 .f32) (p : FVec Ideal S512x512 .f32)
    (ps : Vec Ideal S1x512 .f32) (wa wb : Vec Ideal S512x1024 .bf16) : FVec Ideal S512x1024 .f32 :=
  addf (mulf (extractStridedSlice S512x1024 ![0, 0] G slices_S512x2048_o0_0_S512x1024)
      (matmul (φ₁ := .bf16) (φ₂ := .bf16) dot_S512x512_S512x1024_S512x1024_1_0_0_1_n_n none o
        (shapeCast S512x1024 wa shapeCasts_S512x1024_S512x1024) (constant S512x1024 .f32 0x00000000#32)))
    (mulf (extractStridedSlice S512x1024 ![0, 1024] G slices_S512x2048_o0_1024_S512x1024)
      (matmul (φ₁ := .bf16) (φ₂ := .bf16) dot_S512x512_S512x1024_S512x1024_1_0_0_1_n_n none
        (truncf .bf16 (mulf p (k0_pay12 ps)) bitsLt_bf16_f32)
        (shapeCast S512x1024 wb shapeCasts_S512x1024_S512x1024) (constant S512x1024 .f32 0x00000000#32)))

/-- The scaled rows plus the projected merge. -/
def project (x y : FVec Ideal S512x1024 .f32) (wo : Vec Ideal S1024x1024 .bf16) : FVec Ideal S512x1024 .f32 :=
  addf (mulf (broadcast S512x1024 (Scalar.ofBits .f32 0x3FD744FD#32)) x)
    (matmul (φ₁ := .bf16) (φ₂ := .bf16) dot_S512x1024_S1024x1024_S512x1024_1_0_0_1_n_n none (truncf .bf16 y bitsLt_bf16_f32)
      (shapeCast S1024x1024 wo shapeCasts_S1024x1024_S1024x1024) (constant S512x1024 .f32 0x00000000#32))

/-- The rows' layer norm. -/
def normed (h : FVec Ideal S512x1024 .f32) (g b : Vec Ideal S1x1024 .f32) : FVec Ideal S512x1024 .f32 :=
  have μ : FVec Ideal S512x1 .f32 := divf (shapeCast S512x1
    (multiReduction .add [1] S512 h 0x00000000#32 reduces_S512x1024_S512 (.inl rfl) rfl) shapeCasts_S512_S512x1)
    (broadcast S512x1 (Scalar.ofBits .f32 0x44800000#32))
  have e : FVec Ideal S512x1024 .f32 := subf h (broadcastTo S512x1024 μ broadcasts_S512x1_S512x1024)
  have v : FVec Ideal S512x1 .f32 := divf (shapeCast S512x1
    (multiReduction .add [1] S512 (mulf e e) 0x00000000#32 reduces_S512x1024_S512 (.inl rfl) rfl) shapeCasts_S512_S512x1)
    (broadcast S512x1 (Scalar.ofBits .f32 0x44800000#32))
  have r : FVec Ideal S512x1 .f32 := rsqrt (addf v (broadcast S512x1 (Scalar.ofBits .f32 0x3727C5AC#32)))
  k0_pay1 (k0_pay13 b) (mulf e (broadcastTo S512x1024 r broadcasts_S512x1_S512x1024)) (k0_pay15 g)

theorem merge_apply (o : Vec Ideal S512x512 .bf16) (G : FVec Ideal S512x2048 .f32) (p : FVec Ideal S512x512 .f32)
    (ps : Vec Ideal S1x512 .f32) (wa wb : Vec Ideal S512x1024 .bf16) (r : Fin 512) (d : Fin 1024) :
    merge o G p ps wa wb (ix2 r d) = G (ix2 r ⟨d.val, by omega⟩) * (∑ k : Fin 512, o (ix2 r k) * wa (ix2 k d))
      + G (ix2 r ⟨1024 + d.val, by omega⟩) * (∑ k : Fin 512, p (ix2 r k) * ps (ix2 0 k) * wb (ix2 k d)) := by
  unfold merge
  pointwise [k0_pay12]

theorem project_apply (x y : FVec Ideal S512x1024 .f32) (wo : Vec Ideal S1024x1024 .bf16) (r : Fin 512) (d : Fin 1024) :
    project x y wo (ix2 r d) = Ideal.ofBits .f32 0x3FD744FD#32 * x (ix2 r d) + ∑ k : Fin 1024, y (ix2 r k) * wo (ix2 k d) := by
  unfold project
  pointwise

theorem normed_apply (h : FVec Ideal S512x1024 .f32) (g b : Vec Ideal S1x1024 .f32) (r : Fin 512) (d : Fin 1024) :
    normed h g b (ix2 r d) = FfnSpec.norm (fun k => h (ix2 r k)) (fun k => g (ix2 0 k)) (fun k => b (ix2 0 k)) d := by
  unfold normed
  pointwise [FfnSpec.norm, FfnSpec.mean, k0_pay1, k0_pay13, k0_pay15]

theorem gates_apply (x : Vec Ideal S512x1024 .f32) (w : Vec Ideal S1024x2048 .bf16) (r : Fin 512) (j : Fin 2048) :
    k0_pay10 x w (ix2 r j) = MergeSpec.gate (fun k => x (ix2 r k)) (fun k j => w (ix2 k j)) j := by
  unfold k0_pay10
  pointwise [MergeSpec.gate]

variable (i : grid0.Coords) (x0 : Vec Ideal S512x1024 .f32) (x1 : Vec Ideal S512x512 .bf16) (x2 : Vec Ideal S512x512 .f32)
  (x3 : Vec Ideal S16x512 .f32) (x4 : Vec Ideal S1024x2048 .bf16) (x5 : Vec Ideal S4x128x128 .bf16) (x6 : Vec Ideal S1x512 .f32)
  (x7 x8 : Vec Ideal S512x1024 .bf16) (x9 : Vec Ideal S1024x1024 .bf16) (x10 x11 : Vec Ideal S1x1024 .f32)

theorem hz : (![0, 0] : Fin 2 → Nat) = fun _ => 0 := funext fun a => by fin_cases a <;> rfl

/-- The block a point writes, in these words. -/
theorem out_eq : out0_12 i x0 x1 x2 x3 x4 x5 x6 x7 x8 x9 x10 x11 = normed (project x0 (merge x1 (k0_pay10 x0 x4)
    (Pool.pool i x2 x3 (View.ld x5 r0_4) (View.ld x5 r0_5) (View.ld x5 r0_6) (View.ld x5 r0_7)) x6 x7 x8) x9) x10 x11 := by
  unfold_out out0_12
  rw [View.canon_unit_zero hz]
  repeat rw [View.ld_unit_zero hz]
  rfl

variable (t : Fin 32) (ht : (i 0).val = t.val) (U : Fin 16384 → Fin 512 → EReal)
  (h2 : ∀ (r : Fin 512) (c : Fin 512), x2 (ix2 r c) = U (Pool.rowAt t r) c)
  (h3 : t.val % 4 ≠ 0 → ∀ (p : Fin 16) (c : Fin 512), x3 (ix2 p c) = U (Pool.rowBefore t p) c)
include ht h2 h3

theorem out_apply (r : Fin 512) (d : Fin 1024) :
    out0_12 i x0 x1 x2 x3 x4 x5 x6 x7 x8 x9 x10 x11 (ix2 r d) = MergeSpec.layer (fun k => x0 (ix2 r k)) (fun k => x1 (ix2 r k))
      (MergeSpec.pooled U (fun g k d => x5 (ix3 g k d)) (fun k => x6 (ix2 0 k)) (Pool.rowAt t r))
      (fun k j => x4 (ix2 k j)) (fun k d => x7 (ix2 k d)) (fun k d => x8 (ix2 k d)) (fun k d => x9 (ix2 k d))
      (fun k => x10 (ix2 0 k)) (fun k => x11 (ix2 0 k)) d := by
  rw [out_eq, normed_apply]
  simp only [project_apply, merge_apply, gates_apply]
  have hp := fun j => Pool.pool_apply i t ht x2 x3 U h2 h3 (fun g k d => x5 (ix3 g k d)) (View.ld x5 r0_4) (View.ld x5 r0_5)
    (View.ld x5 r0_6) (View.ld x5 r0_7) (fun k c => by pointwise) (fun k c => by pointwise) (fun k c => by pointwise)
    (fun k c => by pointwise) r j
  simp only [hp]
  rfl

end Cert.MergeIdeal.Block

end
-- ==== Proof.MergeArray.lean ====
/-
  The merge kernel's result array: every entry is the layer of `MergeSpec` on the arguments' row. The 32 grid points take
  512 rows each, and of the pooling input also the 16 rows before them; the weights reach each point whole.
-/
module

public import proofs.«01_k».proof.Proof.MergeBlock

@[expose] public section

set_option maxRecDepth 16384

noncomputable section

open Idealize.ShloMosaic Idealize.ShloMosaic.TcCoe Idealize.SL.Sem
open Idealize.ShloMosaic.Pipeline (Dat)

namespace Cert.MergeIdeal.Array

open Cert.MergeIdeal Cert.MergeIdeal.Gen

variable (m : (ℓ : Loc nD τ sig) → Buf (Elt Ideal) ℓ) (ρ : Dev nD → PrngReg)

/-- The arguments of device `c`, read as functions. -/
abbrev argX (c : Dev nD) (r : Fin 16384) (k : Fin 1024) : EReal := m ((c : Thread nD τ).loc main_arg0) (ix2 r k)
abbrev argO (c : Dev nD) (r : Fin 16384) (k : Fin 512) : EReal := m ((c : Thread nD τ).loc main_arg1) (ix2 r k)
abbrev argU (c : Dev nD) (r : Fin 16384) (k : Fin 512) : EReal := m ((c : Thread nD τ).loc main_arg2) (ix2 r k)
abbrev argGates (c : Dev nD) (k : Fin 1024) (j : Fin 2048) : EReal :=
  m ((c : Thread nD τ).loc main_arg3) (ix2 k ⟨2056 + j.val, by omega⟩)
abbrev argGroups (c : Dev nD) (g : Fin 4) (k d : Fin 128) : EReal := m ((c : Thread nD τ).loc main_arg4) (ix3 g k d)
abbrev argScale (c : Dev nD) (k : Fin 512) : EReal := m ((c : Thread nD τ).loc main_arg5) (ix1 k)
abbrev argBa (c : Dev nD) (k : Fin 512) (d : Fin 1024) : EReal := m ((c : Thread nD τ).loc main_arg6) (ix2 k d)
abbrev argBb (c : Dev nD) (k : Fin 512) (d : Fin 1024) : EReal := m ((c : Thread nD τ).loc main_arg7) (ix2 k d)
abbrev argWo (c : Dev nD) (k d : Fin 1024) : EReal := m ((c : Thread nD τ).loc main_arg8) (ix2 k d)
abbrev argG (c : Dev nD) (k : Fin 1024) : EReal := m ((c : Thread nD τ).loc main_arg9) (ix1 k)
abbrev argB (c : Dev nD) (k : Fin 1024) : EReal := m ((c : Thread nD τ).loc main_arg10) (ix1 k)

/-- The result array as one function of the arguments. -/
def whole (c : Dev nD) : S16384x1024.Idx → EReal := fun i =>
  MergeSpec.layer (argX m c (i 0)) (argO m c (i 0)) (MergeSpec.pooled (argU m c) (argGroups m c) (argScale m c) (i 0)) (argGates m c)
    (argBa m c) (argBb m c) (argWo m c) (argG m c) (argB m c) (i 1)

/-- The point's number is its grid coordinate. -/
theorem coord : ∀ t : Fin cfg0.N, (grid0.coords t 0).val = t.val := (by decide +kernel : ∀ t : Fin grid0.N, _)

/-- The offsets of the windows that move: 512 rows a point, the 16 rows before them in blocks of 16. -/
theorem idx_move : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 32 * t.val - 1 ∧ win0_3.index t 1 = 0)
    ∧ (win0_12.index t 0 = t.val ∧ win0_12.index t 1 = 0) :=
  (by decide +kernel : ∀ t : Fin grid0.N, _)

/-- The other windows stay. -/
theorem idx_stay : ∀ t : Fin cfg0.N,
    (win0_4.index t 0 = 0 ∧ win0_4.index t 1 = 0) ∧ (win0_5.index t 0 = 0 ∧ win0_5.index t 1 = 0 ∧ win0_5.index t 2 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0) :=
  (by decide +kernel : ∀ t : Fin grid0.N, _)

/-- The staged weights are the arguments: the casts on the way in change nothing here. -/
theorem V_v1 (c : Dev nD) (k : Fin 1024) (j : Fin 2048) : V m c main_v1 (ix2 k j) = argGates m c k j := by
  have h : V m c main_v1 = extractStridedSlice S1024x2048 ![0, 2056] (m ((c : Thread nD τ).loc main_arg3))
      slices_S1024x4104_S1024x2048_0_2056 := by
    simp only [V, hostOps0]
    after_results_simp
    rfl
  rw [h]
  pointwise
theorem V_v2 (c : Dev nD) : V m c main_v2 = m ((c : Thread nD τ).loc main_arg4) := by
  simp only [V, hostOps0]
  after_results_simp
  rfl
theorem V_v4 (c : Dev nD) : V m c main_v4 = m ((c : Thread nD τ).loc main_arg6) := by
  simp only [V, hostOps0]
  after_results_simp
  rfl
theorem V_v5 (c : Dev nD) : V m c main_v5 = m ((c : Thread nD τ).loc main_arg7) := by
  simp only [V, hostOps0]
  after_results_simp
  rfl
theorem V_v6 (c : Dev nD) : V m c main_v6 = m ((c : Thread nD τ).loc main_arg8) := by
  simp only [V, hostOps0]
  after_results_simp
  rfl
/-- The scales, the gain and the offset reach the kernel as one row each. -/
theorem V_v3 (c : Dev nD) (k : Fin 512) : V m c main_v3 (ix2 0 k) = argScale m c k := by
  have h : V m c main_v3 = shapeCast S1x512 (m ((c : Thread nD τ).loc main_arg5)) shapeCasts_S512_S1x512 := by
    simp only [V, hostOps0]
    after_results_simp
    rfl
  rw [h]
  pointwise
theorem V_v7 (c : Dev nD) (k : Fin 1024) : V m c main_v7 (ix2 0 k) = argG m c k := by
  have h : V m c main_v7 = shapeCast S1x1024 (m ((c : Thread nD τ).loc main_arg9)) shapeCasts_S1024_S1x1024 := by
    simp only [V, hostOps0]
    after_results_simp
    rfl
  rw [h]
  pointwise
theorem V_v8 (c : Dev nD) (k : Fin 1024) : V m c main_v8 (ix2 0 k) = argB m c k := by
  have h : V m c main_v8 = shapeCast S1x1024 (m ((c : Thread nD τ).loc main_arg10)) shapeCasts_S1024_S1x1024 := by
    simp only [V, hostOps0]
    after_results_simp
    rfl
  rw [h]
  pointwise

theorem lt_N (t : Fin cfg0.N) : t.val < 32 := lt_of_lt_of_eq t.isLt N_0

/-- The point's number as a number below 32. -/
abbrev pt (t : Fin cfg0.N) : Fin 32 := ⟨t.val, lt_N t⟩

/-! ## The blocks at a point -/

theorem blk_x (c : Dev nD) (t : Fin cfg0.N) (r : Fin 512) (k : Fin 1024) :
    iblk m c 0 t (ix2 r k) = argX m c (Pool.rowAt (pt t) r) k := by
  have e : iblk m c 0 t (ix2 r k) = V m c main_arg0 (((cfg0.win 0).blk t).view.emb (ix2 r k)) := rfl
  rw [e, V_main_arg0]
  refine congrArg (m ((c : Thread nD τ).loc main_arg0)) (funext fun a => Fin.ext ?_)
  have f := (idx_move t).1
  match a with
  | ⟨0, _⟩ => show win0_0.index t 0 * 512 + 1 * r.val = 512 * t.val + r.val; omega
  | ⟨1, _⟩ => show win0_0.index t 1 * 1024 + 1 * k.val = k.val; omega

theorem blk_o (c : Dev nD) (t : Fin cfg0.N) (r : Fin 512) (k : Fin 512) :
    iblk m c 1 t (ix2 r k) = argO m c (Pool.rowAt (pt t) r) k := by
  have e : iblk m c 1 t (ix2 r k) = V m c main_arg1 (((cfg0.win 1).blk t).view.emb (ix2 r k)) := rfl
  rw [e, V_main_arg1]
  refine congrArg (m ((c : Thread nD τ).loc main_arg1)) (funext fun a => Fin.ext ?_)
  have f := (idx_move t).2.1
  match a with
  | ⟨0, _⟩ => show win0_1.index t 0 * 512 + 1 * r.val = 512 * t.val + r.val; omega
  | ⟨1, _⟩ => show win0_1.index t 1 * 512 + 1 * k.val = k.val; omega

theorem blk_u (c : Dev nD) (t : Fin cfg0.N) (r : Fin 512) (k : Fin 512) :
    iblk m c 2 t (ix2 r k) = argU m c (Pool.rowAt (pt t) r) k := by
  have e : iblk m c 2 t (ix2 r k) = V m c main_arg2 (((cfg0.win 2).blk t).view.emb (ix2 r k)) := rfl
  rw [e, V_main_arg2]
  refine congrArg (m ((c : Thread nD τ).loc main_arg2)) (funext fun a => Fin.ext ?_)
  have f := (idx_move t).2.2.1
  match a with
  | ⟨0, _⟩ => show win0_2.index t 0 * 512 + 1 * r.val = 512 * t.val + r.val; omega
  | ⟨1, _⟩ => show win0_2.index t 1 * 512 + 1 * k.val = k.val; omega

/-- The 16 rows before the point, where there are any. -/
theorem blk_halo (c : Dev nD) (t : Fin cfg0.N) (ht : 0 < t.val) (p : Fin 16) (k : Fin 512) :
    iblk m c 3 t (ix2 p k) = argU m c (Pool.rowBefore (pt t) p) k := by
  have e : iblk m c 3 t (ix2 p k) = V m c main_arg2 (((cfg0.win 3).blk t).view.emb (ix2 p k)) := rfl
  rw [e, V_main_arg2]
  refine congrArg (m ((c : Thread nD τ).loc main_arg2)) (funext fun a => Fin.ext ?_)
  have f := (idx_move t).2.2.2.1
  match a with
  | ⟨0, _⟩ => show win0_3.index t 0 * 16 + 1 * p.val = 512 * t.val + p.val - 16; omega
  | ⟨1, _⟩ => show win0_3.index t 1 * 512 + 1 * k.val = k.val; omega

theorem blk_gates (c : Dev nD) (t : Fin cfg0.N) (k : Fin 1024) (d : Fin 2048) : iblk m c 4 t (ix2 k d) = argGates m c k d := by
  have e : iblk m c 4 t (ix2 k d) = V m c main_v1 (((cfg0.win 4).blk t).view.emb (ix2 k d)) := rfl
  rw [e, ← V_v1]
  refine congrArg (V m c main_v1) (funext fun a => Fin.ext ?_)
  have f := (idx_stay t).1
  match a with
  | ⟨0, _⟩ => show win0_4.index t 0 * 1024 + 1 * k.val = k.val; omega
  | ⟨1, _⟩ => show win0_4.index t 1 * 2048 + 1 * d.val = d.val; omega

theorem blk_groups (c : Dev nD) (t : Fin cfg0.N) (g : Fin 4) (k d : Fin 128) : iblk m c 5 t (ix3 g k d) = argGroups m c g k d := by
  have e : iblk m c 5 t (ix3 g k d) = V m c main_v2 (((cfg0.win 5).blk t).view.emb (ix3 g k d)) := rfl
  rw [e, V_v2]
  refine congrArg (m ((c : Thread nD τ).loc main_arg4)) (funext fun a => Fin.ext ?_)
  have f := (idx_stay t).2.1
  match a with
  | ⟨0, _⟩ => show win0_5.index t 0 * 4 + 1 * g.val = g.val; omega
  | ⟨1, _⟩ => show win0_5.index t 1 * 128 + 1 * k.val = k.val; omega
  | ⟨2, _⟩ => show win0_5.index t 2 * 128 + 1 * d.val = d.val; omega

theorem blk_scale (c : Dev nD) (t : Fin cfg0.N) (k : Fin 512) : iblk m c 6 t (ix2 0 k) = argScale m c k := by
  have e : iblk m c 6 t (ix2 0 k) = V m c main_v3 (((cfg0.win 6).blk t).view.emb (ix2 0 k)) := rfl
  rw [e, ← V_v3]
  refine congrArg (V m c main_v3) (funext fun a => Fin.ext ?_)
  have f := (idx_stay t).2.2.1
  match a with
  | ⟨0, _⟩ => show win0_6.index t 0 * 1 + 1 * 0 = 0; omega
  | ⟨1, _⟩ => show win0_6.index t 1 * 512 + 1 * k.val = k.val; omega

theorem blk_ba (c : Dev nD) (t : Fin cfg0.N) (k : Fin 512) (d : Fin 1024) : iblk m c 7 t (ix2 k d) = argBa m c k d := by
  have e : iblk m c 7 t (ix2 k d) = V m c main_v4 (((cfg0.win 7).blk t).view.emb (ix2 k d)) := rfl
  rw [e, V_v4]
  refine congrArg (m ((c : Thread nD τ).loc main_arg6)) (funext fun a => Fin.ext ?_)
  have f := (idx_stay t).2.2.2.1
  match a with
  | ⟨0, _⟩ => show win0_7.index t 0 * 512 + 1 * k.val = k.val; omega
  | ⟨1, _⟩ => show win0_7.index t 1 * 1024 + 1 * d.val = d.val; omega

theorem blk_bb (c : Dev nD) (t : Fin cfg0.N) (k : Fin 512) (d : Fin 1024) : iblk m c 8 t (ix2 k d) = argBb m c k d := by
  have e : iblk m c 8 t (ix2 k d) = V m c main_v5 (((cfg0.win 8).blk t).view.emb (ix2 k d)) := rfl
  rw [e, V_v5]
  refine congrArg (m ((c : Thread nD τ).loc main_arg7)) (funext fun a => Fin.ext ?_)
  have f := (idx_stay t).2.2.2.2.1
  match a with
  | ⟨0, _⟩ => show win0_8.index t 0 * 512 + 1 * k.val = k.val; omega
  | ⟨1, _⟩ => show win0_8.index t 1 * 1024 + 1 * d.val = d.val; omega

theorem blk_wo (c : Dev nD) (t : Fin cfg0.N) (k : Fin 1024) (d : Fin 1024) : iblk m c 9 t (ix2 k d) = argWo m c k d := by
  have e : iblk m c 9 t (ix2 k d) = V m c main_v6 (((cfg0.win 9).blk t).view.emb (ix2 k d)) := rfl
  rw [e, V_v6]
  refine congrArg (m ((c : Thread nD τ).loc main_arg8)) (funext fun a => Fin.ext ?_)
  have f := (idx_stay t).2.2.2.2.2.1
  match a with
  | ⟨0, _⟩ => show win0_9.index t 0 * 1024 + 1 * k.val = k.val; omega
  | ⟨1, _⟩ => show win0_9.index t 1 * 1024 + 1 * d.val = d.val; omega

theorem blk_g (c : Dev nD) (t : Fin cfg0.N) (k : Fin 1024) : iblk m c 10 t (ix2 0 k) = argG m c k := by
  have e : iblk m c 10 t (ix2 0 k) = V m c main_v7 (((cfg0.win 10).blk t).view.emb (ix2 0 k)) := rfl
  rw [e, ← V_v7]
  refine congrArg (V m c main_v7) (funext fun a => Fin.ext ?_)
  have f := (idx_stay t).2.2.2.2.2.2.1
  match a with
  | ⟨0, _⟩ => show win0_10.index t 0 * 1 + 1 * 0 = 0; omega
  | ⟨1, _⟩ => show win0_10.index t 1 * 1024 + 1 * k.val = k.val; omega

theorem blk_b (c : Dev nD) (t : Fin cfg0.N) (k : Fin 1024) : iblk m c 11 t (ix2 0 k) = argB m c k := by
  have e : iblk m c 11 t (ix2 0 k) = V m c main_v8 (((cfg0.win 11).blk t).view.emb (ix2 0 k)) := rfl
  rw [e, ← V_v8]
  refine congrArg (V m c main_v8) (funext fun a => Fin.ext ?_)
  have f := (idx_stay t).2.2.2.2.2.2.2
  match a with
  | ⟨0, _⟩ => show win0_11.index t 0 * 1 + 1 * 0 = 0; omega
  | ⟨1, _⟩ => show win0_11.index t 1 * 1024 + 1 * k.val = k.val; omega

/-- What point `t` writes back is block `t` of the whole result. -/
theorem flushed_eq (c : Dev nD) (t : Fin cfg0.N) :
    (dats m 0 c).flushed 12 t = ((cfg0.win 12).blk t).view.read (Elt Ideal) (whole m c) := by
  rw [Value.flushed12]
  have hl := Block.out_apply (grid0.coords t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) (pt t) (coord t)
    (argU m c) (blk_u m c t) (fun hq p k => blk_halo m c t (Nat.pos_of_ne_zero fun h0 => hq (by show t.val % 4 = 0; rw [h0])) p k)
  generalize out0_12 (grid0.coords t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) = X at hl ⊢
  funext j
  obtain ⟨r, d, rfl⟩ : ∃ (r : Fin 512) (d : Fin 1024), j = ix2 r d := ⟨j 0, j 1, eq_ix2 j⟩
  have hr : ((cfg0.win 12).blk t).view.emb (ix2 r d) = (ix2 (Pool.rowAt (pt t) r) d : S16384x1024.Idx) := by
    refine funext fun a => Fin.ext ?_
    have f := (idx_move t).2.2.2.2
    match a with
    | ⟨0, _⟩ => show win0_12.index t 0 * 512 + 1 * r.val = 512 * t.val + r.val; omega
    | ⟨1, _⟩ => show win0_12.index t 1 * 1024 + 1 * d.val = d.val; omega
  have hc : (cfg0.win 12).cut (grid0.coords t) X (ix2 r d) = X (ix2 r d) := rfl
  have hw : ((cfg0.win 12).blk t).view.read (Elt Ideal) (whole m c) (ix2 r d)
      = whole m c (((cfg0.win 12).blk t).view.emb (ix2 r d)) := rfl
  refine hc.trans (Eq.trans ?_ (hw.trans (congrArg (whole m c) hr)).symm)
  rw [hl]
  simp only [blk_x, blk_o, blk_gates, blk_groups, blk_scale, blk_ba, blk_bb, blk_wo, blk_g, blk_b]
  rfl

/-- An index of the result array is in point `t`'s block exactly when its row is one of the point's 512. -/
theorem mem_blk (t : Fin cfg0.N) (i : S16384x1024.Idx) :
    i ∈ ((cfg0.win 12).blk t).view.set ↔ ∀ a, win0_12.index t a * win0_12.size a ≤ (i a : Nat)
      ∧ (i a : Nat) < win0_12.index t a * win0_12.size a + win0_12.xsize (grid0.coords t) a := by
  show i ∈ ((View.whole main_v9).slice (win0_12.rect t)).set ↔ _
  rw [View.set_slice_whole, Rect.mem_set_unit]

/-- The blocks tile the result. -/
theorem cover (i : S16384x1024.Idx) :
    ∃ t : Fin cfg0.N, (cfg0.win 12).flush t = true ∧ i ∈ ((cfg0.win 12).blk t).view.set := by
  have h0 : (i 0 : Nat) < 16384 := (i 0).isLt
  have h1 : (i 1 : Nat) < 1024 := (i 1).isLt
  have hN : cfg0.N = 32 := N_0
  refine ⟨⟨(i 0 : Nat) / 512, by omega⟩, flush0_12 _, ?_⟩
  rw [mem_blk]
  have f := (idx_move ⟨(i 0 : Nat) / 512, by omega⟩).2.2.2.2
  intro a
  match a with
  | ⟨0, _⟩ =>
    show win0_12.index _ 0 * 512 ≤ (i 0 : Nat) ∧ (i 0 : Nat) < win0_12.index _ 0 * 512 + 512
    rw [f.1]; dsimp only; omega
  | ⟨1, _⟩ =>
    show win0_12.index _ 1 * 1024 ≤ (i 1 : Nat) ∧ (i 1 : Nat) < win0_12.index _ 1 * 1024 + 1024
    rw [f.2]; omega

/-- So the result array is the whole result. -/
theorem final (c : Dev nD) : (dats m 0 c).arrAt 12 cfg0.N = whole m c :=
  (dats m 0 c).arrAt_eq_of_cover 12 (whole m c) (fun t _ => flushed_eq m c t) cover

end Cert.MergeIdeal.Array

end
-- ==== Proof.MergeRefValue.lean ====
/-
  The merge reference's result: every entry is the layer of `MergeSpec` on the arguments' row, where the pooling input
  is finite.
-/
module

public import proofs.«01_k».proof.Defs
public import proofs.«01_k».proof.Proof.MergeSpec
public import proofs.«01_k».proof.Proof.WindowSum
public import proofs.«01_k».proof.Proof.Gen.MergeRefIdeal.Read
public import Idealize.ShloMosaic.Lib.Pointwise

@[expose] public section

set_option maxRecDepth 16384

noncomputable section

open Idealize.ShloMosaic Idealize.ShloMosaic.TcCoe Idealize.SL.Sem

namespace Cert.MergeRefIdeal.Row

open Cert.MergeRefIdeal Cert.MergeRefIdeal.Read

variable (u : FVec Ideal S16384x512 .f32)

/-! ## The pooled means -/

/-- Channel `c` of batch `b` by position, fifteen zeros first. -/
def ext (b : Fin 8) (c : Fin 512) (p : ℕ) : EReal :=
  if h : 15 ≤ p ∧ p < 2063 then u (ix2 ⟨2048 * b.val + (p - 15), by omega⟩ c) else 0

theorem v6_apply (b : Fin 8) (p : Fin 2063) (c : Fin 512) : val_main_v6 (F := Ideal) u (ix3 b p c) = ext u b c p.val := by
  unfold val_main_v6
  pointwise
  have hp := p.isLt
  have hb := b.isLt
  have hc := c.isLt
  unfold ext
  by_cases h : p.val < 15
  · rw [dif_pos h, dif_neg (by omega), val_main_v4_apply, val_main_cst_apply]
    exact Ideal.ofBits_zero _
  · rw [dif_neg h, dif_pos (by omega), val_main_v5_apply]
    refine congrArg u (funext fun a => Fin.ext ?_)
    match a with
    | ⟨0, _⟩ => show ((b.val * 2048 + (p.val - 15)) * 512 + c.val) / 512 = 2048 * b.val + (p.val - 15); omega
    | ⟨1, _⟩ => show ((b.val * 2048 + (p.val - 15)) * 512 + c.val) % 512 = c.val; omega

theorem v9_apply (b : Fin 8) (n : Fin 2064) (c : Fin 512) :
    val_main_v9 (F := Ideal) u (ix3 b n c) = ∑ i ∈ Finset.range n.val, ext u b c i := by
  unfold val_main_v9
  pointwise
  have hn := n.isLt
  by_cases h : n.val < 1
  · rw [dif_pos h, val_main_v7_apply, val_main_cst_0_apply, show n.val = 0 by omega, Finset.sum_range_zero]
    exact Ideal.ofBits_zero _
  · rw [dif_neg h]
    refine (WindowSum.window_apply (A := 8) (N := 2062) (C := 512) _ _
      (fun i => by rw [val_main_call0_call0_v0_apply, val_main_call0_call0_cst_apply]; exact Ideal.ofBits_zero _)
      _ _ b ⟨n.val - 1, by omega⟩ c).trans ?_
    dsimp only
    rw [show n.val - 1 + 1 = n.val by omega]
    refine Finset.sum_congr rfl fun i hi => ?_
    rw [Finset.mem_range] at hi
    refine (v6_apply u b _ c).trans (congrArg (ext u b c) ?_)
    show i % (2062 + 1) = i
    omega

/-- Row `t` of batch `b`. -/
abbrev row (b : Fin 8) (t : Fin 2048) : Fin 16384 := ⟨2048 * b.val + t.val, by omega⟩

/-- The mean of the trailing window of `w` rows. -/
def mean (b : Fin 8) (t : Fin 2048) (c : Fin 512) (w : ℕ) : EReal :=
  (∑ k ∈ Finset.range w, MergeSpec.back (fun r => u (ix2 r c)) (row b t) k) * Ideal.div 1 (MergeSpec.count (row b t) w)

/-- A difference of two running sums, divided by the count, is the window's mean. -/
theorem mean_eq (hu : ∀ i, u i = (((u i).toReal : ℝ) : EReal)) (b : Fin 8) (t : Fin 2048) (c : Fin 512) (w : ℕ)
    (h0 : 0 < w) (hw : w ≤ 16) (x y : EReal) (hx : x = ∑ i ∈ Finset.range (t.val + 16), ext u b c i)
    (hy : y = ∑ i ∈ Finset.range (t.val + 16 - w), ext u b c i) :
    Ideal.div (x - y) (((IntOp.minsi (IntOp.addi (BitVec.ofNat 32 t.val) 1#32) (BitVec.ofNat 32 w)).toInt : ℝ) : EReal)
      = mean u b t c w := by
  have ht := t.isLt
  have hb := b.isLt
  have hm : t.val = (row b t).val % 2048 := by show t.val = (2048 * b.val + t.val) % 2048; omega
  have hc := MergeSpec.count_word (row b t) w hw
  rw [← hm] at hc
  have hf : ∀ p, ext u b c p = (((ext u b c p).toReal : ℝ) : EReal) := fun p => by
    unfold ext
    split
    · exact hu _
    · rw [EReal.toReal_zero]; rfl
  have hs := MergeSpec.sub_sums (ext u b c) hf (t.val + 16 - w) w
  rw [show t.val + 16 - w + w = t.val + 16 by omega] at hs
  rw [hc, MergeSpec.div_count _ _ _ h0, hx, hy, hs]
  unfold mean
  congr 1
  refine Finset.sum_congr rfl fun k hk => ?_
  rw [Finset.mem_range] at hk
  unfold ext MergeSpec.back
  rw [← hm]
  by_cases h : k ≤ t.val
  · rw [dif_pos (by omega), if_pos h]
    refine congrArg (fun r => u (ix2 r c)) (Fin.ext ?_)
    show 2048 * b.val + (t.val + 16 - 1 - k - 15) = 2048 * b.val + t.val - k
    omega
  · rw [dif_neg (by omega), if_neg h]

theorem idx3_ext {A B C : ℕ} {i : (⟨3, ![A, B, C]⟩ : Shape).Idx} {a : Fin A} {b : Fin B} {c : Fin C}
    (ha : (i 0).val = a.val) (hb : (i 1).val = b.val) (hc : (i 2).val = c.val) : i = ix3 a b c := by
  funext x
  refine Fin.ext ?_
  match x with
  | ⟨0, _⟩ => exact ha
  | ⟨1, _⟩ => exact hb
  | ⟨2, _⟩ => exact hc

variable (hu : ∀ i, u i = (((u i).toReal : ℝ) : EReal))
include hu

theorem v22_apply (b : Fin 8) (t : Fin 2048) (c : Fin 128) :
    val_main_v22 (F := Ideal) u (ix3 b t c) = mean u b t ⟨c.val, by omega⟩ 2 := by
  rw [val_main_v22_apply, val_main_v21_apply, val_main_v20_apply, val_main_v19_apply, val_main_v12_apply, val_main_v10_apply, val_main_v18_apply, val_main_v17_apply, val_main_v16_apply, val_main_v14_apply, val_main_v15_apply, val_main_v13_apply, val_main_v11_apply]
  refine mean_eq u hu b t _ 2 (by decide) (by decide) _ _
    ((congrArg _ (idx3_ext (by rfl) ?_ ?_)).trans (v9_apply u b ⟨t.val + 16, by omega⟩ ⟨c.val, by omega⟩))
    ((congrArg _ (idx3_ext (by rfl) ?_ ?_)).trans (v9_apply u b ⟨t.val + 16 - 2, by omega⟩ ⟨c.val, by omega⟩))
  · exact Nat.add_comm 16 t.val
  · rfl
  · show 14 + t.val = t.val + 16 - 2; omega
  · rfl

theorem v33_apply (b : Fin 8) (t : Fin 2048) (c : Fin 128) :
    val_main_v33 (F := Ideal) u (ix3 b t c) = mean u b t ⟨128 + c.val, by omega⟩ 4 := by
  rw [val_main_v33_apply, val_main_v32_apply, val_main_v31_apply, val_main_v30_apply, val_main_v23_apply, val_main_v10_apply, val_main_v29_apply, val_main_v28_apply, val_main_v27_apply, val_main_v25_apply, val_main_v26_apply, val_main_v24_apply, val_main_v11_apply]
  refine mean_eq u hu b t _ 4 (by decide) (by decide) _ _
    ((congrArg _ (idx3_ext (by rfl) ?_ ?_)).trans (v9_apply u b ⟨t.val + 16, by omega⟩ ⟨128 + c.val, by omega⟩))
    ((congrArg _ (idx3_ext (by rfl) ?_ ?_)).trans (v9_apply u b ⟨t.val + 16 - 4, by omega⟩ ⟨128 + c.val, by omega⟩))
  · exact Nat.add_comm 16 t.val
  · rfl
  · show 12 + t.val = t.val + 16 - 4; omega
  · rfl

theorem v44_apply (b : Fin 8) (t : Fin 2048) (c : Fin 128) :
    val_main_v44 (F := Ideal) u (ix3 b t c) = mean u b t ⟨256 + c.val, by omega⟩ 8 := by
  rw [val_main_v44_apply, val_main_v43_apply, val_main_v42_apply, val_main_v41_apply, val_main_v34_apply, val_main_v10_apply, val_main_v40_apply, val_main_v39_apply, val_main_v38_apply, val_main_v36_apply, val_main_v37_apply, val_main_v35_apply, val_main_v11_apply]
  refine mean_eq u hu b t _ 8 (by decide) (by decide) _ _
    ((congrArg _ (idx3_ext (by rfl) ?_ ?_)).trans (v9_apply u b ⟨t.val + 16, by omega⟩ ⟨256 + c.val, by omega⟩))
    ((congrArg _ (idx3_ext (by rfl) ?_ ?_)).trans (v9_apply u b ⟨t.val + 16 - 8, by omega⟩ ⟨256 + c.val, by omega⟩))
  · exact Nat.add_comm 16 t.val
  · rfl
  · show 8 + t.val = t.val + 16 - 8; omega
  · rfl

theorem v55_apply (b : Fin 8) (t : Fin 2048) (c : Fin 128) :
    val_main_v55 (F := Ideal) u (ix3 b t c) = mean u b t ⟨384 + c.val, by omega⟩ 16 := by
  rw [val_main_v55_apply, val_main_v54_apply, val_main_v53_apply, val_main_v52_apply, val_main_v45_apply, val_main_v10_apply, val_main_v51_apply, val_main_v50_apply, val_main_v49_apply, val_main_v47_apply, val_main_v48_apply, val_main_v46_apply, val_main_v11_apply]
  refine mean_eq u hu b t _ 16 (by decide) (by decide) _ _
    ((congrArg _ (idx3_ext (by rfl) ?_ ?_)).trans (v9_apply u b ⟨t.val + 16, by omega⟩ ⟨384 + c.val, by omega⟩))
    ((congrArg _ (idx3_ext (by rfl) ?_ ?_)).trans (v9_apply u b ⟨t.val + 16 - 16, by omega⟩ ⟨384 + c.val, by omega⟩))
  · exact Nat.add_comm 16 t.val
  · rfl
  · show t.val = t.val + 16 - 16; omega
  · rfl

theorem v58_apply (b : Fin 8) (t : Fin 2048) (j : Fin 512) :
    val_main_v58 (F := Ideal) u (ix3 b t j)
      = MergeSpec.mixed (fun r => u (ix2 r j)) (row b t) (MergeSpec.width (j.val / 128)) := by
  have h22 := v22_apply u hu b t
  have h33 := v33_apply u hu b t
  have h44 := v44_apply u hu b t
  have h55 := v55_apply u hu b t
  have h57 : val_main_v57 (F := Ideal) u (ix3 b t j) = u (ix2 (row b t) j) := by
    rw [val_main_v57_apply]
    refine ((congrArg _ (idx3_ext (b := ⟨t.val + 15, by omega⟩) (by rfl) (Nat.add_comm 15 t.val) (by rfl))).trans
      (v6_apply u b ⟨t.val + 15, by omega⟩ j)).trans ?_
    unfold ext
    rw [dif_pos (by dsimp only; omega)]
    refine congrArg (fun r => u (ix2 r j)) (Fin.ext ?_)
    show 2048 * b.val + (t.val + 15 - 15) = 2048 * b.val + t.val
    omega
  have hj := j.isLt
  have hmix : ∀ (c : Fin 512) (w : ℕ), c = j → w = MergeSpec.width (j.val / 128) → mean u b t c w - u (ix2 (row b t) j)
      = MergeSpec.mixed (fun r => u (ix2 r j)) (row b t) (MergeSpec.width (j.val / 128)) := fun c w hc hw => by
    rw [hc, hw]; rfl
  unfold val_main_v58 val_main_v56
  generalize val_main_v22 (F := Ideal) u = A at *
  generalize val_main_v33 (F := Ideal) u = B at *
  generalize val_main_v44 (F := Ideal) u = C at *
  generalize val_main_v55 (F := Ideal) u = D at *
  generalize val_main_v57 (F := Ideal) u = E at *
  pointwise
  rw [h57]
  by_cases h1 : j.val < 128
  · rw [dif_pos h1, h22]
    exact hmix _ _ (Fin.ext rfl) (by rw [show j.val / 128 = 0 by omega]; rfl)
  rw [dif_neg h1]
  by_cases h2 : j.val - 128 < 128
  · rw [dif_pos h2, h33]
    exact hmix _ _ (Fin.ext (by show 128 + (j.val - 128) = j.val; omega)) (by rw [show j.val / 128 = 1 by omega]; rfl)
  rw [dif_neg h2]
  by_cases h3 : j.val - 128 - 128 < 128
  · rw [dif_pos h3, h44]
    exact hmix _ _ (Fin.ext (by show 256 + (j.val - 128 - 128) = j.val; omega)) (by rw [show j.val / 128 = 2 by omega]; rfl)
  · rw [dif_neg h3, h55]
    exact hmix _ _ (Fin.ext (by show 384 + (j.val - 128 - 128 - 128) = j.val; omega)) (by rw [show j.val / 128 = 3 by omega]; rfl)

/-! ## The pooled row -/

variable (wg : FVec Ideal S4x128x128 .f32) (ps : FVec Ideal S512 .f32)

omit hu in
theorem idx_rows (r : Fin 16384) (j : Fin 512) :
    idx_main_v66 (ix2 r j) = ix3 ⟨r.val / 2048, by omega⟩ ⟨r.val % 2048, by omega⟩ j := by
  have hj := j.isLt
  refine idx3_ext ?_ ?_ ?_
  · show (r.val * 512 + j.val) / 1048576 = r.val / 2048; omega
  · show (r.val * 512 + j.val) / 512 % 2048 = r.val % 2048; omega
  · show (r.val * 512 + j.val) % 512 = j.val; omega

omit hu in
theorem idx_split (b : Fin 8) (t : Fin 2048) (j : Fin 512) :
    idx_main_v61 (idx_main_v62 (ix3 b t j)) = ix4 ⟨j.val / 128, by omega⟩ ⟨j.val % 128, by omega⟩ b t := by
  have hj := j.isLt
  funext x
  refine Fin.ext ?_
  match x with
  | ⟨0, _⟩ => show ((b.val * 2048 + t.val) * 512 + j.val) / 128 % 4 = j.val / 128; omega
  | ⟨1, _⟩ => show ((b.val * 2048 + t.val) * 512 + j.val) % 128 = j.val % 128; omega
  | ⟨2, _⟩ => show ((b.val * 2048 + t.val) * 512 + j.val) / 1048576 = b.val; omega
  | ⟨3, _⟩ => show ((b.val * 2048 + t.val) * 512 + j.val) / 512 % 2048 = t.val; omega

omit hu in
theorem idx_join (b : Fin 8) (t : Fin 2048) (g : Fin 4) (k : Fin 128) :
    idx_main_v59 (ix4 b t g k) = ix3 b t ⟨g.val * 128 + k.val, by omega⟩ := by
  have hk := k.isLt
  refine idx3_ext ?_ ?_ ?_
  · show (((b.val * 2048 + t.val) * 4 + g.val) * 128 + k.val) / 1048576 = b.val; omega
  · show (((b.val * 2048 + t.val) * 4 + g.val) * 128 + k.val) / 512 % 2048 = t.val; omega
  · show (((b.val * 2048 + t.val) * 4 + g.val) * 128 + k.val) % 512 = g.val * 128 + k.val; omega

theorem v66_apply (r : Fin 16384) (j : Fin 512) :
    val_main_v66 (F := Ideal) u wg ps (ix2 r j) = MergeSpec.pooled (fun r j => u (ix2 r j)) (fun g k d => wg (ix3 g k d))
      (fun k => ps (ix1 k)) r j := by
  have hr := r.isLt
  have hj := j.isLt
  rw [val_main_v66_apply, idx_rows, val_main_v65_apply, val_main_v64_apply, val_main_v63_apply, val_main_v62_apply,
    val_main_v61_apply, idx_split, val_main_v60_apply]
  unfold MergeSpec.pooled
  refine congrArg₂ (· * ·) (Finset.sum_congr rfl fun k _ => ?_) ?_
  · have hk := k.isLt
    have hridx : ridx_main_v60 (ix4 ⟨j.val / 128, by omega⟩ ⟨j.val % 128, by omega⟩ ⟨r.val / 2048, by omega⟩ ⟨r.val % 2048, by omega⟩) k
        = ix4 (⟨r.val / 2048, by omega⟩ : Fin 8) (⟨r.val % 2048, by omega⟩ : Fin 2048) (⟨j.val / 128, by omega⟩ : Fin 4) k := by
      funext x
      match x with
      | ⟨0, _⟩ => rfl
      | ⟨1, _⟩ => rfl
      | ⟨2, _⟩ => rfl
      | ⟨3, _⟩ => rfl
    rw [val_main_v59_apply, mul_comm, hridx, idx_join, v58_apply u hu]
    have hrow : row ⟨r.val / 2048, by omega⟩ ⟨r.val % 2048, by omega⟩ = r :=
      Fin.ext (by show 2048 * (r.val / 2048) + r.val % 2048 = r.val; omega)
    rw [hrow]
    refine congrArg₂ (· * ·) (congrArg (fun g => MergeSpec.mixed _ r (MergeSpec.width g)) ?_) (congrArg wg (idx3_ext rfl rfl rfl))
    show (j.val / 128 * 128 + k.val) / 128 = j.val / 128
    omega
  · refine congrArg ps (funext fun x => ?_)
    match x with
    | ⟨0, _⟩ => rfl

end Cert.MergeRefIdeal.Row

end
-- ==== Proof.MergeRefOut.lean ====
/-
  The merge reference's result: every entry is the layer of `MergeSpec` on the arguments' row.
-/
module

public import proofs.«01_k».proof.Proof.MergeRefValue

@[expose] public section

set_option maxRecDepth 16384

noncomputable section

open Idealize.ShloMosaic Idealize.ShloMosaic.TcCoe Idealize.SL.Sem

namespace Cert.MergeRefIdeal.Row

open Cert.MergeRefIdeal Cert.MergeRefIdeal.Read

variable (x : FVec Ideal S16384x1024 .f32) (o : FVec Ideal S16384x512 .bf16) (u : FVec Ideal S16384x512 .f32)
  (w : FVec Ideal S1024x4104 .f32) (wg : FVec Ideal S4x128x128 .f32) (ps : FVec Ideal S512 .f32)
  (wa wb : FVec Ideal S512x1024 .f32) (wo : FVec Ideal S1024x1024 .f32) (g b : FVec Ideal S1024 .f32)

/-- The gates' columns of the input map. -/
def gates (k : Fin 1024) (j : Fin 2048) : EReal := w (ix2 k ⟨2056 + j.val, by omega⟩)

/-- The gate of the attention's branch at row `r`, column `d`. -/
theorem gate_att (r : Fin 16384) (d : Fin 1024) :
    val_main_v72 (F := Ideal) x w (ix2 r d) = MergeSpec.gate (fun k => x (ix2 r k)) (gates w) ⟨d.val, by omega⟩ := by
  simp only [val_main_v72, val_main_v71, val_main_v70, val_main_v69, val_main_v68, val_main_v67, val_main_cst_8, val_main_cst_9,
    val_main_v2, val_main_v1, val_main_v0]
  pointwise [MergeSpec.gate, gates]
  rfl

/-- The gate of the pooling's branch at row `r`, column `d`. -/
theorem gate_pool (r : Fin 16384) (d : Fin 1024) :
    val_main_v81 (F := Ideal) x w (ix2 r d) = MergeSpec.gate (fun k => x (ix2 r k)) (gates w) ⟨1024 + d.val, by omega⟩ := by
  simp only [val_main_v81, val_main_v80, val_main_v79, val_main_v78, val_main_v77, val_main_v76, val_main_cst_10, val_main_cst_11,
    val_main_v3, val_main_v1, val_main_v0]
  pointwise [MergeSpec.gate, gates]
  rfl

/-- The gated sum at row `r`, column `d`. -/
theorem merged_apply (r : Fin 16384) (d : Fin 1024) :
    val_main_v84 (F := Ideal) x o u w wg ps wa wb (ix2 r d) = MergeSpec.merged (fun k => x (ix2 r k)) (fun k => o (ix2 r k))
      (fun j => val_main_v66 (F := Ideal) u wg ps (ix2 r j)) (gates w) (fun k d => wa (ix2 k d)) (fun k d => wb (ix2 k d)) d := by
  unfold MergeSpec.merged
  rw [← gate_att, ← gate_pool]
  rw [val_main_v84, val_main_v83, val_main_v82, val_main_v75, val_main_v74, val_main_v73]
  generalize val_main_v66 (F := Ideal) u wg ps = p
  generalize val_main_v72 (F := Ideal) x w = ga
  generalize val_main_v81 (F := Ideal) x w = gp
  pointwise

/-- The scaled row plus the projected merge at row `r`, column `d`. -/
theorem hidden_apply (r : Fin 16384) (d : Fin 1024) :
    val_main_v88 (F := Ideal) x o u w wg ps wa wb wo (ix2 r d) = MergeSpec.hidden (fun k => x (ix2 r k)) (fun k => o (ix2 r k))
      (fun j => val_main_v66 (F := Ideal) u wg ps (ix2 r j)) (gates w) (fun k d => wa (ix2 k d)) (fun k d => wb (ix2 k d))
      (fun k d => wo (ix2 k d)) d := by
  unfold MergeSpec.hidden
  simp only [← merged_apply]
  rw [val_main_v88, val_main_v87, val_main_v86, val_main_v85, val_main_cst_12]
  generalize val_main_v84 (F := Ideal) x o u w wg ps wa wb = m
  pointwise

/-- The reference's result at row `r`, column `d`, of a finite pooling input. -/
theorem out_apply (hu : ∀ i, u i = (((u i).toReal : ℝ) : EReal)) (r : Fin 16384) (d : Fin 1024) :
    val_main_v112 (F := Ideal) x o u w wg ps wa wb wo g b (ix2 r d)
      = MergeSpec.layer (fun k => x (ix2 r k)) (fun k => o (ix2 r k))
        (MergeSpec.pooled (fun r j => u (ix2 r j)) (fun g k d => wg (ix3 g k d)) (fun k => ps (ix1 k)) r) (gates w)
        (fun k d => wa (ix2 k d)) (fun k d => wb (ix2 k d)) (fun k d => wo (ix2 k d)) (fun k => g (ix1 k))
        (fun k => b (ix1 k)) d := by
  unfold MergeSpec.layer
  rw [show MergeSpec.pooled (fun r j => u (ix2 r j)) (fun g k d => wg (ix3 g k d)) (fun k => ps (ix1 k)) r
      = fun j => val_main_v66 (F := Ideal) u wg ps (ix2 r j) from funext fun j => (v66_apply u hu wg ps r j).symm,
    ← show (fun k => val_main_v88 (F := Ideal) x o u w wg ps wa wb wo (ix2 r k)) = _ from
      funext fun k => hidden_apply x o u w wg ps wa wb wo r k]
  simp only [val_main_v112, val_main_v111, val_main_v110, val_main_v109, val_main_v108, val_main_v107, val_main_v106,
    val_main_v105, val_main_v104, val_main_v103, val_main_v102, val_main_v101, val_main_v100, val_main_v99, val_main_v98,
    val_main_v97, val_main_v96, val_main_v95, val_main_v94, val_main_v93, val_main_v92, val_main_v91, val_main_v90,
    val_main_v89, val_main_cst_13, val_main_cst_14, val_main_cst_15, val_main_cst_16, val_main_cst_17]
  generalize val_main_v88 (F := Ideal) x o u w wg ps wa wb wo = h
  pointwise [FfnSpec.norm, FfnSpec.mean]

end Cert.MergeRefIdeal.Row

end
-- ==== Proof.MergeClaims.lean ====
/-
  The claims about the merge's call: the frames, the idealization, and the value claim where the pooling input is finite.
-/
module

public import proofs.«01_k».proof.Proof.AttnClaims
public import proofs.«01_k».proof.Proof.MergeArray
public import proofs.«01_k».proof.Proof.MergeRefOut
public import proofs.«01_k».proof.Proof.Gen.Pre_finite_pool
public import proofs.«01_k».proof.Proof.Gen.Merge.Frame
public import Idealize.ShloMosaic.Lib.Quiescent

@[expose] public section

noncomputable section

open Idealize.ShloMosaic Idealize.ShloMosaic.TcCoe Idealize.SL.Sem

namespace Cert.MergeClaims

theorem frame_kernel : Cert.quiescent_Merge := fun m ρ _ => Cert.Merge.Gen.frame m ρ

theorem frame_ideal : Cert.quiescent_MergeIdeal := fun m ρ _ => Cert.MergeIdeal.Gen.frame m ρ

theorem frame_ideal_finite : Cert.quiescent_MergeIdeal_pre_finite_pool := fun m ρ _ => Cert.MergeIdeal.Gen.frame m ρ

theorem frame_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem frame_ref_finite : Cert.quiescent_MergeRefIdeal_pre_finite_pool := fun m ρ _ => frame_ref m ρ trivial

theorem preserves : Cert.preserves_Merge_MergeIdeal := trivial

/-- On arguments that agree, with a finite pooling input, the reference's result is the kernel's. -/
theorem ref_eq (m : (ℓ : Loc Cert.MergeIdeal.nD Cert.MergeIdeal.τ Cert.MergeIdeal.sig) → Buf (Elt Ideal) ℓ)
    (hp : Cert.Pre_MergeIdeal_finite_pool m) (c : Dev Cert.MergeIdeal.nD) :
    Cert.MergeRefIdeal.Read.val_main_v112 (F := Ideal)
      (m ((c.tc : Thread Cert.MergeIdeal.nD Cert.MergeIdeal.τ).loc Cert.MergeIdeal.main_arg0))
      (m ((c.tc : Thread Cert.MergeIdeal.nD Cert.MergeIdeal.τ).loc Cert.MergeIdeal.main_arg1))
      (m ((c.tc : Thread Cert.MergeIdeal.nD Cert.MergeIdeal.τ).loc Cert.MergeIdeal.main_arg2))
      (m ((c.tc : Thread Cert.MergeIdeal.nD Cert.MergeIdeal.τ).loc Cert.MergeIdeal.main_arg3))
      (m ((c.tc : Thread Cert.MergeIdeal.nD Cert.MergeIdeal.τ).loc Cert.MergeIdeal.main_arg4))
      (m ((c.tc : Thread Cert.MergeIdeal.nD Cert.MergeIdeal.τ).loc Cert.MergeIdeal.main_arg5))
      (m ((c.tc : Thread Cert.MergeIdeal.nD Cert.MergeIdeal.τ).loc Cert.MergeIdeal.main_arg6))
      (m ((c.tc : Thread Cert.MergeIdeal.nD Cert.MergeIdeal.τ).loc Cert.MergeIdeal.main_arg7))
      (m ((c.tc : Thread Cert.MergeIdeal.nD Cert.MergeIdeal.τ).loc Cert.MergeIdeal.main_arg8))
      (m ((c.tc : Thread Cert.MergeIdeal.nD Cert.MergeIdeal.τ).loc Cert.MergeIdeal.main_arg9))
      (m ((c.tc : Thread Cert.MergeIdeal.nD Cert.MergeIdeal.τ).loc Cert.MergeIdeal.main_arg10))
      = Cert.MergeIdeal.Array.whole m c := by
  funext i
  obtain ⟨r, d, rfl⟩ : ∃ (r : Fin 16384) (d : Fin 1024), i = ix2 r d := ⟨i 0, i 1, eq_ix2 i⟩
  exact Cert.MergeRefIdeal.Row.out_apply _ _ _ _ _ _ _ _ _ _ _
    (fun i => Cert.AttnClaims.real_of_abs _ (congrFun (hp c) i)) r d

theorem algebraic : Cert.algebraic_MergeIdeal_MergeRefIdeal_pre_finite_pool := by
  intro m ρ m' ρ' hp hag
  refine ⟨fun c => Cert.MergeIdeal.Array.whole m c, ?_, ?_⟩
  · exact (θ_run Cert.MergeIdeal.defs _ _).mono (fun _ h c => ⟨(h c).1.trans (Cert.MergeIdeal.Array.final m c), (h c).2⟩)
      (Cert.MergeIdeal.Value.run_blocks (F := Ideal) m ρ)
  · refine (θ_run Cert.MergeRefIdeal.defs _ _).mono (fun _ h c => ⟨(h c).1.trans
      ((Cert.MergeRefIdeal.Read.val_main_v112_eq m' c).trans (Eq.trans ?_ (ref_eq m hp c))), (h c).2⟩)
      (Cert.MergeRefIdeal.Value.run (F := Ideal) m' ρ')
    obtain ⟨h0, h1, h2, h3, h4, h5, h6, h7, h8, h9, h10⟩ := hag c
    rw [h0, h1, h2, h3, h4, h5, h6, h7, h8, h9, h10]

end Cert.MergeClaims

end
-- ==== Proof.MergeSampleSpec.lean ====
/-
  The pooling of the sample rows as a function of extended reals. Each of the 32 sequences has 8 new rows after 15 kept
  ones, so every trailing window of up to 16 rows is full. Nothing here mentions a program.
-/
module

public import proofs.«01_k».proof.Proof.MergeSpec

@[expose] public section

noncomputable section

open Idealize.ShloMosaic

namespace Cert.MergeSampleSpec

/-- New row `t` of sequence `b`. -/
abbrev row (b : Fin 32) (t : Fin 8) : Fin 256 := ⟨8 * b.val + t.val, by omega⟩

/-- Channel `k` of the group of column `j`, the group, and the column's place in it. -/
abbrev chan (j : Fin 512) (k : Fin 128) : Fin 512 := ⟨j.val / 128 * 128 + k.val, by omega⟩
abbrev grp (j : Fin 512) : Fin 4 := ⟨j.val / 128, by omega⟩
abbrev low (j : Fin 512) : Fin 128 := ⟨j.val % 128, by omega⟩

/-- The sequence of a row, and the row's place in it. -/
abbrev seq (r : Fin 256) : Fin 32 := ⟨r.val / 8, by omega⟩
abbrev pos (r : Fin 256) : Fin 8 := ⟨r.val % 8, by omega⟩

/-- Kept row `p` among the 16 rows before the new ones. -/
abbrev kept (p : Fin 15) : Fin 16 := ⟨p.val + 1, by omega⟩

/-- A channel of sequence `b` by position, the 15 kept rows first. -/
def ext (u : Fin 256 → EReal) (s : Fin 32 → Fin 15 → EReal) (b : Fin 32) (p : ℕ) : EReal :=
  if h : p < 15 then s b ⟨p, h⟩ else if h' : p < 23 then u (row b ⟨p - 15, by omega⟩) else 0

/-- The mean of the trailing window of `w` rows, less the row itself. -/
def mixed (u : Fin 256 → EReal) (s : Fin 32 → Fin 15 → EReal) (b : Fin 32) (t : Fin 8) (w : ℕ) : EReal :=
  (∑ k ∈ Finset.range w, ext u s b (t.val + 15 - k)) * Ideal.div 1 ((w : ℝ) : EReal) - u (row b t)

/-- The pooled row at column `j`: the group's linear map of its 128 mixed channels, scaled. -/
def pooled (u : Fin 256 → Fin 512 → EReal) (s : Fin 32 → Fin 15 → Fin 512 → EReal) (wg : Fin 4 → Fin 128 → Fin 128 → EReal)
    (ps : Fin 512 → EReal) (r : Fin 256) (j : Fin 512) : EReal :=
  (∑ k : Fin 128, mixed (fun r => u r (chan j k)) (fun b p => s b p (chan j k)) (seq r) (pos r) (MergeSpec.width (j.val / 128))
    * wg (grp j) k (low j)) * ps j

/-- The windows' lengths. -/
def Len (w : ℕ) : Prop := w = 2 ∨ w = 4 ∨ w = 8 ∨ w = 16

/-- The count as both programs compute it, on 32-bit words: past position 8192 it is the window's length. -/
theorem count_word (t : Fin 8) (w : ℕ) (hw : Len w) :
    (((IntOp.minsi (IntOp.addi (IntOp.addi 8192#32 (BitVec.ofNat 32 t.val)) 1#32) (BitVec.ofNat 32 w)).toInt : ℝ) : EReal)
      = ((w : ℝ) : EReal) := by
  have h : ∀ t : Fin 8, ∀ w ∈ [2, 4, 8, 16],
      (IntOp.minsi (IntOp.addi (IntOp.addi 8192#32 (BitVec.ofNat 32 t.val)) 1#32) (BitVec.ofNat 32 w)).toInt = ((w : ℕ) : ℤ) := by
    decide
  rw [h t w (by rcases hw with rfl | rfl | rfl | rfl <;> decide)]
  rfl

/-- A division by a length is a product with its reciprocal. -/
theorem div_len (a : EReal) (w : ℕ) (hw : 0 < w) : Ideal.div a ((w : ℝ) : EReal) = a * Ideal.div 1 ((w : ℝ) : EReal) := by
  have h : ((w : ℝ) : EReal) ≠ 0 := by
    rw [Ne, EReal.coe_eq_zero, Nat.cast_eq_zero]
    omega
  unfold Ideal.div
  rw [if_neg h, if_neg h, one_mul]

end Cert.MergeSampleSpec

end
-- ==== Proof.MergeSamplePool.lean ====
/-
  The pooling inside the sample rows' merge kernel. Its one grid point holds the 8 new rows of all 32 sequences and 16 rows
  before them (the kept 15 after one row of padding); each group of 128 channels sums its trailing window of 2, 4, 8 or
  16 rows by repeated doubling, and what is read at a row is `MergeSampleSpec.mixed`.
-/
module

public import proofs.«01_k».proof.Defs
public import proofs.«01_k».proof.Proof.MergeSampleSpec
public import proofs.«01_k».proof.Proof.Gen.MergeSampleIdeal.Value
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem

namespace Cert.MergeSampleIdeal.Pool

open Cert.MergeSampleIdeal Cert.MergeSampleIdeal.Gen Cert.MergeSampleSpec

/-! ## Windows by doubling -/

/-- Every row takes the row `d` before it on top. -/
def shift (d : BitVec 32) (v : FVec Ideal S32x24x128 .f32) : FVec Ideal S32x24x128 .f32 :=
  addf v (dynamicRotate 1 d none v rotates_S32x24x128_d1)

theorem shift_apply (d : BitVec 32) (v : FVec Ideal S32x24x128 .f32) (b : Fin 32) (p : Fin 24) (c : Fin 128) :
    shift d v (ix3 b p c) = v (ix3 b p c) + v (ix3 b ⟨(p.val + 24 - d.toNat % 24) % 24, Nat.mod_lt _ (by decide)⟩ c) := by
  pointwise [shift]

/-- `v` holds, at each row of sequence `b` with `w` rows up to it, the sum of the last `w` values of `f` up to the row. -/
def Window (v : FVec Ideal S32x24x128 .f32) (b : Fin 32) (c : Fin 128) (f : ℕ → EReal) (w : ℕ) : Prop :=
  ∀ p : Fin 24, w ≤ p.val + 1 → v (ix3 b p c) = ∑ k ∈ Finset.range w, f (p.val - k)

theorem shift_window (v : FVec Ideal S32x24x128 .f32) (b : Fin 32) (c : Fin 128) (f : ℕ → EReal) (w : ℕ) (hw : w < 24)
    (H : Window v b c f w) : Window (shift (BitVec.ofNat 32 w) v) b c f (w + w) := fun p hp => by
  have hd : (BitVec.ofNat 32 w).toNat = w := by rw [BitVec.toNat_ofNat]; omega
  have hi : (⟨(p.val + 24 - (BitVec.ofNat 32 w).toNat % 24) % 24, Nat.mod_lt _ (by decide)⟩ : Fin 24) = ⟨p.val - w, by omega⟩ :=
    Fin.ext (by
      show (p.val + 24 - (BitVec.ofNat 32 w).toNat % 24) % 24 = p.val - w
      rw [hd]; omega)
  rw [shift_apply, H p (by omega), hi, H ⟨p.val - w, by omega⟩ (by show w ≤ p.val - w + 1; omega), Finset.sum_range_add]
  refine congrArg (_ + ·) (Finset.sum_congr rfl fun k _ => congrArg f ?_)
  show p.val - w - k = _
  omega

/-- The sums of 2, 4, 8 and 16 rows. -/
def two (v : FVec Ideal S32x24x128 .f32) : FVec Ideal S32x24x128 .f32 := shift 1#32 v
def four (v : FVec Ideal S32x24x128 .f32) : FVec Ideal S32x24x128 .f32 := shift 2#32 (two v)
def eight (v : FVec Ideal S32x24x128 .f32) : FVec Ideal S32x24x128 .f32 := shift 4#32 (four v)
def sixteen (v : FVec Ideal S32x24x128 .f32) : FVec Ideal S32x24x128 .f32 := shift 8#32 (eight v)

section
variable (v : FVec Ideal S32x24x128 .f32) (b : Fin 32) (c : Fin 128) (f : ℕ → EReal) (hf : ∀ p : Fin 24, v (ix3 b p c) = f p.val)
include hf
theorem two_window : Window (two v) b c f 2 := shift_window v b c f 1 (by decide) fun p _ => by
  rw [hf, Finset.sum_range_one, Nat.sub_zero]
theorem four_window : Window (four v) b c f 4 := shift_window _ b c f 2 (by decide) (two_window v b c f hf)
theorem eight_window : Window (eight v) b c f 8 := shift_window _ b c f 4 (by decide) (four_window v b c f hf)
theorem sixteen_window : Window (sixteen v) b c f 16 := shift_window _ b c f 8 (by decide) (eight_window v b c f hf)
end

/-! ## The rows -/

theorem pos_apply (t : Fin 8) : k0_pay4 (ix3 0 t 0) = IntOp.addi 8192#32 (BitVec.ofNat 32 t.val) := by
  unfold k0_pay4
  pointwise

variable (x2 : Vec Ideal S32x8x512 .f32) (x3 : Vec Ideal S32x16x512 .f32)
  (U : Fin 256 → Fin 512 → EReal) (S : Fin 32 → Fin 15 → Fin 512 → EReal)
  (h2 : ∀ b t c, x2 (ix3 b t c) = U (row b t) c)
  (h3 : ∀ b (p : Fin 15) c, x3 (ix3 b (kept p) c) = S b p c)
include h2 h3

/-- The rows of a sequence as the body holds them: past the row of padding they are `MergeSampleSpec.ext`. -/
theorem rows_apply (b : Fin 32) (p : Fin 24) (c : Fin 512) :
    k0_pay3 x2 x3 (ix3 b p c) = if p.val = 0 then x3 (ix3 b 0 c) else ext (fun r => U r c) (fun b p => S b p c) b (p.val - 1) := by
  have hp := p.isLt
  unfold k0_pay3
  pointwise [k0_pay2]
  unfold ext
  by_cases h0 : p.val = 0
  · rw [dif_pos (by omega), if_pos h0]
    exact congrArg (fun q => x3 (ix3 b q c)) (Fin.ext h0)
  rw [if_neg h0]
  by_cases h : p.val < 16
  · rw [dif_pos h, dif_pos (by omega)]
    refine Eq.trans ?_ (h3 b ⟨p.val - 1, by omega⟩ c)
    exact congrArg (fun q => x3 (ix3 b q c)) (Fin.ext (by show p.val = p.val - 1 + 1; omega))
  · rw [dif_neg h, dif_neg (by omega), dif_pos (by omega), h2]
    exact congrArg (fun q => U q c) (Fin.ext (by show 8 * b.val + (p.val - 16) = 8 * b.val + (p.val - 1 - 15); omega))

/-! ## Means -/

/-- The windows' means less the rows themselves, the sequences' rows one after the other. -/
def means (v : FVec Ideal S32x24x128 .f32) (w : BitVec 32) (o : FVec Ideal S32x8x128 .f32) : FVec Ideal S256x128 .f32 :=
  shapeCast S256x128 (subf (mulf (extractStridedSlice S32x8x128 ![0, 16, 0] v slices_S32x24x128_o0_16_0_S32x8x128)
    (broadcastTo S32x8x128 (divf (broadcast S1x8x1 (Scalar.ofBits .f32 0x3F800000#32))
      (sitofp .f32 (minsi (addi k0_pay4 (broadcast S1x8x1 1#32)) (broadcast S1x8x1 w))) : FVec Ideal S1x8x1 .f32)
      broadcasts_S1x8x1_S32x8x128)) o : FVec Ideal S32x8x128 .f32) shapeCasts_S32x8x128_S256x128

omit h2 h3 in
theorem means_apply (v : FVec Ideal S32x24x128 .f32) (o : FVec Ideal S32x8x128 .f32) (c : Fin 128) (u : Fin 256 → EReal)
    (s : Fin 32 → Fin 15 → EReal) (z : EReal) (w : ℕ) (hw : Len w) (b : Fin 32)
    (hv : Window v b c (fun p => if p = 0 then z else ext u s b (p - 1)) w) (t : Fin 8) (ho : o (ix3 b t c) = u (row b t)) :
    means v (BitVec.ofNat 32 w) o (ix2 (row b t) c) = mixed u s b t w := by
  have ht := t.isLt
  have hb := b.isLt
  have hle : w ≤ 16 := by rcases hw with rfl | rfl | rfl | rfl <;> decide
  have e : means v (BitVec.ofNat 32 w) o (ix2 (row b t) c) = v (ix3 b ⟨16 + t.val, by omega⟩ c)
      * Ideal.div 1 (((IntOp.minsi (IntOp.addi (k0_pay4 (ix3 0 t 0)) 1#32) (BitVec.ofNat 32 w)).toInt : ℝ) : EReal)
      - o (ix3 b t c) := by
    unfold means
    pointwise
    simp only [show (8 * b.val + t.val) / 8 = b.val by omega, show (8 * b.val + t.val) % 8 = t.val by omega]
    rfl
  rw [e, pos_apply, count_word t w hw, ho, hv ⟨16 + t.val, by omega⟩ (by show w ≤ 16 + t.val + 1; omega)]
  unfold mixed
  refine congrArg (fun s => s * _ - _) (Finset.sum_congr rfl fun k hk => ?_)
  have hk := Finset.mem_range.1 hk
  dsimp only
  rw [if_neg (by omega)]
  refine congrArg (ext _ _ b) ?_
  omega

/-- The four groups' mixed channels. -/
def mix0 (x2 : Vec Ideal S32x8x512 .f32) (x3 : Vec Ideal S32x16x512 .f32) : FVec Ideal S256x128 .f32 :=
  means (two (extractStridedSlice S32x24x128 ![0, 0, 0] (k0_pay3 x2 x3) slices_S32x24x512_o0_0_0_S32x24x128)) (BitVec.ofNat 32 2)
    (extractStridedSlice S32x8x128 ![0, 0, 0] (k0_pay2 x2) slices_S32x8x512_o0_0_0_S32x8x128)
def mix1 (x2 : Vec Ideal S32x8x512 .f32) (x3 : Vec Ideal S32x16x512 .f32) : FVec Ideal S256x128 .f32 :=
  means (four (extractStridedSlice S32x24x128 ![0, 0, 128] (k0_pay3 x2 x3) slices_S32x24x512_o0_0_128_S32x24x128)) (BitVec.ofNat 32 4)
    (extractStridedSlice S32x8x128 ![0, 0, 128] (k0_pay2 x2) slices_S32x8x512_o0_0_128_S32x8x128)
def mix2 (x2 : Vec Ideal S32x8x512 .f32) (x3 : Vec Ideal S32x16x512 .f32) : FVec Ideal S256x128 .f32 :=
  means (eight (extractStridedSlice S32x24x128 ![0, 0, 256] (k0_pay3 x2 x3) slices_S32x24x512_o0_0_256_S32x24x128)) (BitVec.ofNat 32 8)
    (extractStridedSlice S32x8x128 ![0, 0, 256] (k0_pay2 x2) slices_S32x8x512_o0_0_256_S32x8x128)
def mix3 (x2 : Vec Ideal S32x8x512 .f32) (x3 : Vec Ideal S32x16x512 .f32) : FVec Ideal S256x128 .f32 :=
  means (sixteen (extractStridedSlice S32x24x128 ![0, 0, 384] (k0_pay3 x2 x3) slices_S32x24x512_o0_0_384_S32x24x128)) (BitVec.ofNat 32 16)
    (extractStridedSlice S32x8x128 ![0, 0, 384] (k0_pay2 x2) slices_S32x8x512_o0_0_384_S32x8x128)

theorem mix0_apply (b : Fin 32) (t : Fin 8) (c : Fin 128) : mix0 x2 x3 (ix2 (row b t) c)
    = mixed (fun r => U r ⟨c.val, by omega⟩) (fun b p => S b p ⟨c.val, by omega⟩) b t 2 :=
  means_apply _ _ c _ _ (x3 (ix3 b 0 ⟨c.val, by omega⟩)) 2 (.inl rfl) b (two_window _ b c _ fun p => by
      rw [← rows_apply x2 x3 U S h2 h3 b p ⟨c.val, by omega⟩]
      generalize k0_pay3 x2 x3 = y
      pointwise) t (by
    rw [← h2]
    pointwise [k0_pay2])
theorem mix1_apply (b : Fin 32) (t : Fin 8) (c : Fin 128) : mix1 x2 x3 (ix2 (row b t) c)
    = mixed (fun r => U r ⟨128 + c.val, by omega⟩) (fun b p => S b p ⟨128 + c.val, by omega⟩) b t 4 :=
  means_apply _ _ c _ _ (x3 (ix3 b 0 ⟨128 + c.val, by omega⟩)) 4 (.inr (.inl rfl)) b (four_window _ b c _ fun p => by
      rw [← rows_apply x2 x3 U S h2 h3 b p ⟨128 + c.val, by omega⟩]
      generalize k0_pay3 x2 x3 = y
      pointwise) t (by
    rw [← h2]
    pointwise [k0_pay2])
theorem mix2_apply (b : Fin 32) (t : Fin 8) (c : Fin 128) : mix2 x2 x3 (ix2 (row b t) c)
    = mixed (fun r => U r ⟨256 + c.val, by omega⟩) (fun b p => S b p ⟨256 + c.val, by omega⟩) b t 8 :=
  means_apply _ _ c _ _ (x3 (ix3 b 0 ⟨256 + c.val, by omega⟩)) 8 (.inr (.inr (.inl rfl))) b (eight_window _ b c _ fun p => by
      rw [← rows_apply x2 x3 U S h2 h3 b p ⟨256 + c.val, by omega⟩]
      generalize k0_pay3 x2 x3 = y
      pointwise) t (by
    rw [← h2]
    pointwise [k0_pay2])
theorem mix3_apply (b : Fin 32) (t : Fin 8) (c : Fin 128) : mix3 x2 x3 (ix2 (row b t) c)
    = mixed (fun r => U r ⟨384 + c.val, by omega⟩) (fun b p => S b p ⟨384 + c.val, by omega⟩) b t 16 :=
  means_apply _ _ c _ _ (x3 (ix3 b 0 ⟨384 + c.val, by omega⟩)) 16 (.inr (.inr (.inr rfl))) b (sixteen_window _ b c _ fun p => by
      rw [← rows_apply x2 x3 U S h2 h3 b p ⟨384 + c.val, by omega⟩]
      generalize k0_pay3 x2 x3 = y
      pointwise) t (by
    rw [← h2]
    pointwise [k0_pay2])

/-! ## The groups' linear maps -/

/-- One group's linear map. -/
def group (y : FVec Ideal S256x128 .f32) (w : Vec Ideal S1x128x128 .bf16) : FVec Ideal S256x128 .f32 :=
  matmul dot_S256x128_S128x128_S256x128_1_0_0_1_n_n none (truncf .bf16 y bitsLt_bf16_f32 : FVec Ideal S256x128 .bf16)
    (shapeCast S128x128 w shapeCasts_S1x128x128_S128x128 : FVec Ideal S128x128 .bf16) (constant S256x128 .f32 0x00000000#32)

omit h2 h3 in
theorem group_apply (y : FVec Ideal S256x128 .f32) (w : Vec Ideal S1x128x128 .bf16) (r : Fin 256) (c : Fin 128) :
    group y w (ix2 r c) = ∑ k : Fin 128, y (ix2 r k) * w (ix3 0 k c) := by
  unfold group
  pointwise

/-- The pooled rows, of the four groups' weights. -/
def pool (x2 : Vec Ideal S32x8x512 .f32) (x3 : Vec Ideal S32x16x512 .f32) (w0 w1 w2 w3 : Vec Ideal S1x128x128 .bf16) :
    FVec Ideal S256x512 .f32 :=
  concatenate S256x512 1 [⟨S256x128, group (mix0 x2 x3) w0⟩, ⟨S256x128, group (mix1 x2 x3) w1⟩,
    ⟨S256x128, group (mix2 x2 x3) w2⟩, ⟨S256x128, group (mix3 x2 x3) w3⟩]
    concatenates_S256x128_S256x128_S256x128_S256x128_S256x512_d1

theorem pool_apply (W : Fin 4 → Fin 128 → Fin 128 → EReal) (w0 w1 w2 w3 : Vec Ideal S1x128x128 .bf16)
    (g0 : ∀ k c, w0 (ix3 0 k c) = W 0 k c) (g1 : ∀ k c, w1 (ix3 0 k c) = W 1 k c)
    (g2 : ∀ k c, w2 (ix3 0 k c) = W 2 k c) (g3 : ∀ k c, w3 (ix3 0 k c) = W 3 k c) (b : Fin 32) (t : Fin 8) (j : Fin 512) :
    pool x2 x3 w0 w1 w2 w3 (ix2 (row b t) j) = ∑ k : Fin 128,
      mixed (fun r => U r (chan j k)) (fun b p => S b p (chan j k)) b t
          (MergeSpec.width (j.val / 128))
        * W (grp j) k (low j) := by
  have hj := j.isLt
  have hg : ∀ (g : ℕ) (hg : g < 4) (c : Fin 128) (F : Fin 128 → EReal) (G : Fin 128 → EReal), j.val = 128 * g + c.val →
      (∀ k : Fin 128, F k = mixed (fun r => U r ⟨128 * g + k.val, by omega⟩) (fun b p => S b p ⟨128 * g + k.val, by omega⟩) b t
        (MergeSpec.width g)) → (∀ k, G k = W ⟨g, hg⟩ k c) → ∑ k : Fin 128, F k * G k = ∑ k : Fin 128,
      mixed (fun r => U r (chan j k)) (fun b p => S b p (chan j k)) b t
          (MergeSpec.width (j.val / 128))
        * W (grp j) k (low j) := fun g hg c F G hjg hF hG => by
    have hc := c.isLt
    obtain rfl : g = j.val / 128 := by omega
    rw [show low j = c from Fin.ext (by dsimp only; omega)]
    refine Finset.sum_congr rfl fun k _ => ?_
    rw [hF, hG]
    refine congrArg (fun a => mixed (fun r => U r a) (fun b p => S b p a) _ _ _ * _) (Fin.ext ?_)
    show 128 * (j.val / 128) + k.val = j.val / 128 * 128 + k.val
    omega
  have m0 := mix0_apply x2 x3 U S h2 h3 b t
  have m1 := mix1_apply x2 x3 U S h2 h3 b t
  have m2 := mix2_apply x2 x3 U S h2 h3 b t
  have m3 := mix3_apply x2 x3 U S h2 h3 b t
  unfold pool
  generalize mix0 x2 x3 = y0 at *
  generalize mix1 x2 x3 = y1 at *
  generalize mix2 x2 x3 = y2 at *
  generalize mix3 x2 x3 = y3 at *
  have q0 := group_apply y0 w0 (row b t)
  have q1 := group_apply y1 w1 (row b t)
  have q2 := group_apply y2 w2 (row b t)
  have q3 := group_apply y3 w3 (row b t)
  generalize group y0 w0 = z0 at *
  generalize group y1 w1 = z1 at *
  generalize group y2 w2 = z2 at *
  generalize group y3 w3 = z3 at *
  pointwise
  by_cases h1 : j.val < 128
  · rw [dif_pos h1, q0]
    refine hg 0 (by decide) ⟨j.val, h1⟩ _ _ (by dsimp only; omega) (fun k => (m0 k).trans ?_) (fun k => g0 k _)
    refine congrArg (fun a => mixed (fun r => U r a) (fun b p => S b p a) _ _ _) (Fin.ext ?_)
    show k.val = 128 * 0 + k.val
    omega
  rw [dif_neg h1]
  by_cases h2 : j.val - 128 < 128
  · rw [dif_pos h2, q1]
    exact hg 1 (by decide) ⟨j.val - 128, h2⟩ _ _ (by dsimp only; omega) (fun k => m1 k) (fun k => g1 k _)
  rw [dif_neg h2]
  by_cases h3 : j.val - 128 - 128 < 128
  · rw [dif_pos h3, q2]
    exact hg 2 (by decide) ⟨j.val - 128 - 128, h3⟩ _ _ (by dsimp only; omega) (fun k => m2 k) (fun k => g2 k _)
  · rw [dif_neg h3, q3]
    exact hg 3 (by decide) ⟨j.val - 128 - 128 - 128, by omega⟩ _ _ (by dsimp only; omega) (fun k => m3 k) (fun k => g3 k _)

end Cert.MergeSampleIdeal.Pool

end
-- ==== Proof.MergeSampleBlock.lean ====
/-
  The sample rows' merge kernel: the block its grid point writes, read at a row and a column, is the layer of `MergeSpec`
  on the row.
-/
module

public import proofs.«01_k».proof.Proof.MergeSamplePool

@[expose] public section

set_option maxRecDepth 16384

noncomputable section

open Idealize.ShloMosaic Idealize.ShloMosaic.TcCoe Idealize.SL.Sem

namespace Cert.MergeSampleIdeal.Block

open Cert.MergeSampleIdeal Cert.MergeSampleIdeal.Gen

/-- The gated sum of the two branches, of the gates `G`, the attention's rows `o` and the pooled rows `p`. -/
def merge (o : Vec Ideal S256x512 .bf16) (G : FVec Ideal S256x2048 .f32) (p : FVec Ideal S256x512 .f32)
    (ps : Vec Ideal S1x512 .f32) (wa wb : Vec Ideal S512x1024 .bf16) : FVec Ideal S256x1024 .f32 :=
  addf (mulf (extractStridedSlice S256x1024 ![0, 0] G slices_S256x2048_o0_0_S256x1024)
      (matmul (φ₁ := .bf16) (φ₂ := .bf16) dot_S256x512_S512x1024_S256x1024_1_0_0_1_n_n none o
        (shapeCast S512x1024 wa shapeCasts_S512x1024_S512x1024) (constant S256x1024 .f32 0x00000000#32)))
    (mulf (extractStridedSlice S256x1024 ![0, 1024] G slices_S256x2048_o0_1024_S256x1024)
      (matmul (φ₁ := .bf16) (φ₂ := .bf16) dot_S256x512_S512x1024_S256x1024_1_0_0_1_n_n none
        (truncf .bf16 (mulf p (broadcastTo S256x512 (shapeCast S1x512 ps shapeCasts_S1x512_S1x512 : FVec Ideal S1x512 .f32) broadcasts_S1x512_S256x512)) bitsLt_bf16_f32)
        (shapeCast S512x1024 wb shapeCasts_S512x1024_S512x1024) (constant S256x1024 .f32 0x00000000#32)))

/-- The scaled rows plus the projected merge. -/
def project (x y : FVec Ideal S256x1024 .f32) (wo : Vec Ideal S1024x1024 .bf16) : FVec Ideal S256x1024 .f32 :=
  addf (mulf (broadcast S256x1024 (Scalar.ofBits .f32 0x3FD744FD#32)) x)
    (matmul (φ₁ := .bf16) (φ₂ := .bf16) dot_S256x1024_S1024x1024_S256x1024_1_0_0_1_n_n none (truncf .bf16 y bitsLt_bf16_f32)
      (shapeCast S1024x1024 wo shapeCasts_S1024x1024_S1024x1024) (constant S256x1024 .f32 0x00000000#32))

/-- The rows' layer norm. -/
def normed (h : FVec Ideal S256x1024 .f32) (g b : Vec Ideal S1x1024 .f32) : FVec Ideal S256x1024 .f32 :=
  have μ : FVec Ideal S256x1 .f32 := divf (shapeCast S256x1
    (multiReduction .add [1] S256 h 0x00000000#32 reduces_S256x1024_S256 (.inl rfl) rfl) shapeCasts_S256_S256x1)
    (broadcast S256x1 (Scalar.ofBits .f32 0x44800000#32))
  have e : FVec Ideal S256x1024 .f32 := subf h (broadcastTo S256x1024 μ broadcasts_S256x1_S256x1024)
  have v : FVec Ideal S256x1 .f32 := divf (shapeCast S256x1
    (multiReduction .add [1] S256 (mulf e e) 0x00000000#32 reduces_S256x1024_S256 (.inl rfl) rfl) shapeCasts_S256_S256x1)
    (broadcast S256x1 (Scalar.ofBits .f32 0x44800000#32))
  have r : FVec Ideal S256x1 .f32 := rsqrt (addf v (broadcast S256x1 (Scalar.ofBits .f32 0x3727C5AC#32)))
  addf (mulf (mulf e (broadcastTo S256x1024 r broadcasts_S256x1_S256x1024))
      (broadcastTo S256x1024 (shapeCast S1x1024 g shapeCasts_S1x1024_S1x1024 : FVec Ideal S1x1024 .f32) broadcasts_S1x1024_S256x1024))
    (broadcastTo S256x1024 (shapeCast S1x1024 b shapeCasts_S1x1024_S1x1024 : FVec Ideal S1x1024 .f32) broadcasts_S1x1024_S256x1024)

theorem merge_apply (o : Vec Ideal S256x512 .bf16) (G : FVec Ideal S256x2048 .f32) (p : FVec Ideal S256x512 .f32)
    (ps : Vec Ideal S1x512 .f32) (wa wb : Vec Ideal S512x1024 .bf16) (r : Fin 256) (d : Fin 1024) :
    merge o G p ps wa wb (ix2 r d) = G (ix2 r ⟨d.val, by omega⟩) * (∑ k : Fin 512, o (ix2 r k) * wa (ix2 k d))
      + G (ix2 r ⟨1024 + d.val, by omega⟩) * (∑ k : Fin 512, p (ix2 r k) * ps (ix2 0 k) * wb (ix2 k d)) := by
  unfold merge
  pointwise

theorem project_apply (x y : FVec Ideal S256x1024 .f32) (wo : Vec Ideal S1024x1024 .bf16) (r : Fin 256) (d : Fin 1024) :
    project x y wo (ix2 r d) = Ideal.ofBits .f32 0x3FD744FD#32 * x (ix2 r d) + ∑ k : Fin 1024, y (ix2 r k) * wo (ix2 k d) := by
  unfold project
  pointwise

theorem normed_apply (h : FVec Ideal S256x1024 .f32) (g b : Vec Ideal S1x1024 .f32) (r : Fin 256) (d : Fin 1024) :
    normed h g b (ix2 r d) = FfnSpec.norm (fun k => h (ix2 r k)) (fun k => g (ix2 0 k)) (fun k => b (ix2 0 k)) d := by
  unfold normed
  pointwise [FfnSpec.norm, FfnSpec.mean]

theorem gates_apply (x : Vec Ideal S256x1024 .f32) (w : Vec Ideal S1024x2048 .bf16) (r : Fin 256) (j : Fin 2048) :
    k0_pay13 x w (ix2 r j) = MergeSpec.gate (fun k => x (ix2 r k)) (fun k j => w (ix2 k j)) j := by
  unfold k0_pay13
  pointwise [MergeSpec.gate]

variable (x0 : Vec Ideal S256x1024 .f32) (x1 : Vec Ideal S256x512 .bf16) (x2 : Vec Ideal S32x8x512 .f32)
  (x3 : Vec Ideal S32x16x512 .f32) (x4 : Vec Ideal S1024x2048 .bf16) (x5 : Vec Ideal S4x128x128 .bf16) (x6 : Vec Ideal S1x512 .f32)
  (x7 x8 : Vec Ideal S512x1024 .bf16) (x9 : Vec Ideal S1024x1024 .bf16) (x10 x11 : Vec Ideal S1x1024 .f32)

theorem hz : (![0, 0] : Fin 2 → Nat) = fun _ => 0 := funext fun a => by fin_cases a <;> rfl
theorem hz3 : (![0, 0, 0] : Fin 3 → Nat) = fun _ => 0 := funext fun a => by fin_cases a <;> rfl

/-- The groups' mixed channels, in the kernel's own words. -/
theorem mix0_eq : k0_pay9 (k0_pay5 x2 x3) = Pool.mix0 x2 x3 := rfl
theorem mix1_eq : k0_pay10 (k0_pay6 x2 x3) = Pool.mix1 x2 x3 := rfl
theorem mix2_eq : k0_pay11 (k0_pay2 x2) k0_pay4 (k0_pay7 x2 x3) (k0_pay8 x2 x3) = Pool.mix2 x2 x3 := rfl
theorem mix3_eq : k0_pay12 (k0_pay2 x2) (k0_pay3 x2 x3) k0_pay4 = Pool.mix3 x2 x3 := rfl

/-- The tail of the body after the pooled rows, in these words. -/
theorem tail_eq (P : FVec Ideal S256x512 .f32) :
    k0_pay1 x0 (k0_pay14 x0 x1 x4 x7) (k0_pay15 x0 x4) (truncf .bf16 (mulf P (broadcastTo S256x512
      (shapeCast S1x512 x6 shapeCasts_S1x512_S1x512 : FVec Ideal S1x512 .f32) broadcasts_S1x512_S256x512)) bitsLt_bf16_f32) x8 x9 x10 x11
      = normed (project x0 (merge x1 (k0_pay13 x0 x4) P x6 x7 x8) x9) x10 x11 := rfl

/-- The pooled rows scaled, in these words. -/
theorem pooled_eq (w0 w1 w2 w3 : Vec Ideal S1x128x128 .bf16) :
    k0_pay16 (Pool.mix0 x2 x3) (Pool.mix1 x2 x3) (Pool.mix2 x2 x3) (Pool.mix3 x2 x3) w0 w1 w2 w3 x6
      = truncf .bf16 (mulf (Pool.pool x2 x3 w0 w1 w2 w3) (broadcastTo S256x512
      (shapeCast S1x512 x6 shapeCasts_S1x512_S1x512 : FVec Ideal S1x512 .f32) broadcasts_S1x512_S256x512)) bitsLt_bf16_f32 := rfl

/-- The block the point writes, in these words. -/
theorem out_eq : out0_12 x0 x1 x2 x3 x4 x5 x6 x7 x8 x9 x10 x11 = normed (project x0 (merge x1 (k0_pay13 x0 x4)
    (Pool.pool x2 x3 (View.ld x5 r0_5) (View.ld x5 r0_6) (View.ld x5 r0_7) (View.ld x5 r0_8)) x6 x7 x8) x9) x10 x11 := by
  unfold_out out0_12
  rw [View.canon_unit_zero hz]
  repeat rw [View.ld_unit_zero hz]
  repeat rw [View.ld_unit_zero hz3]
  rw [mix0_eq, mix1_eq, mix2_eq, mix3_eq, pooled_eq]
  repeat rw [View.ld_unit_zero hz]
  exact tail_eq ..

variable (U : Fin 256 → Fin 512 → EReal) (S : Fin 32 → Fin 15 → Fin 512 → EReal)
  (h2 : ∀ b t c, x2 (ix3 b t c) = U (MergeSampleSpec.row b t) c)
  (h3 : ∀ b (p : Fin 15) c, x3 (ix3 b (MergeSampleSpec.kept p) c) = S b p c)
include h2 h3

theorem out_apply (r : Fin 256) (d : Fin 1024) :
    out0_12 x0 x1 x2 x3 x4 x5 x6 x7 x8 x9 x10 x11 (ix2 r d) = MergeSpec.layer (fun k => x0 (ix2 r k)) (fun k => x1 (ix2 r k))
      (MergeSampleSpec.pooled U S (fun g k d => x5 (ix3 g k d)) (fun k => x6 (ix2 0 k)) r)
      (fun k j => x4 (ix2 k j)) (fun k d => x7 (ix2 k d)) (fun k d => x8 (ix2 k d)) (fun k d => x9 (ix2 k d))
      (fun k => x10 (ix2 0 k)) (fun k => x11 (ix2 0 k)) d := by
  rw [out_eq, normed_apply]
  simp only [project_apply, merge_apply, gates_apply]
  have hp := fun j => Pool.pool_apply x2 x3 U S h2 h3 (fun g k d => x5 (ix3 g k d)) (View.ld x5 r0_5) (View.ld x5 r0_6)
    (View.ld x5 r0_7) (View.ld x5 r0_8) (fun k c => by pointwise) (fun k c => by pointwise) (fun k c => by pointwise)
    (fun k c => by pointwise) (MergeSampleSpec.seq r) (MergeSampleSpec.pos r) j
  rw [show MergeSampleSpec.row (MergeSampleSpec.seq r) (MergeSampleSpec.pos r) = r from
    Fin.ext (by show 8 * (r.val / 8) + r.val % 8 = r.val; omega)] at hp
  simp only [hp]
  rfl

end Cert.MergeSampleIdeal.Block

end
-- ==== Proof.MergeSampleArray.lean ====
/-
  The sample rows' merge kernel's result array: every entry is the layer of `MergeSpec` on the arguments' row. There is one
  grid point, and every array reaches it whole; the kept rows come with one row of zeros in front.
-/
module

public import proofs.«01_k».proof.Proof.MergeSampleBlock
public import proofs.«01_k».proof.Proof.Gen.MergeSampleIdeal.Value
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeSampleIdeal.Array

open Cert.MergeSampleIdeal Cert.MergeSampleIdeal.Gen

variable (m : (ℓ : Loc nD τ sig) → Buf (Elt Ideal) ℓ) (ρ : Dev nD → PrngReg)

/-- The arguments of device `c`, read as functions. -/
abbrev argX (c : Dev nD) (r : Fin 256) (k : Fin 1024) : EReal := m ((c : Thread nD τ).loc main_arg0) (ix2 r k)
abbrev argO (c : Dev nD) (r : Fin 256) (k : Fin 512) : EReal := m ((c : Thread nD τ).loc main_arg1) (ix2 r k)
abbrev argU (c : Dev nD) (r : Fin 256) (k : Fin 512) : EReal := m ((c : Thread nD τ).loc main_arg2) (ix2 r k)
abbrev argS (c : Dev nD) (b : Fin 32) (p : Fin 15) (k : Fin 512) : EReal := m ((c : Thread nD τ).loc main_arg3) (ix3 b p k)
abbrev argGates (c : Dev nD) (k : Fin 1024) (j : Fin 2048) : EReal :=
  m ((c : Thread nD τ).loc main_arg4) (ix2 k ⟨2056 + j.val, by omega⟩)
abbrev argGroups (c : Dev nD) (g : Fin 4) (k d : Fin 128) : EReal := m ((c : Thread nD τ).loc main_arg5) (ix3 g k d)
abbrev argScale (c : Dev nD) (k : Fin 512) : EReal := m ((c : Thread nD τ).loc main_arg6) (ix1 k)
abbrev argBa (c : Dev nD) (k : Fin 512) (d : Fin 1024) : EReal := m ((c : Thread nD τ).loc main_arg7) (ix2 k d)
abbrev argBb (c : Dev nD) (k : Fin 512) (d : Fin 1024) : EReal := m ((c : Thread nD τ).loc main_arg8) (ix2 k d)
abbrev argWo (c : Dev nD) (k d : Fin 1024) : EReal := m ((c : Thread nD τ).loc main_arg9) (ix2 k d)
abbrev argG (c : Dev nD) (k : Fin 1024) : EReal := m ((c : Thread nD τ).loc main_arg10) (ix1 k)
abbrev argB (c : Dev nD) (k : Fin 1024) : EReal := m ((c : Thread nD τ).loc main_arg11) (ix1 k)

/-- The result array as one function of the arguments. -/
def whole (c : Dev nD) : S256x1024.Idx → EReal := fun i =>
  MergeSpec.layer (argX m c (i 0)) (argO m c (i 0))
    (MergeSampleSpec.pooled (argU m c) (argS m c) (argGroups m c) (argScale m c) (i 0)) (argGates m c)
    (argBa m c) (argBb m c) (argWo m c) (argG m c) (argB m c) (i 1)

/-- The staged weights are the arguments: the casts on the way in change nothing here. -/
theorem V_v1 (c : Dev nD) (k : Fin 1024) (j : Fin 2048) : V m c main_v1 (ix2 k j) = argGates m c k j := by
  have h : V m c main_v1 = extractStridedSlice S1024x2048 ![0, 2056] (m ((c : Thread nD τ).loc main_arg4))
      slices_S1024x4104_S1024x2048_0_2056 := by
    simp only [V, hostOps0, hostOps0_1, hostOps0_2, List.flatten_cons, List.flatten_nil, List.append_nil, List.cons_append, List.nil_append]
    after_results_simp
    rfl
  rw [h]
  pointwise
theorem V_v2 (c : Dev nD) : V m c main_v2 = m ((c : Thread nD τ).loc main_arg5) := by
  simp only [V, hostOps0, hostOps0_1, hostOps0_2, List.flatten_cons, List.flatten_nil, List.append_nil, List.cons_append, List.nil_append]
  after_results_simp
  rfl
theorem V_v4 (c : Dev nD) : V m c main_v4 = m ((c : Thread nD τ).loc main_arg7) := by
  simp only [V, hostOps0, hostOps0_1, hostOps0_2, List.flatten_cons, List.flatten_nil, List.append_nil, List.cons_append, List.nil_append]
  after_results_simp
  rfl
theorem V_v5 (c : Dev nD) : V m c main_v5 = m ((c : Thread nD τ).loc main_arg8) := by
  simp only [V, hostOps0, hostOps0_1, hostOps0_2, List.flatten_cons, List.flatten_nil, List.append_nil, List.cons_append, List.nil_append]
  after_results_simp
  rfl
theorem V_v6 (c : Dev nD) : V m c main_v6 = m ((c : Thread nD τ).loc main_arg9) := by
  simp only [V, hostOps0, hostOps0_1, hostOps0_2, List.flatten_cons, List.flatten_nil, List.append_nil, List.cons_append, List.nil_append]
  after_results_simp
  rfl
/-- The scales, the gain and the offset reach the kernel as one row each. -/
theorem V_v3 (c : Dev nD) (k : Fin 512) : V m c main_v3 (ix2 0 k) = argScale m c k := by
  have h : V m c main_v3 = shapeCast S1x512 (m ((c : Thread nD τ).loc main_arg6)) shapeCasts_S512_S1x512 := by
    simp only [V, hostOps0, hostOps0_1, hostOps0_2, List.flatten_cons, List.flatten_nil, List.append_nil, List.cons_append, List.nil_append]
    after_results_simp
    rfl
  rw [h]
  pointwise
theorem V_v7 (c : Dev nD) (k : Fin 1024) : V m c main_v7 (ix2 0 k) = argG m c k := by
  have h : V m c main_v7 = shapeCast S1x1024 (m ((c : Thread nD τ).loc main_arg10)) shapeCasts_S1024_S1x1024 := by
    simp only [V, hostOps0, hostOps0_1, hostOps0_2, List.flatten_cons, List.flatten_nil, List.append_nil, List.cons_append, List.nil_append]
    after_results_simp
    rfl
  rw [h]
  pointwise
theorem V_v8 (c : Dev nD) (k : Fin 1024) : V m c main_v8 (ix2 0 k) = argB m c k := by
  have h : V m c main_v8 = shapeCast S1x1024 (m ((c : Thread nD τ).loc main_arg11)) shapeCasts_S1024_S1x1024 := by
    simp only [V, hostOps0, hostOps0_1, hostOps0_2, List.flatten_cons, List.flatten_nil, List.append_nil, List.cons_append, List.nil_append]
    after_results_simp
    rfl
  rw [h]
  pointwise
/-- The new rows by sequence and position. -/
theorem V_v10 (c : Dev nD) (b : Fin 32) (t : Fin 8) (k : Fin 512) :
    V m c main_v10 (ix3 b t k) = argU m c (MergeSampleSpec.row b t) k := by
  have h : V m c main_v10 = shapeCast S32x8x512 (m ((c : Thread nD τ).loc main_arg2)) shapeCasts_S256x512_S32x8x512 := by
    simp only [V, hostOps0, hostOps0_1, hostOps0_2, List.flatten_cons, List.flatten_nil, List.append_nil, List.cons_append, List.nil_append]
    after_results_simp
    rfl
  rw [h]
  refine shapeCast_apply _ _ (ix3 b t k) (ix2 (MergeSampleSpec.row b t) k) ?_
  rewrite [Shape.rowMajor_val_two, Shape.rowMajor_val_three]
  show (8 * b.val + t.val) * 512 + k.val = (b.val * 8 + t.val) * 512 + k.val
  omega
/-- The kept rows, behind one row more. -/
theorem V_v9 (c : Dev nD) (b : Fin 32) (p : Fin 15) (k : Fin 512) :
    V m c main_v9 (ix3 b (MergeSampleSpec.kept p) k) = argS m c b p k := by
  have h : V m c main_v9 = pad S32x16x512 ![0, 1, 0] ![0, 0, 0] ![0, 0, 0] (m ((c : Thread nD τ).loc main_arg3))
      (sitofp (F := Ideal) .f32 (constantI S_ 32 0#32)) pads_S32x15x512_S32x16x512_000_100_000 h_S_ := by
    simp only [V, hostOps0, hostOps0_1, hostOps0_2, List.flatten_cons, List.flatten_nil, List.append_nil, List.cons_append, List.nil_append]
    after_results_simp
    rfl
  rw [h]
  refine pad_apply_of_inside _ _ _ _ _ _ _ _ (ix3 b p k) fun a => ?_
  match a with
  | ⟨0, _⟩ => show b.val = 0 + b.val * 1; omega
  | ⟨1, _⟩ => show p.val + 1 = 1 + p.val * 1; omega
  | ⟨2, _⟩ => show k.val = 0 + k.val * 1; omega

/-! ## The blocks at the point: each the whole array -/

theorem at_zero {o s j : ℕ} (h : o = 0) : o * s + 1 * j = j := by rw [h]; omega

theorem blk_0 (c : Dev nD) (t : Fin cfg0.N) : iblk m c 0 t = V m c main_arg0 :=
  funext fun j => congrArg (V m c main_arg0) (funext fun a => Fin.ext (at_zero (s := win0_0.size a) (j := (j a).val)
    ((by decide +kernel : ∀ (t : Fin grid0.N) (a), win0_0.index t a = 0) t a)))
theorem blk_1 (c : Dev nD) (t : Fin cfg0.N) : iblk m c 1 t = V m c main_arg1 :=
  funext fun j => congrArg (V m c main_arg1) (funext fun a => Fin.ext (at_zero (s := win0_1.size a) (j := (j a).val)
    ((by decide +kernel : ∀ (t : Fin grid0.N) (a), win0_1.index t a = 0) t a)))
theorem blk_2 (c : Dev nD) (t : Fin cfg0.N) : iblk m c 2 t = V m c main_v10 :=
  funext fun j => congrArg (V m c main_v10) (funext fun a => Fin.ext (at_zero (s := win0_2.size a) (j := (j a).val)
    ((by decide +kernel : ∀ (t : Fin grid0.N) (a), win0_2.index t a = 0) t a)))
theorem blk_3 (c : Dev nD) (t : Fin cfg0.N) : iblk m c 3 t = V m c main_v9 :=
  funext fun j => congrArg (V m c main_v9) (funext fun a => Fin.ext (at_zero (s := win0_3.size a) (j := (j a).val)
    ((by decide +kernel : ∀ (t : Fin grid0.N) (a), win0_3.index t a = 0) t a)))
theorem blk_4 (c : Dev nD) (t : Fin cfg0.N) : iblk m c 4 t = V m c main_v1 :=
  funext fun j => congrArg (V m c main_v1) (funext fun a => Fin.ext (at_zero (s := win0_4.size a) (j := (j a).val)
    ((by decide +kernel : ∀ (t : Fin grid0.N) (a), win0_4.index t a = 0) t a)))
theorem blk_5 (c : Dev nD) (t : Fin cfg0.N) : iblk m c 5 t = V m c main_v2 :=
  funext fun j => congrArg (V m c main_v2) (funext fun a => Fin.ext (at_zero (s := win0_5.size a) (j := (j a).val)
    ((by decide +kernel : ∀ (t : Fin grid0.N) (a), win0_5.index t a = 0) t a)))
theorem blk_6 (c : Dev nD) (t : Fin cfg0.N) : iblk m c 6 t = V m c main_v3 :=
  funext fun j => congrArg (V m c main_v3) (funext fun a => Fin.ext (at_zero (s := win0_6.size a) (j := (j a).val)
    ((by decide +kernel : ∀ (t : Fin grid0.N) (a), win0_6.index t a = 0) t a)))
theorem blk_7 (c : Dev nD) (t : Fin cfg0.N) : iblk m c 7 t = V m c main_v4 :=
  funext fun j => congrArg (V m c main_v4) (funext fun a => Fin.ext (at_zero (s := win0_7.size a) (j := (j a).val)
    ((by decide +kernel : ∀ (t : Fin grid0.N) (a), win0_7.index t a = 0) t a)))
theorem blk_8 (c : Dev nD) (t : Fin cfg0.N) : iblk m c 8 t = V m c main_v5 :=
  funext fun j => congrArg (V m c main_v5) (funext fun a => Fin.ext (at_zero (s := win0_8.size a) (j := (j a).val)
    ((by decide +kernel : ∀ (t : Fin grid0.N) (a), win0_8.index t a = 0) t a)))
theorem blk_9 (c : Dev nD) (t : Fin cfg0.N) : iblk m c 9 t = V m c main_v6 :=
  funext fun j => congrArg (V m c main_v6) (funext fun a => Fin.ext (at_zero (s := win0_9.size a) (j := (j a).val)
    ((by decide +kernel : ∀ (t : Fin grid0.N) (a), win0_9.index t a = 0) t a)))
theorem blk_10 (c : Dev nD) (t : Fin cfg0.N) : iblk m c 10 t = V m c main_v7 :=
  funext fun j => congrArg (V m c main_v7) (funext fun a => Fin.ext (at_zero (s := win0_10.size a) (j := (j a).val)
    ((by decide +kernel : ∀ (t : Fin grid0.N) (a), win0_10.index t a = 0) t a)))
theorem blk_11 (c : Dev nD) (t : Fin cfg0.N) : iblk m c 11 t = V m c main_v8 :=
  funext fun j => congrArg (V m c main_v8) (funext fun a => Fin.ext (at_zero (s := win0_11.size a) (j := (j a).val)
    ((by decide +kernel : ∀ (t : Fin grid0.N) (a), win0_11.index t a = 0) t a)))

/-- The result's block is the whole result. -/
theorem emb_out (t : Fin cfg0.N) (y : S256x1024.Idx) : (win0_12.blk t).view.emb y = y :=
  funext fun a => Fin.ext (at_zero (s := win0_12.size a) (j := (y a).val)
    ((by decide +kernel : ∀ (t : Fin grid0.N) (a), win0_12.index t a = 0) t a))

/-- The point's block of the result, at row `r` and column `d`. -/
theorem block_apply (c : Dev nD) (t : Fin cfg0.N) (r : Fin 256) (d : Fin 1024) :
    out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix2 r d) = whole m c (ix2 r d) := by
  rw [Block.out_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (argU m c) (argS m c)
    (fun b t' k => by rw [blk_2]; exact V_v10 m c b t' k) (fun b p k => by rw [blk_3]; exact V_v9 m c b p k)]
  simp only [fun k => (congrFun (blk_0 m c t) (ix2 r k)).trans (congrFun (V_main_arg0 m c) (ix2 r k)),
    fun k => (congrFun (blk_1 m c t) (ix2 r k)).trans (congrFun (V_main_arg1 m c) (ix2 r k)),
    fun k j => (congrFun (blk_4 m c t) (ix2 k j)).trans (V_v1 m c k j),
    fun g k d => (congrFun (blk_5 m c t) (ix3 g k d)).trans (congrFun (V_v2 m c) (ix3 g k d)),
    fun k => (congrFun (blk_6 m c t) (ix2 0 k)).trans (V_v3 m c k),
    fun k d => (congrFun (blk_7 m c t) (ix2 k d)).trans (congrFun (V_v4 m c) (ix2 k d)),
    fun k d => (congrFun (blk_8 m c t) (ix2 k d)).trans (congrFun (V_v5 m c) (ix2 k d)),
    fun k d => (congrFun (blk_9 m c t) (ix2 k d)).trans (congrFun (V_v6 m c) (ix2 k d)),
    fun k => (congrFun (blk_10 m c t) (ix2 0 k)).trans (V_v7 m c k),
    fun k => (congrFun (blk_11 m c t) (ix2 0 k)).trans (V_v8 m c k)]
  rfl

/-- The result array. -/
theorem final (c : Dev nD) : (dats m 0 c).arrAt 12 cfg0.N = whole m c := by
  refine (dats m 0 c).arrAt_eq_of_covers 12 _ (by decide +kernel) fun t _ y => ?_
  blk_simp
  rw [after0_12, emb_out]
  obtain ⟨r, d, rfl⟩ : ∃ (r : Fin 256) (d : Fin 1024), y = ix2 r d := ⟨y 0, y 1, eq_ix2 y⟩
  exact block_apply m c t r d

end Cert.MergeSampleIdeal.Array

end
-- ==== Proof.MergeSampleRefValue.lean ====
/-
  The pooled rows of the sample rows' merge reference: differences of running sums over the kept and the new rows, and
  what they come to where the pooling input and the kept rows are finite, the pooled row of `MergeSampleSpec`.
-/
module

public import proofs.«01_k».proof.Defs
public import proofs.«01_k».proof.Proof.MergeSampleSpec
public import proofs.«01_k».proof.Proof.WindowSum
public import proofs.«01_k».proof.Proof.Gen.MergeSampleRefIdeal.Read
public import Idealize.ShloMosaic.Lib.Pointwise

@[expose] public section

set_option maxRecDepth 16384

noncomputable section

open Idealize.ShloMosaic Idealize.ShloMosaic.TcCoe Idealize.SL.Sem

namespace Cert.MergeSampleRefIdeal.Row

open Cert.MergeSampleRefIdeal Cert.MergeSampleRefIdeal.Read Cert.MergeSampleSpec

variable (u : FVec Ideal S256x512 .f32) (s : FVec Ideal S32x15x512 .f32)

/-! ## The pooled means -/

/-- Channel `c` of sequence `b` by position. -/
def line (b : Fin 32) (c : Fin 512) (p : ℕ) : EReal := ext (fun r => u (ix2 r c)) (fun b p => s (ix3 b p c)) b p

theorem idx2_ext {A B : ℕ} {i : (⟨2, ![A, B]⟩ : Shape).Idx} {a : Fin A} {b : Fin B} (ha : (i 0).val = a.val)
    (hb : (i 1).val = b.val) : i = ix2 a b := by
  funext x
  refine Fin.ext ?_
  match x with
  | ⟨0, _⟩ => exact ha
  | ⟨1, _⟩ => exact hb

theorem idx3_ext {A B C : ℕ} {i : (⟨3, ![A, B, C]⟩ : Shape).Idx} {a : Fin A} {b : Fin B} {c : Fin C}
    (ha : (i 0).val = a.val) (hb : (i 1).val = b.val) (hc : (i 2).val = c.val) : i = ix3 a b c := by
  funext x
  refine Fin.ext ?_
  match x with
  | ⟨0, _⟩ => exact ha
  | ⟨1, _⟩ => exact hb
  | ⟨2, _⟩ => exact hc

/-- The kept and the new rows on end. -/
theorem v5_apply (b : Fin 32) (p : Fin 23) (c : Fin 512) : val_main_v5 (F := Ideal) u s (ix3 b p c) = line u s b c p.val := by
  unfold val_main_v5
  pointwise
  have hp := p.isLt
  have hb := b.isLt
  have hc := c.isLt
  unfold line ext
  by_cases h : p.val < 15
  · rw [dif_pos h, dif_pos h]
  · rw [dif_neg h, dif_neg h, dif_pos (by omega), val_main_v4_apply]
    refine congrArg u (idx2_ext ?_ ?_)
    · show ((b.val * 8 + (p.val - 15)) * 512 + c.val) / 512 = 8 * b.val + (p.val - 15); omega
    · show ((b.val * 8 + (p.val - 15)) * 512 + c.val) % 512 = c.val; omega

/-- The running sums. -/
theorem v8_apply (b : Fin 32) (n : Fin 24) (c : Fin 512) :
    val_main_v8 (F := Ideal) u s (ix3 b n c) = ∑ i ∈ Finset.range n.val, line u s b c i := by
  unfold val_main_v8
  pointwise
  have hn := n.isLt
  by_cases h : n.val < 1
  · rw [dif_pos h, val_main_v6_apply, val_main_cst_apply, show n.val = 0 by omega, Finset.sum_range_zero]
    exact Ideal.ofBits_zero _
  · rw [dif_neg h]
    refine (WindowSum.window_apply (A := 32) (N := 22) (C := 512) _ _
      (fun i => by rw [val_main_call0_call0_v0_apply, val_main_call0_call0_cst_apply]; exact Ideal.ofBits_zero _)
      _ _ b ⟨n.val - 1, by omega⟩ c).trans ?_
    dsimp only
    rw [show n.val - 1 + 1 = n.val by omega]
    refine Finset.sum_congr rfl fun i hi => ?_
    rw [Finset.mem_range] at hi
    refine (v5_apply u s b _ c).trans (congrArg (line u s b c) ?_)
    show i % (22 + 1) = i
    omega

/-- The mean of the trailing window of `w` rows. -/
def mean (b : Fin 32) (t : Fin 8) (c : Fin 512) (w : ℕ) : EReal :=
  (∑ k ∈ Finset.range w, line u s b c (t.val + 15 - k)) * Ideal.div 1 ((w : ℝ) : EReal)

variable (hu : ∀ i, u i = (((u i).toReal : ℝ) : EReal)) (hs : ∀ i, s i = (((s i).toReal : ℝ) : EReal))
include hu hs

/-- A difference of two running sums, divided by the count, is the window's mean. -/
theorem mean_eq (b : Fin 32) (t : Fin 8) (c : Fin 512) (w : ℕ) (hw : Len w) (x y : EReal)
    (hx : x = ∑ i ∈ Finset.range (t.val + 16), line u s b c i)
    (hy : y = ∑ i ∈ Finset.range (t.val + 16 - w), line u s b c i) :
    Ideal.div (x - y) (((IntOp.minsi (IntOp.addi (IntOp.addi 8192#32 (BitVec.ofNat 32 t.val)) 1#32) (BitVec.ofNat 32 w)).toInt : ℝ) : EReal)
      = mean u s b t c w := by
  have h0 : 0 < w ∧ w ≤ 16 := by rcases hw with rfl | rfl | rfl | rfl <;> decide
  have hf : ∀ p, line u s b c p = (((line u s b c p).toReal : ℝ) : EReal) := fun p => by
    unfold line ext
    split
    · exact hs _
    split
    · exact hu _
    · rw [EReal.toReal_zero]; rfl
  have hd := MergeSpec.sub_sums (line u s b c) hf (t.val + 16 - w) w
  rw [show t.val + 16 - w + w = t.val + 16 by omega] at hd
  rw [count_word t w hw, div_len _ w h0.1, hx, hy, hd]
  rfl

theorem v23_apply (b : Fin 32) (t : Fin 8) (c : Fin 128) :
    val_main_v23 (F := Ideal) u s (ix3 b t c) = mean u s b t ⟨c.val, by omega⟩ 2 := by
  rw [val_main_v23_apply, val_main_v22_apply, val_main_v21_apply, val_main_v20_apply, val_main_v13_apply, val_main_v9_apply,
    val_main_v19_apply, val_main_v18_apply, val_main_v17_apply, val_main_v15_apply, val_main_v16_apply, val_main_v14_apply,
    val_main_v12_apply, val_main_v11_apply, val_main_v10_apply]
  refine mean_eq u s hu hs b t _ 2 (.inl rfl) _ _
    ((congrArg _ (idx3_ext (by rfl) ?_ ?_)).trans (v8_apply u s b ⟨t.val + 16, by omega⟩ ⟨c.val, by omega⟩))
    ((congrArg _ (idx3_ext (by rfl) ?_ ?_)).trans (v8_apply u s b ⟨t.val + 16 - 2, by omega⟩ ⟨c.val, by omega⟩))
  · exact Nat.add_comm 16 t.val
  · rfl
  · show 14 + t.val = t.val + 16 - 2; omega
  · rfl

theorem v34_apply (b : Fin 32) (t : Fin 8) (c : Fin 128) :
    val_main_v34 (F := Ideal) u s (ix3 b t c) = mean u s b t ⟨128 + c.val, by omega⟩ 4 := by
  rw [val_main_v34_apply, val_main_v33_apply, val_main_v32_apply, val_main_v31_apply, val_main_v24_apply, val_main_v9_apply,
    val_main_v30_apply, val_main_v29_apply, val_main_v28_apply, val_main_v26_apply, val_main_v27_apply, val_main_v25_apply,
    val_main_v12_apply, val_main_v11_apply, val_main_v10_apply]
  refine mean_eq u s hu hs b t _ 4 (.inr (.inl rfl)) _ _
    ((congrArg _ (idx3_ext (by rfl) ?_ ?_)).trans (v8_apply u s b ⟨t.val + 16, by omega⟩ ⟨128 + c.val, by omega⟩))
    ((congrArg _ (idx3_ext (by rfl) ?_ ?_)).trans (v8_apply u s b ⟨t.val + 16 - 4, by omega⟩ ⟨128 + c.val, by omega⟩))
  · exact Nat.add_comm 16 t.val
  · rfl
  · show 12 + t.val = t.val + 16 - 4; omega
  · rfl

theorem v45_apply (b : Fin 32) (t : Fin 8) (c : Fin 128) :
    val_main_v45 (F := Ideal) u s (ix3 b t c) = mean u s b t ⟨256 + c.val, by omega⟩ 8 := by
  rw [val_main_v45_apply, val_main_v44_apply, val_main_v43_apply, val_main_v42_apply, val_main_v35_apply, val_main_v9_apply,
    val_main_v41_apply, val_main_v40_apply, val_main_v39_apply, val_main_v37_apply, val_main_v38_apply, val_main_v36_apply,
    val_main_v12_apply, val_main_v11_apply, val_main_v10_apply]
  refine mean_eq u s hu hs b t _ 8 (.inr (.inr (.inl rfl))) _ _
    ((congrArg _ (idx3_ext (by rfl) ?_ ?_)).trans (v8_apply u s b ⟨t.val + 16, by omega⟩ ⟨256 + c.val, by omega⟩))
    ((congrArg _ (idx3_ext (by rfl) ?_ ?_)).trans (v8_apply u s b ⟨t.val + 16 - 8, by omega⟩ ⟨256 + c.val, by omega⟩))
  · exact Nat.add_comm 16 t.val
  · rfl
  · show 8 + t.val = t.val + 16 - 8; omega
  · rfl

theorem v56_apply (b : Fin 32) (t : Fin 8) (c : Fin 128) :
    val_main_v56 (F := Ideal) u s (ix3 b t c) = mean u s b t ⟨384 + c.val, by omega⟩ 16 := by
  rw [val_main_v56_apply, val_main_v55_apply, val_main_v54_apply, val_main_v53_apply, val_main_v46_apply, val_main_v9_apply,
    val_main_v52_apply, val_main_v51_apply, val_main_v50_apply, val_main_v48_apply, val_main_v49_apply, val_main_v47_apply,
    val_main_v12_apply, val_main_v11_apply, val_main_v10_apply]
  refine mean_eq u s hu hs b t _ 16 (.inr (.inr (.inr rfl))) _ _
    ((congrArg _ (idx3_ext (by rfl) ?_ ?_)).trans (v8_apply u s b ⟨t.val + 16, by omega⟩ ⟨384 + c.val, by omega⟩))
    ((congrArg _ (idx3_ext (by rfl) ?_ ?_)).trans (v8_apply u s b ⟨t.val + 16 - 16, by omega⟩ ⟨384 + c.val, by omega⟩))
  · exact Nat.add_comm 16 t.val
  · rfl
  · show t.val = t.val + 16 - 16; omega
  · rfl

/-- Channel `j` of the mixed rows. -/
theorem v59_apply (b : Fin 32) (t : Fin 8) (j : Fin 512) :
    val_main_v59 (F := Ideal) u s (ix3 b t j)
      = mixed (fun r => u (ix2 r j)) (fun b p => s (ix3 b p j)) b t (MergeSpec.width (j.val / 128)) := by
  have h23 := v23_apply u s hu hs b t
  have h34 := v34_apply u s hu hs b t
  have h45 := v45_apply u s hu hs b t
  have h56 := v56_apply u s hu hs b t
  have ht := t.isLt
  have h58 : val_main_v58 (F := Ideal) u s (ix3 b t j) = u (ix2 (row b t) j) := by
    rw [val_main_v58_apply]
    refine ((congrArg _ (idx3_ext (b := ⟨t.val + 15, by omega⟩) (by rfl) (Nat.add_comm 15 t.val) (by rfl))).trans
      (v5_apply u s b ⟨t.val + 15, by omega⟩ j)).trans ?_
    unfold line ext
    rw [dif_neg (by dsimp only; omega), dif_pos (by dsimp only; omega)]
    refine congrArg (fun r => u (ix2 r j)) (Fin.ext ?_)
    show 8 * b.val + (t.val + 15 - 15) = 8 * b.val + t.val
    omega
  have hj := j.isLt
  have hmix : ∀ (c : Fin 512) (w : ℕ), c = j → w = MergeSpec.width (j.val / 128) → mean u s b t c w - u (ix2 (row b t) j)
      = mixed (fun r => u (ix2 r j)) (fun b p => s (ix3 b p j)) b t (MergeSpec.width (j.val / 128)) := fun c w hc hw => by
    rw [hc, hw]; rfl
  unfold val_main_v59 val_main_v57
  generalize val_main_v23 (F := Ideal) u s = A at *
  generalize val_main_v34 (F := Ideal) u s = B at *
  generalize val_main_v45 (F := Ideal) u s = C at *
  generalize val_main_v56 (F := Ideal) u s = D at *
  generalize val_main_v58 (F := Ideal) u s = E at *
  pointwise
  rw [h58]
  by_cases h1 : j.val < 128
  · rw [dif_pos h1, h23]
    exact hmix _ _ (Fin.ext rfl) (by rw [show j.val / 128 = 0 by omega]; rfl)
  rw [dif_neg h1]
  by_cases h2 : j.val - 128 < 128
  · rw [dif_pos h2, h34]
    exact hmix _ _ (Fin.ext (by show 128 + (j.val - 128) = j.val; omega)) (by rw [show j.val / 128 = 1 by omega]; rfl)
  rw [dif_neg h2]
  by_cases h3 : j.val - 128 - 128 < 128
  · rw [dif_pos h3, h45]
    exact hmix _ _ (Fin.ext (by show 256 + (j.val - 128 - 128) = j.val; omega)) (by rw [show j.val / 128 = 2 by omega]; rfl)
  · rw [dif_neg h3, h56]
    exact hmix _ _ (Fin.ext (by show 384 + (j.val - 128 - 128 - 128) = j.val; omega)) (by rw [show j.val / 128 = 3 by omega]; rfl)

/-! ## The pooled row -/

variable (wg : FVec Ideal S4x128x128 .f32) (ps : FVec Ideal S512 .f32)

omit hu hs in
theorem idx_rows (r : Fin 256) (j : Fin 512) : idx_main_v67 (ix2 r j) = ix3 (seq r) (pos r) j := by
  have hj := j.isLt
  refine idx3_ext ?_ ?_ ?_
  · show (r.val * 512 + j.val) / 4096 = r.val / 8; omega
  · show (r.val * 512 + j.val) / 512 % 8 = r.val % 8; omega
  · show (r.val * 512 + j.val) % 512 = j.val; omega

omit hu hs in
theorem idx_split (b : Fin 32) (t : Fin 8) (j : Fin 512) :
    idx_main_v62 (idx_main_v63 (ix3 b t j)) = ix4 (grp j) (low j) b t := by
  have hj := j.isLt
  funext x
  refine Fin.ext ?_
  match x with
  | ⟨0, _⟩ => show ((b.val * 8 + t.val) * 512 + j.val) / 128 % 4 = j.val / 128; omega
  | ⟨1, _⟩ => show ((b.val * 8 + t.val) * 512 + j.val) % 128 = j.val % 128; omega
  | ⟨2, _⟩ => show ((b.val * 8 + t.val) * 512 + j.val) / 4096 = b.val; omega
  | ⟨3, _⟩ => show ((b.val * 8 + t.val) * 512 + j.val) / 512 % 8 = t.val; omega

omit hu hs in
theorem idx_join (b : Fin 32) (t : Fin 8) (j : Fin 512) (k : Fin 128) :
    idx_main_v60 (ix4 b t (grp j) k) = ix3 b t (chan j k) := by
  have hk := k.isLt
  have hj := j.isLt
  refine idx3_ext ?_ ?_ ?_
  · show (((b.val * 8 + t.val) * 4 + j.val / 128) * 128 + k.val) / 4096 = b.val; omega
  · show (((b.val * 8 + t.val) * 4 + j.val / 128) * 128 + k.val) / 512 % 8 = t.val; omega
  · show (((b.val * 8 + t.val) * 4 + j.val / 128) * 128 + k.val) % 512 = j.val / 128 * 128 + k.val; omega

theorem v67_apply (r : Fin 256) (j : Fin 512) :
    val_main_v67 (F := Ideal) u s wg ps (ix2 r j) = pooled (fun r j => u (ix2 r j)) (fun b p j => s (ix3 b p j))
      (fun g k d => wg (ix3 g k d)) (fun k => ps (ix1 k)) r j := by
  have hr := r.isLt
  have hj := j.isLt
  rw [val_main_v67_apply, idx_rows, val_main_v66_apply, val_main_v65_apply, val_main_v64_apply, val_main_v63_apply,
    val_main_v62_apply, idx_split, val_main_v61_apply]
  unfold pooled
  refine congrArg₂ (· * ·) (Finset.sum_congr rfl fun k _ => ?_) ?_
  · have hk := k.isLt
    have hridx : ridx_main_v61 (ix4 (grp j) (low j) (seq r) (pos r)) k = ix4 (seq r) (pos r) (grp j) k := by
      funext x
      match x with
      | ⟨0, _⟩ => rfl
      | ⟨1, _⟩ => rfl
      | ⟨2, _⟩ => rfl
      | ⟨3, _⟩ => rfl
    rw [val_main_v60_apply, mul_comm, hridx, idx_join, v59_apply u s hu hs]
    refine congrArg₂ (· * ·) (congrArg (fun g => mixed _ _ _ _ (MergeSpec.width g)) ?_) (congrArg wg (idx3_ext rfl rfl rfl))
    show (j.val / 128 * 128 + k.val) / 128 = j.val / 128
    omega
  · refine congrArg ps (funext fun x => ?_)
    match x with
    | ⟨0, _⟩ => rfl

end Cert.MergeSampleRefIdeal.Row

end
-- ==== Proof.MergeSampleRefOut.lean ====
/-
  The sample rows' merge reference's result: every entry is the layer of `MergeSpec` on the arguments' row.
-/
module

public import proofs.«01_k».proof.Proof.MergeSampleRefValue

@[expose] public section

set_option maxRecDepth 16384

noncomputable section

open Idealize.ShloMosaic Idealize.ShloMosaic.TcCoe Idealize.SL.Sem

namespace Cert.MergeSampleRefIdeal.Row

open Cert.MergeSampleRefIdeal Cert.MergeSampleRefIdeal.Read

variable (x : FVec Ideal S256x1024 .f32) (o : FVec Ideal S256x512 .bf16) (u : FVec Ideal S256x512 .f32) (s : FVec Ideal S32x15x512 .f32)
  (w : FVec Ideal S1024x4104 .f32) (wg : FVec Ideal S4x128x128 .f32) (ps : FVec Ideal S512 .f32)
  (wa wb : FVec Ideal S512x1024 .f32) (wo : FVec Ideal S1024x1024 .f32) (g b : FVec Ideal S1024 .f32)

/-- The gates' columns of the input map. -/
def gates (k : Fin 1024) (j : Fin 2048) : EReal := w (ix2 k ⟨2056 + j.val, by omega⟩)

/-- The gate of the attention's branch at row `r`, column `d`. -/
theorem gate_att (r : Fin 256) (d : Fin 1024) :
    val_main_v73 (F := Ideal) x w (ix2 r d) = MergeSpec.gate (fun k => x (ix2 r k)) (gates w) ⟨d.val, by omega⟩ := by
  simp only [val_main_v73, val_main_v72, val_main_v71, val_main_v70, val_main_v69, val_main_v68, val_main_cst_8, val_main_cst_9,
    val_main_v2, val_main_v1, val_main_v0]
  pointwise [MergeSpec.gate, gates]
  rfl

/-- The gate of the pooling's branch at row `r`, column `d`. -/
theorem gate_pool (r : Fin 256) (d : Fin 1024) :
    val_main_v82 (F := Ideal) x w (ix2 r d) = MergeSpec.gate (fun k => x (ix2 r k)) (gates w) ⟨1024 + d.val, by omega⟩ := by
  simp only [val_main_v82, val_main_v81, val_main_v80, val_main_v79, val_main_v78, val_main_v77, val_main_cst_10, val_main_cst_11,
    val_main_v3, val_main_v1, val_main_v0]
  pointwise [MergeSpec.gate, gates]
  rfl

/-- The gated sum at row `r`, column `d`. -/
theorem merged_apply (r : Fin 256) (d : Fin 1024) :
    val_main_v85 (F := Ideal) x o u s w wg ps wa wb (ix2 r d) = MergeSpec.merged (fun k => x (ix2 r k)) (fun k => o (ix2 r k))
      (fun j => val_main_v67 (F := Ideal) u s wg ps (ix2 r j)) (gates w) (fun k d => wa (ix2 k d)) (fun k d => wb (ix2 k d)) d := by
  unfold MergeSpec.merged
  rw [← gate_att, ← gate_pool]
  rw [val_main_v85, val_main_v84, val_main_v83, val_main_v76, val_main_v75, val_main_v74]
  generalize val_main_v67 (F := Ideal) u s wg ps = p
  generalize val_main_v73 (F := Ideal) x w = ga
  generalize val_main_v82 (F := Ideal) x w = gp
  pointwise

/-- The scaled row plus the projected merge at row `r`, column `d`. -/
theorem hidden_apply (r : Fin 256) (d : Fin 1024) :
    val_main_v89 (F := Ideal) x o u s w wg ps wa wb wo (ix2 r d) = MergeSpec.hidden (fun k => x (ix2 r k)) (fun k => o (ix2 r k))
      (fun j => val_main_v67 (F := Ideal) u s wg ps (ix2 r j)) (gates w) (fun k d => wa (ix2 k d)) (fun k d => wb (ix2 k d))
      (fun k d => wo (ix2 k d)) d := by
  unfold MergeSpec.hidden
  simp only [← merged_apply]
  rw [val_main_v89, val_main_v88, val_main_v87, val_main_v86, val_main_cst_12]
  generalize val_main_v85 (F := Ideal) x o u s w wg ps wa wb = m
  pointwise

/-- The reference's result at row `r`, column `d`, of finite pooling input and kept rows. -/
theorem out_apply (hu : ∀ i, u i = (((u i).toReal : ℝ) : EReal)) (hs : ∀ i, s i = (((s i).toReal : ℝ) : EReal)) (r : Fin 256) (d : Fin 1024) :
    val_main_v113 (F := Ideal) x o u s w wg ps wa wb wo g b (ix2 r d)
      = MergeSpec.layer (fun k => x (ix2 r k)) (fun k => o (ix2 r k))
        (MergeSampleSpec.pooled (fun r j => u (ix2 r j)) (fun b p j => s (ix3 b p j)) (fun g k d => wg (ix3 g k d)) (fun k => ps (ix1 k)) r) (gates w)
        (fun k d => wa (ix2 k d)) (fun k d => wb (ix2 k d)) (fun k d => wo (ix2 k d)) (fun k => g (ix1 k))
        (fun k => b (ix1 k)) d := by
  unfold MergeSpec.layer
  rw [show MergeSampleSpec.pooled (fun r j => u (ix2 r j)) (fun b p j => s (ix3 b p j)) (fun g k d => wg (ix3 g k d)) (fun k => ps (ix1 k)) r
      = fun j => val_main_v67 (F := Ideal) u s wg ps (ix2 r j) from funext fun j => (v67_apply u s hu hs wg ps r j).symm,
    ← show (fun k => val_main_v89 (F := Ideal) x o u s w wg ps wa wb wo (ix2 r k)) = _ from
      funext fun k => hidden_apply x o u s w wg ps wa wb wo r k]
  simp only [val_main_v113, val_main_v112, val_main_v111, val_main_v110, val_main_v109, val_main_v108, val_main_v107,
    val_main_v106, val_main_v105, val_main_v104, val_main_v103, val_main_v102, val_main_v101, val_main_v100, val_main_v99,
    val_main_v98, val_main_v97, val_main_v96, val_main_v95, val_main_v94, val_main_v93, val_main_v92, val_main_v91,
    val_main_v90, val_main_cst_13, val_main_cst_14, val_main_cst_15, val_main_cst_16, val_main_cst_17]
  generalize val_main_v89 (F := Ideal) x o u s w wg ps wa wb wo = h
  pointwise [FfnSpec.norm, FfnSpec.mean]

end Cert.MergeSampleRefIdeal.Row

end
-- ==== Proof.MergeSampleClaims.lean ====
/-
  The claims about the sample rows' merge: the frames, the idealization, and the value claim where the pooling input and the kept rows are
  finite.
-/
module

public import proofs.«01_k».proof.Proof.AttnClaims
public import proofs.«01_k».proof.Proof.MergeSampleArray
public import proofs.«01_k».proof.Proof.MergeSampleRefOut
public import proofs.«01_k».proof.Proof.Gen.Pre_finite_kept
public import proofs.«01_k».proof.Proof.Gen.MergeSample.Frame
public import Idealize.ShloMosaic.Lib.Quiescent

@[expose] public section

noncomputable section

open Idealize.ShloMosaic Idealize.ShloMosaic.TcCoe Idealize.SL.Sem

namespace Cert.MergeSampleClaims

theorem frame_kernel : Cert.quiescent_MergeSample := fun m ρ _ => Cert.MergeSample.Gen.frame m ρ

theorem frame_ideal : Cert.quiescent_MergeSampleIdeal := fun m ρ _ => Cert.MergeSampleIdeal.Gen.frame m ρ

theorem frame_ideal_finite : Cert.quiescent_MergeSampleIdeal_pre_finite_kept := fun m ρ _ => Cert.MergeSampleIdeal.Gen.frame m ρ

theorem frame_ref : Cert.quiescent_MergeSampleRefIdeal := fun m ρ _ =>
  (θ_run Cert.MergeSampleRefIdeal.defs _ _).mono (fun r h => ⟨fun c => (h c).2, sem_eq_zero_of_no_sems (by decide) r.2⟩)
    (Cert.MergeSampleRefIdeal.Value.run (F := Ideal) m ρ)

theorem frame_ref_finite : Cert.quiescent_MergeSampleRefIdeal_pre_finite_kept := fun m ρ _ => frame_ref m ρ trivial

theorem preserves : Cert.preserves_MergeSample_MergeSampleIdeal := trivial

/-- On arguments that agree, with finite pooling input and kept rows, the reference's result is the kernel's. -/
theorem ref_eq (m : (ℓ : Loc Cert.MergeSampleIdeal.nD Cert.MergeSampleIdeal.τ Cert.MergeSampleIdeal.sig) → Buf (Elt Ideal) ℓ)
    (hp : Cert.Pre_MergeSampleIdeal_finite_kept m) (c : Dev Cert.MergeSampleIdeal.nD) :
    Cert.MergeSampleRefIdeal.Read.val_main_v113 (F := Ideal)
      (m ((c.tc : Thread Cert.MergeSampleIdeal.nD Cert.MergeSampleIdeal.τ).loc Cert.MergeSampleIdeal.main_arg0))
      (m ((c.tc : Thread Cert.MergeSampleIdeal.nD Cert.MergeSampleIdeal.τ).loc Cert.MergeSampleIdeal.main_arg1))
      (m ((c.tc : Thread Cert.MergeSampleIdeal.nD Cert.MergeSampleIdeal.τ).loc Cert.MergeSampleIdeal.main_arg2))
      (m ((c.tc : Thread Cert.MergeSampleIdeal.nD Cert.MergeSampleIdeal.τ).loc Cert.MergeSampleIdeal.main_arg3))
      (m ((c.tc : Thread Cert.MergeSampleIdeal.nD Cert.MergeSampleIdeal.τ).loc Cert.MergeSampleIdeal.main_arg4))
      (m ((c.tc : Thread Cert.MergeSampleIdeal.nD Cert.MergeSampleIdeal.τ).loc Cert.MergeSampleIdeal.main_arg5))
      (m ((c.tc : Thread Cert.MergeSampleIdeal.nD Cert.MergeSampleIdeal.τ).loc Cert.MergeSampleIdeal.main_arg6))
      (m ((c.tc : Thread Cert.MergeSampleIdeal.nD Cert.MergeSampleIdeal.τ).loc Cert.MergeSampleIdeal.main_arg7))
      (m ((c.tc : Thread Cert.MergeSampleIdeal.nD Cert.MergeSampleIdeal.τ).loc Cert.MergeSampleIdeal.main_arg8))
      (m ((c.tc : Thread Cert.MergeSampleIdeal.nD Cert.MergeSampleIdeal.τ).loc Cert.MergeSampleIdeal.main_arg9))
      (m ((c.tc : Thread Cert.MergeSampleIdeal.nD Cert.MergeSampleIdeal.τ).loc Cert.MergeSampleIdeal.main_arg10))
      (m ((c.tc : Thread Cert.MergeSampleIdeal.nD Cert.MergeSampleIdeal.τ).loc Cert.MergeSampleIdeal.main_arg11))
      = Cert.MergeSampleIdeal.Array.whole m c := by
  funext i
  obtain ⟨r, d, rfl⟩ : ∃ (r : Fin 256) (d : Fin 1024), i = ix2 r d := ⟨i 0, i 1, eq_ix2 i⟩
  exact Cert.MergeSampleRefIdeal.Row.out_apply _ _ _ _ _ _ _ _ _ _ _ _
    (fun i => Cert.AttnClaims.real_of_abs _ (congrFun (hp c).1 i)) (fun i => Cert.AttnClaims.real_of_abs _ (congrFun (hp c).2 i)) r d

theorem algebraic : Cert.algebraic_MergeSampleIdeal_MergeSampleRefIdeal_pre_finite_kept := by
  intro m ρ m' ρ' hp hag
  refine ⟨fun c => Cert.MergeSampleIdeal.Array.whole m c, ?_, ?_⟩
  · exact (θ_run Cert.MergeSampleIdeal.defs _ _).mono (fun _ h c => ⟨(h c).1.trans (Cert.MergeSampleIdeal.Array.final m c), (h c).2⟩)
      (Cert.MergeSampleIdeal.Value.run_blocks (F := Ideal) m ρ)
  · refine (θ_run Cert.MergeSampleRefIdeal.defs _ _).mono (fun _ h c => ⟨(h c).1.trans
      ((Cert.MergeSampleRefIdeal.Read.val_main_v113_eq m' c).trans (Eq.trans ?_ (ref_eq m hp c))), (h c).2⟩)
      (Cert.MergeSampleRefIdeal.Value.run (F := Ideal) m' ρ')
    obtain ⟨h0, h1, h2, h3, h4, h5, h6, h7, h8, h9, h10, h11⟩ := hag c
    rw [h0, h1, h2, h3, h4, h5, h6, h7, h8, h9, h10, h11]

end Cert.MergeSampleClaims

end
-- ==== Proof.AttnSampleIdealFrame.lean ====
module

public import proofs.«01_k».proof.Proof.Gen.AttnSampleIdeal.Frame.RunC
public import Idealize.ShloMosaic.Lib.Claim

@[expose] public section

set_option maxRecDepth 16384

noncomputable section

/-! The launch of the sample attention, idealized: what a grid point leaves in the output block and the four scratch
    arrays, the running of the whole grid, and the frame. A point is the first of its sequence (case A), a
    middle one (case B) or the last one (case C). -/

namespace Cert.AttnSampleIdeal.Own

open Cert.AttnSampleIdeal Cert.AttnSampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

/-! ## What a point leaves -/

/-- The output block and the four scratch arrays. -/
abbrev Left (F : FTy → Type) [FloatOps F] : Type :=
  Vec F S1x8x512 .bf16 × Vec F S8x8192 .f32 × Vec F S64x1 .f32 × Vec F S64x1 .f32 × Vec F S64x64 .f32

section point
variable (hO : Ok m) (c : Dev nD) (t : Fin (cfgM m hO).N)

/-- The body's run at a sequence's first point. -/
def runA (h0 : t.val % 8 = 0) (h1 : ¬t.val % 8 = 7) :=
  kernelRun0_A (F := F) c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6
    m hO t) (ms0_7 m hO t) (hs0_7 m hO t) (ms0_8 m hO t) (hs0_8 m hO t) (ms0_9 m hO t) (hs0_9 m hO t) (ms0_10 m hO
    t) (hs0_10 m hO t) (ms0_11 m hO t) (hs0_11 m hO t) (ms0_12 m hO t) (hs0_12 m hO t) (ms0_13 m hO t) (hs0_13 m hO
    t) (ms0_14 m hO t) (hs0_14 m hO t) (ms0_15 m hO t) (hs0_15 m hO t) (ms0_16 m hO t) (hs0_16 m hO t) (ms0_17 m hO
    t) (hs0_17 m hO t) (ms0_18 m hO t) (hs0_18 m hO t) (ms0_19 m hO t) (hs0_19 m hO t) (ms0_20 m hO t) (hs0_20 m hO
    t) (ms0_21 m hO t) (hs0_21 m hO t) scM0_0 (Memref.isWhole_whole _) scM0_1 (Memref.isWhole_whole _) scM0_2
    (Memref.isWhole_whole _) scM0_3 (Memref.isWhole_whole _)
    ((hcond0_0 t).mpr h0) (fun h => h1 ((hcond0_1 t).mp h))
    (iblk m hO c 0 t) (iblk m hO c 1 t) (iblk m hO c 2 t) (iblk m hO c 3 t) (iblk m hO c 4 t) (iblk m hO c 5 t)
    (iblk m hO c 6 t) (iblk m hO c 7 t) (iblk m hO c 8 t) (iblk m hO c 9 t) (iblk m hO c 10 t) (iblk m hO c 11 t)
    (iblk m hO c 12 t) (iblk m hO c 13 t) (iblk m hO c 14 t) (iblk m hO c 15 t) (iblk m hO c 16 t) (iblk m hO c 17
    t) (iblk m hO c 18 t) (iblk m hO c 19 t) (iblk m hO c 20 t) (tbl m 0)

/-- The body's run at a middle point, the scratch arrays holding `p`'s. -/
def runB (h0 : ¬t.val % 8 = 0) (h1 : ¬t.val % 8 = 7) (p : Left F) :=
  kernelRun0_B (F := F) c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6
    m hO t) (ms0_7 m hO t) (hs0_7 m hO t) (ms0_8 m hO t) (hs0_8 m hO t) (ms0_9 m hO t) (hs0_9 m hO t) (ms0_10 m hO
    t) (hs0_10 m hO t) (ms0_11 m hO t) (hs0_11 m hO t) (ms0_12 m hO t) (hs0_12 m hO t) (ms0_13 m hO t) (hs0_13 m hO
    t) (ms0_14 m hO t) (hs0_14 m hO t) (ms0_15 m hO t) (hs0_15 m hO t) (ms0_16 m hO t) (hs0_16 m hO t) (ms0_17 m hO
    t) (hs0_17 m hO t) (ms0_18 m hO t) (hs0_18 m hO t) (ms0_19 m hO t) (hs0_19 m hO t) (ms0_20 m hO t) (hs0_20 m hO
    t) (ms0_21 m hO t) (hs0_21 m hO t) scM0_0 (Memref.isWhole_whole _) scM0_1 (Memref.isWhole_whole _) scM0_2
    (Memref.isWhole_whole _) scM0_3 (Memref.isWhole_whole _)
    (fun h => h0 ((hcond0_0 t).mp h)) (fun h => h1 ((hcond0_1 t).mp h))
    (iblk m hO c 0 t) (iblk m hO c 1 t) (iblk m hO c 2 t) (iblk m hO c 3 t) (iblk m hO c 4 t) (iblk m hO c 5 t)
    (iblk m hO c 6 t) (iblk m hO c 7 t) (iblk m hO c 8 t) (iblk m hO c 9 t) (iblk m hO c 10 t) (iblk m hO c 11 t)
    (iblk m hO c 12 t) (iblk m hO c 13 t) (iblk m hO c 14 t) (iblk m hO c 15 t) (iblk m hO c 16 t) (iblk m hO c 17
    t) (iblk m hO c 18 t) (iblk m hO c 19 t) (iblk m hO c 20 t) (tbl m 0) p.2.1 p.2.2.1 p.2.2.2.1 p.2.2.2.2

/-- The body's run at a sequence's last point, the scratch arrays holding `p`'s. -/
def runC (h0 : ¬t.val % 8 = 0) (h1 : t.val % 8 = 7) (p : Left F) :=
  kernelRun0_C (F := F) c (grid0.coords t) (ms0_0 m hO t) (hs0_0 m hO t) (ms0_1 m hO t) (hs0_1 m hO t) (ms0_2 m hO t) (hs0_2 m hO t)
    (ms0_3 m hO t) (hs0_3 m hO t) (ms0_4 m hO t) (hs0_4 m hO t) (ms0_5 m hO t) (hs0_5 m hO t) (ms0_6 m hO t) (hs0_6
    m hO t) (ms0_7 m hO t) (hs0_7 m hO t) (ms0_8 m hO t) (hs0_8 m hO t) (ms0_9 m hO t) (hs0_9 m hO t) (ms0_10 m hO
    t) (hs0_10 m hO t) (ms0_11 m hO t) (hs0_11 m hO t) (ms0_12 m hO t) (hs0_12 m hO t) (ms0_13 m hO t) (hs0_13 m hO
    t) (ms0_14 m hO t) (hs0_14 m hO t) (ms0_15 m hO t) (hs0_15 m hO t) (ms0_16 m hO t) (hs0_16 m hO t) (ms0_17 m hO
    t) (hs0_17 m hO t) (ms0_18 m hO t) (hs0_18 m hO t) (ms0_19 m hO t) (hs0_19 m hO t) (ms0_20 m hO t) (hs0_20 m hO
    t) (ms0_21 m hO t) (hs0_21 m hO t) scM0_0 (Memref.isWhole_whole _) scM0_1 (Memref.isWhole_whole _) scM0_2
    (Memref.isWhole_whole _) scM0_3 (Memref.isWhole_whole _)
    (fun h => h0 ((hcond0_0 t).mp h)) ((hcond0_1 t).mpr h1)
    (iblk m hO c 0 t) (iblk m hO c 1 t) (iblk m hO c 2 t) (iblk m hO c 3 t) (iblk m hO c 4 t) (iblk m hO c 5 t)
    (iblk m hO c 6 t) (iblk m hO c 7 t) (iblk m hO c 8 t) (iblk m hO c 9 t) (iblk m hO c 10 t) (iblk m hO c 11 t)
    (iblk m hO c 12 t) (iblk m hO c 13 t) (iblk m hO c 14 t) (iblk m hO c 15 t) (iblk m hO c 16 t) (iblk m hO c 17
    t) (iblk m hO c 18 t) (iblk m hO c 19 t) (iblk m hO c 20 t) (tbl m 0) p.2.1 p.2.2.1 p.2.2.2.1 p.2.2.2.2

/-- What a first point leaves; nothing reads its output block. -/
def leftA (h0 : t.val % 8 = 0) (h1 : ¬t.val % 8 = 7) : Left F :=
  (VO0_21.read (Elt F) VO0_21.junk,
   VS0_0.read (Elt F) (VS0_0.writes (Elt F) VS0_0.junk (runA m hO c t h0 h1).2.1),
   VS0_1.read (Elt F) (VS0_1.writes (Elt F) VS0_1.junk (runA m hO c t h0 h1).2.2.1),
   VS0_2.read (Elt F) (VS0_2.writes (Elt F) VS0_2.junk (runA m hO c t h0 h1).2.2.2.1),
   VS0_3.read (Elt F) (VS0_3.writes (Elt F) VS0_3.junk (runA m hO c t h0 h1).2.2.2.2.1))

/-- What a middle point leaves; nothing reads its output block. -/
def leftB (h0 : ¬t.val % 8 = 0) (h1 : ¬t.val % 8 = 7) (p : Left F) : Left F :=
  (VO0_21.read (Elt F) VO0_21.junk, p.2.1,
   VS0_1.read (Elt F) (VS0_1.writes (Elt F) VS0_1.junk (runB m hO c t h0 h1 p).2.2.1),
   VS0_2.read (Elt F) (VS0_2.writes (Elt F) VS0_2.junk (runB m hO c t h0 h1 p).2.2.2.1),
   VS0_3.read (Elt F) (VS0_3.writes (Elt F) VS0_3.junk (runB m hO c t h0 h1 p).2.2.2.2.1))

/-- What a last point leaves. -/
def leftC (h0 : ¬t.val % 8 = 0) (h1 : t.val % 8 = 7) (p : Left F) : Left F :=
  (VO0_21.read (Elt F) (VO0_21.writes (Elt F) VO0_21.junk (runC m hO c t h0 h1 p).1), p.2.1,
   VS0_1.read (Elt F) (VS0_1.writes (Elt F) VS0_1.junk (runC m hO c t h0 h1 p).2.2.1),
   VS0_2.read (Elt F) (VS0_2.writes (Elt F) VS0_2.junk (runC m hO c t h0 h1 p).2.2.2.1),
   VS0_3.read (Elt F) (VS0_3.writes (Elt F) VS0_3.junk (runC m hO c t h0 h1 p).2.2.2.2.1))

/-! The stores of a case fill what it stores into. -/

theorem coverA (h0 : t.val % 8 = 0) (h1 : ¬t.val % 8 = 7) :
    (∀ y, ∃ pc ∈ (runA m hO c t h0 h1).2.1, y ∈ pc.1.set)
      ∧ (∀ y, ∃ pc ∈ (runA m hO c t h0 h1).2.2.1, y ∈ pc.1.set)
      ∧ (∀ y, ∃ pc ∈ (runA m hO c t h0 h1).2.2.2.1, y ∈ pc.1.set)
      ∧ ∀ y, ∃ pc ∈ (runA m hO c t h0 h1).2.2.2.2.1, y ∈ pc.1.set :=
  ⟨View.cover_of_tiledL (runA m hO c t h0 h1).2.1 S8x8192.size (by sl_kernel_rfl),
   View.cover_of_tiledL (runA m hO c t h0 h1).2.2.1 S64x1.size (by sl_kernel_rfl),
   View.cover_of_tiledL (runA m hO c t h0 h1).2.2.2.1 S64x1.size (by sl_kernel_rfl),
   View.cover_of_tiledL (runA m hO c t h0 h1).2.2.2.2.1 S64x64.size (by sl_kernel_rfl)⟩

theorem coverB (h0 : ¬t.val % 8 = 0) (h1 : ¬t.val % 8 = 7) (p : Left F) :
    (∀ y, ∃ pc ∈ (runB m hO c t h0 h1 p).2.2.1, y ∈ pc.1.set)
      ∧ (∀ y, ∃ pc ∈ (runB m hO c t h0 h1 p).2.2.2.1, y ∈ pc.1.set)
      ∧ ∀ y, ∃ pc ∈ (runB m hO c t h0 h1 p).2.2.2.2.1, y ∈ pc.1.set :=
  ⟨View.cover_of_tiledL (runB m hO c t h0 h1 p).2.2.1 S64x1.size (by sl_kernel_rfl),
   View.cover_of_tiledL (runB m hO c t h0 h1 p).2.2.2.1 S64x1.size (by sl_kernel_rfl),
   View.cover_of_tiledL (runB m hO c t h0 h1 p).2.2.2.2.1 S64x64.size (by sl_kernel_rfl)⟩

theorem coverC (h0 : ¬t.val % 8 = 0) (h1 : t.val % 8 = 7) (p : Left F) :
    (∀ y, ∃ pc ∈ (runC m hO c t h0 h1 p).1, y ∈ pc.1.set)
      ∧ (∀ y, ∃ pc ∈ (runC m hO c t h0 h1 p).2.2.1, y ∈ pc.1.set)
      ∧ (∀ y, ∃ pc ∈ (runC m hO c t h0 h1 p).2.2.2.1, y ∈ pc.1.set)
      ∧ ∀ y, ∃ pc ∈ (runC m hO c t h0 h1 p).2.2.2.2.1, y ∈ pc.1.set :=
  ⟨View.cover_of_tiledL (runC m hO c t h0 h1 p).1 S1x8x512.size (by sl_kernel_rfl),
   View.cover_of_tiledL (runC m hO c t h0 h1 p).2.2.1 S64x1.size (by sl_kernel_rfl),
   View.cover_of_tiledL (runC m hO c t h0 h1 p).2.2.2.1 S64x1.size (by sl_kernel_rfl),
   View.cover_of_tiledL (runC m hO c t h0 h1 p).2.2.2.2.1 S64x64.size (by sl_kernel_rfl)⟩

end point

/-- What the point at place `n` leaves, each over what the one before it left. -/
def left (hO : Ok m) (c : Dev nD) : (n : ℕ) → n < (cfgM m hO).N → Left F
  | 0, hn => leftA m hO c ⟨0, hn⟩ (Nat.zero_mod 8) (by show ¬0 % 8 = 7; decide)
  | n + 1, hn =>
    if h0 : (n + 1) % 8 = 0 then leftA m hO c ⟨n + 1, hn⟩ h0 (by show ¬(n + 1) % 8 = 7; omega)
    else if h1 : (n + 1) % 8 = 7 then leftC m hO c ⟨n + 1, hn⟩ h0 h1 (left hO c n (Nat.lt_of_succ_lt hn))
    else leftB m hO c ⟨n + 1, hn⟩ h0 h1 (left hO c n (Nat.lt_of_succ_lt hn))

section points
variable (hO : Ok m) (c : Dev nD) (t : Fin (cfgM m hO).N)

/-- What the point before `t` left. -/
abbrev prev : Left F := left m hO c (t.val - 1) (Nat.lt_of_le_of_lt (Nat.sub_le _ _) t.isLt)

theorem left_A (h0 : t.val % 8 = 0) (h1 : ¬t.val % 8 = 7) :
    left m hO c t.val t.isLt = leftA m hO c t h0 h1 := by
  obtain ⟨n, hn⟩ := t
  cases n with
  | zero => rfl
  | succ n => exact dif_pos h0

theorem left_B (h0 : ¬t.val % 8 = 0) (h1 : ¬t.val % 8 = 7) :
    left m hO c t.val t.isLt = leftB m hO c t h0 h1 (prev m hO c t) := by
  obtain ⟨n, hn⟩ := t
  cases n with
  | zero => exact absurd (Nat.zero_mod 8) h0
  | succ n => exact (dif_neg h0).trans (dif_neg h1)

theorem left_C (h0 : ¬t.val % 8 = 0) (h1 : t.val % 8 = 7) :
    left m hO c t.val t.isLt = leftC m hO c t h0 h1 (prev m hO c t) := by
  obtain ⟨n, hn⟩ := t
  cases n with
  | zero => exact absurd (Nat.zero_mod 8) h0
  | succ n => exact (dif_neg h0).trans (dif_pos h1)

end points

/-! ## The invariant between points -/

/-- The four scratch arrays hold `p`'s. -/
def held (c : Dev nD) (p : Left F) : sProp (MT nD τ sig Unit (Elt F) ℕ (UR sig nD τ) ℕ) :=
  iprop(owns (c : Thread nD τ) scM0_0 fullShare p.2.1 ∗ owns (c : Thread nD τ) scM0_1 fullShare p.2.2.1
    ∗ owns (c : Thread nD τ) scM0_2 fullShare p.2.2.2.1 ∗ owns (c : Thread nD τ) scM0_3 fullShare p.2.2.2.2)

/-- Before the first point the scratch arrays hold anything, later what the point before left. -/
def inv (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop((held c (left m hO c n hn) ∗ (∃ r, prngReg c r)) ∗ Pipeline.ΦT pre0 (tbl m) c)

theorem inv_pos (hO : Ok m) (c : Dev nD) (n : ℕ) (h : n ≤ (cfgM m hO).N) (hz : n ≠ 0) :
    inv m hO c n h
      = iprop((held c (left m hO c (n - 1) (by omega)) ∗ (∃ r, prngReg c r)) ∗ Pipeline.ΦT pre0 (tbl m) c) := by
  cases n with
  | zero => exact absurd rfl hz
  | succ n => rfl

/-- Held contents are some contents. -/
theorem inv_some (hO : Ok m) (c : Dev nD) (n : ℕ) (h : n ≤ (cfgM m hO).N) :
    inv m hO c n h ⊢ iprop((((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d))
          ∗ (∃ r, prngReg c r)) ∗ tbPt0 c tbM0_0 (tbl m 0)) := by
  cases n with
  | zero =>
    unfold inv
    rw [PhiA0_eq, PhiT0_eq]
  | succ n =>
    unfold inv held
    rw [PhiT0_eq]
    iintro ⟨⟨⟨HS0, HS1, HS2, HS3⟩, Hg⟩, HT⟩
    isplitr [HT]
    · isplitr [Hg]
      · isplitl [HS0]
        · iexists _; iexact HS0
        isplitl [HS1]
        · iexists _; iexact HS1
        isplitl [HS2]
        · iexists _; iexact HS2
        iexists _; iexact HS3
      iexact Hg
    iexact HT

/-! ## The proof data -/

/-- After a point's body an input's buffer holds its block and the output's what the point leaves. -/
def dats (hO : Ok m) (_ : Fin 1) (c : Dev nD) : Dat τ (Elt F) Unit ℕ (UR sig nD τ) ℕ (cfgM m hO) c where
  A w := V m c (Pipeline.arrRef spec0 w)
  after w t := match w with
    | ⟨21, _⟩ => (left m hO c t.val t.isLt).1
    | w => iblk m hO c w t
  Φ t := inv m hO c t.val (Nat.le_of_lt_succ t.isLt)
  q w := Pipeline.shareOf spec0 w
  owed _ := 0

theorem A_eq (hO : Ok m) (c : Dev nD) (w : Fin (cfgM m hO).W) :
    (dats m hO 0 c).A w = V m c (Pipeline.arrRef spec0 w) := by
  dsimp only [dats]

theorem after_in (hO : Ok m) (c : Dev nD) (w : Fin 22) (hw : w.val < 21) (t : Fin (cfgM m hO).N) :
    (dats m hO 0 c).after w t = iblk m hO c w t := by
  dsimp only [dats]
  split
  · exact absurd hw (Nat.lt_irrefl 21)
  · rfl

theorem after_out (hO : Ok m) (c : Dev nD) (t : Fin (cfgM m hO).N) :
    (dats m hO 0 c).after 21 t = (left m hO c t.val t.isLt).1 := by
  dsimp only [dats]; try rfl

theorem inv_castSucc (hO : Ok m) (c : Dev nD) (t : Fin (cfgM m hO).N) :
    (dats m hO 0 c).Φ t.castSucc = inv m hO c t.val (Nat.le_of_lt t.isLt) := by
  dsimp only [dats]; exact Pipeline.Dat.Φ_castSucc (inv m hO c) t

theorem leaves_in (hO : Ok m) (c : Dev nD) (t : Fin (cfgM m hO).N) (w : Fin 22) (hw : w.val < 21)
    (hi : (cfgM m hO).idle w (grid0.coords t) = false) :
    (dats m hO 0 c).leavesExact w t
      = owns (c : Thread nD τ) (((cfgM m hO).win w).stage ((cfgM m hO).slots t w)) fullShare (iblk m hO c w t) := by
  unfold Dat.leavesExact
  rw [show (cfgM m hO).idle w ((cfgM m hO).grid.coords t) = false from hi, after_in m hO c w hw]

/-! ## The body at a point -/

/-- What the body is called with. -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
      ∗ (∃ d, owns (c : Thread nD τ) (ms0_0 m hO t) fullShare ((dats m hO 0 c).before 0 t d))
      ∗ (∃ d, owns (c : Thread nD τ) (ms0_1 m hO t) fullShare ((dats m hO 0 c).before 1 t d))
      ∗ (∃ d, owns (c : Thread nD τ) (ms0_2 m hO t) fullShare ((dats m hO 0 c).before 2 t d))
      ∗ (∃ d, owns (c : Thread nD τ) (ms0_3 m hO t) fullShare ((dats m hO 0 c).before 3 t d))
      ∗ (∃ d, owns (c : Thread nD τ) (ms0_4 m hO t) fullShare ((dats m hO 0 c).before 4 t d))
      ∗ (∃ d, owns (c : Thread nD τ) (ms0_5 m hO t) fullShare ((dats m hO 0 c).before 5 t d))
      ∗ (∃ d, owns (c : Thread nD τ) (ms0_6 m hO t) fullShare ((dats m hO 0 c).before 6 t d))
      ∗ (∃ d, owns (c : Thread nD τ) (ms0_7 m hO t) fullShare ((dats m hO 0 c).before 7 t d))
      ∗ (∃ d, owns (c : Thread nD τ) (ms0_8 m hO t) fullShare ((dats m hO 0 c).before 8 t d))
      ∗ (∃ d, owns (c : Thread nD τ) (ms0_9 m hO t) fullShare ((dats m hO 0 c).before 9 t d))
      ∗ (∃ d, owns (c : Thread nD τ) (ms0_10 m hO t) fullShare ((dats m hO 0 c).before 10 t d))
      ∗ (∃ d, owns (c : Thread nD τ) (ms0_11 m hO t) fullShare ((dats m hO 0 c).before 11 t d))
      ∗ (∃ d, owns (c : Thread nD τ) (ms0_12 m hO t) fullShare ((dats m hO 0 c).before 12 t d))
      ∗ (∃ d, owns (c : Thread nD τ) (ms0_13 m hO t) fullShare ((dats m hO 0 c).before 13 t d))
      ∗ (∃ d, owns (c : Thread nD τ) (ms0_14 m hO t) fullShare ((dats m hO 0 c).before 14 t d))
      ∗ (∃ d, owns (c : Thread nD τ) (ms0_15 m hO t) fullShare ((dats m hO 0 c).before 15 t d))
      ∗ (∃ d, owns (c : Thread nD τ) (ms0_16 m hO t) fullShare ((dats m hO 0 c).before 16 t d))
      ∗ (∃ d, owns (c : Thread nD τ) (ms0_17 m hO t) fullShare ((dats m hO 0 c).before 17 t d))
      ∗ (∃ d, owns (c : Thread nD τ) (ms0_18 m hO t) fullShare ((dats m hO 0 c).before 18 t d))
      ∗ (∃ d, owns (c : Thread nD τ) (ms0_19 m hO t) fullShare ((dats m hO 0 c).before 19 t d))
      ∗ (∃ d, owns (c : Thread nD τ) (ms0_20 m hO t) fullShare ((dats m hO 0 c).before 20 t d))
      ∗ (∃ d, owns (c : Thread nD τ) (ms0_21 m hO t) fullShare ((dats m hO 0 c).before 21 t d)))

/-- What it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ ∗ (dats m hO 0 c).leavesExact 0 t ∗ (dats m hO 0 c).leavesExact 1 t ∗ (dats m hO 0 c).leavesExact 2 t ∗ (dats m hO 0 c).leavesExact 3 t ∗ (dats m hO 0 c).leavesExact 4 t ∗ (dats m hO 0 c).leavesExact 5 t ∗ (dats m hO 0 c).leavesExact 6 t ∗ (dats m hO 0 c).leavesExact 7 t ∗ (dats m hO 0 c).leavesExact 8 t ∗ (dats m hO 0 c).leavesExact 9 t ∗ (dats m hO 0 c).leavesExact 10 t ∗ (dats m hO 0 c).leavesExact 11 t ∗ (dats m hO 0 c).leavesExact 12 t ∗ (dats m hO 0 c).leavesExact 13 t ∗ (dats m hO 0 c).leavesExact 14 t ∗ (dats m hO 0 c).leavesExact 15 t ∗ (dats m hO 0 c).leavesExact 16 t ∗ (dats m hO 0 c).leavesExact 17 t ∗ (dats m hO 0 c).leavesExact 18 t ∗ (dats m hO 0 c).leavesExact 19 t ∗ (dats m hO 0 c).leavesExact 20 t ∗ (dats m hO 0 c).leavesExact 21 t)

/-- Stored pieces that fill a memref, as its contents read through any view. -/
theorem owns_filled {sh : Shape} {e : EltTy} (c : Dev nD) (r : Memref sig .tc .vmem sh e)
    (v : View sig .tc .vmem sh e) (f' : v.ty.Contents (Elt F))
    (L : List (View.Piece (Elt F) sh e)) (hL : ∀ y, ∃ pc ∈ L, y ∈ pc.1.set) :
    (iprop(∃ f, r.view.loc (c : Thread nD τ) ↦[r.view.set]{fullShare} r.view.writes (Elt F) f L) : sProp (MT nD τ sig Unit (Elt F) ℕ (UR sig nD τ) ℕ))
      ⊢ owns (c : Thread nD τ) r fullShare (v.read (Elt F) (v.writes (Elt F) f' L)) := by
  iintro ⟨%f, H⟩
  unfold owns; iexists _; isplitr
  swap; · iexact H
  ipureintro; exact View.read_writes_of_cover _ _ _ _ _ hL

/-- What the body is called with, the inputs' buffers at their blocks. -/
theorem bodyPre_eq (hO : Ok m) (c : Dev nD) (t : Fin (cfgM m hO).N) :
    bodyPre m hO c t = iprop(inv m hO c t.val (Nat.le_of_lt t.isLt) ∗ (dats m hO 0 c).owesAt () t.castSucc
      ∗ (∃ d : ((cfgM m hO).win 0).block.Idx → Elt F ((cfgM m hO).win 0).elt, owns (c : Thread nD τ) (ms0_0 m hO t) fullShare (iblk m hO c 0 t))
      ∗ (∃ d : ((cfgM m hO).win 1).block.Idx → Elt F ((cfgM m hO).win 1).elt, owns (c : Thread nD τ) (ms0_1 m hO t) fullShare (iblk m hO c 1 t))
      ∗ (∃ d : ((cfgM m hO).win 2).block.Idx → Elt F ((cfgM m hO).win 2).elt, owns (c : Thread nD τ) (ms0_2 m hO t) fullShare (iblk m hO c 2 t))
      ∗ (∃ d : ((cfgM m hO).win 3).block.Idx → Elt F ((cfgM m hO).win 3).elt, owns (c : Thread nD τ) (ms0_3 m hO t) fullShare (iblk m hO c 3 t))
      ∗ (∃ d : ((cfgM m hO).win 4).block.Idx → Elt F ((cfgM m hO).win 4).elt, owns (c : Thread nD τ) (ms0_4 m hO t) fullShare (iblk m hO c 4 t))
      ∗ (∃ d : ((cfgM m hO).win 5).block.Idx → Elt F ((cfgM m hO).win 5).elt, owns (c : Thread nD τ) (ms0_5 m hO t) fullShare (iblk m hO c 5 t))
      ∗ (∃ d : ((cfgM m hO).win 6).block.Idx → Elt F ((cfgM m hO).win 6).elt, owns (c : Thread nD τ) (ms0_6 m hO t) fullShare (iblk m hO c 6 t))
      ∗ (∃ d : ((cfgM m hO).win 7).block.Idx → Elt F ((cfgM m hO).win 7).elt, owns (c : Thread nD τ) (ms0_7 m hO t) fullShare (iblk m hO c 7 t))
      ∗ (∃ d : ((cfgM m hO).win 8).block.Idx → Elt F ((cfgM m hO).win 8).elt, owns (c : Thread nD τ) (ms0_8 m hO t) fullShare (iblk m hO c 8 t))
      ∗ (∃ d : ((cfgM m hO).win 9).block.Idx → Elt F ((cfgM m hO).win 9).elt, owns (c : Thread nD τ) (ms0_9 m hO t) fullShare (iblk m hO c 9 t))
      ∗ (∃ d : ((cfgM m hO).win 10).block.Idx → Elt F ((cfgM m hO).win 10).elt, owns (c : Thread nD τ) (ms0_10 m hO t) fullShare (iblk m hO c 10 t))
      ∗ (∃ d : ((cfgM m hO).win 11).block.Idx → Elt F ((cfgM m hO).win 11).elt, owns (c : Thread nD τ) (ms0_11 m hO t) fullShare (iblk m hO c 11 t))
      ∗ (∃ d : ((cfgM m hO).win 12).block.Idx → Elt F ((cfgM m hO).win 12).elt, owns (c : Thread nD τ) (ms0_12 m hO t) fullShare (iblk m hO c 12 t))
      ∗ (∃ d : ((cfgM m hO).win 13).block.Idx → Elt F ((cfgM m hO).win 13).elt, owns (c : Thread nD τ) (ms0_13 m hO t) fullShare (iblk m hO c 13 t))
      ∗ (∃ d : ((cfgM m hO).win 14).block.Idx → Elt F ((cfgM m hO).win 14).elt, owns (c : Thread nD τ) (ms0_14 m hO t) fullShare (iblk m hO c 14 t))
      ∗ (∃ d : ((cfgM m hO).win 15).block.Idx → Elt F ((cfgM m hO).win 15).elt, owns (c : Thread nD τ) (ms0_15 m hO t) fullShare (iblk m hO c 15 t))
      ∗ (∃ d : ((cfgM m hO).win 16).block.Idx → Elt F ((cfgM m hO).win 16).elt, owns (c : Thread nD τ) (ms0_16 m hO t) fullShare (iblk m hO c 16 t))
      ∗ (∃ d : ((cfgM m hO).win 17).block.Idx → Elt F ((cfgM m hO).win 17).elt, owns (c : Thread nD τ) (ms0_17 m hO t) fullShare (iblk m hO c 17 t))
      ∗ (∃ d : ((cfgM m hO).win 18).block.Idx → Elt F ((cfgM m hO).win 18).elt, owns (c : Thread nD τ) (ms0_18 m hO t) fullShare (iblk m hO c 18 t))
      ∗ (∃ d : ((cfgM m hO).win 19).block.Idx → Elt F ((cfgM m hO).win 19).elt, owns (c : Thread nD τ) (ms0_19 m hO t) fullShare (iblk m hO c 19 t))
      ∗ (∃ d : ((cfgM m hO).win 20).block.Idx → Elt F ((cfgM m hO).win 20).elt, owns (c : Thread nD τ) (ms0_20 m hO t) fullShare (iblk m hO c 20 t))
      ∗ (∃ d, owns (c : Thread nD τ) (ms0_21 m hO t) fullShare ((dats m hO 0 c).before 21 t d))) := by
  unfold bodyPre
  simp only [before0_0_of m hO (dats m hO 0 c) (A_eq m hO c 0) (after_in m hO c 0 (by decide)) t,
    before0_1_of m hO (dats m hO 0 c) (A_eq m hO c 1) (after_in m hO c 1 (by decide)) t,
    before0_2_of m hO (dats m hO 0 c) (A_eq m hO c 2) (after_in m hO c 2 (by decide)) t,
    before0_3_of m hO (dats m hO 0 c) (A_eq m hO c 3) (after_in m hO c 3 (by decide)) t,
    before0_4_of m hO (dats m hO 0 c) (A_eq m hO c 4) (after_in m hO c 4 (by decide)) t,
    before0_5_of m hO (dats m hO 0 c) (A_eq m hO c 5) (after_in m hO c 5 (by decide)) t,
    before0_6_of m hO (dats m hO 0 c) (A_eq m hO c 6) (after_in m hO c 6 (by decide)) t,
    before0_7_of m hO (dats m hO 0 c) (A_eq m hO c 7) (after_in m hO c 7 (by decide)) t,
    before0_8_of m hO (dats m hO 0 c) (A_eq m hO c 8) (after_in m hO c 8 (by decide)) t,
    before0_9_of m hO (dats m hO 0 c) (A_eq m hO c 9) (after_in m hO c 9 (by decide)) t,
    before0_10_of m hO (dats m hO 0 c) (A_eq m hO c 10) (after_in m hO c 10 (by decide)) t,
    before0_11_of m hO (dats m hO 0 c) (A_eq m hO c 11) (after_in m hO c 11 (by decide)) t,
    before0_12_of m hO (dats m hO 0 c) (A_eq m hO c 12) (after_in m hO c 12 (by decide)) t,
    before0_13_of m hO (dats m hO 0 c) (A_eq m hO c 13) (after_in m hO c 13 (by decide)) t,
    before0_14_of m hO (dats m hO 0 c) (A_eq m hO c 14) (after_in m hO c 14 (by decide)) t,
    before0_15_of m hO (dats m hO 0 c) (A_eq m hO c 15) (after_in m hO c 15 (by decide)) t,
    before0_16_of m hO (dats m hO 0 c) (A_eq m hO c 16) (after_in m hO c 16 (by decide)) t,
    before0_17_of m hO (dats m hO 0 c) (A_eq m hO c 17) (after_in m hO c 17 (by decide)) t,
    before0_18_of m hO (dats m hO 0 c) (A_eq m hO c 18) (after_in m hO c 18 (by decide)) t,
    before0_19_of m hO (dats m hO 0 c) (A_eq m hO c 19) (after_in m hO c 19 (by decide)) t,
    before0_20_of m hO (dats m hO 0 c) (A_eq m hO c 20) (after_in m hO c 20 (by decide)) t]
  rw [inv_castSucc]

/-- What it returns, the inputs' buffers at their blocks. -/
theorem bodyPost_eq (hO : Ok m) (c : Dev nD) (t : Fin (cfgM m hO).N) :
    bodyPost m hO c t = iprop(((held c (left m hO c t.val t.isLt) ∗ (∃ r, prngReg c r)) ∗ tbPt0 c tbM0_0 (tbl m 0))
      ∗ (dats m hO 0 c).owesAt () t.castSucc
      ∗ owns (c : Thread nD τ) (ms0_0 m hO t) fullShare (iblk m hO c 0 t)
      ∗ owns (c : Thread nD τ) (ms0_1 m hO t) fullShare (iblk m hO c 1 t)
      ∗ owns (c : Thread nD τ) (ms0_2 m hO t) fullShare (iblk m hO c 2 t)
      ∗ owns (c : Thread nD τ) (ms0_3 m hO t) fullShare (iblk m hO c 3 t)
      ∗ owns (c : Thread nD τ) (ms0_4 m hO t) fullShare (iblk m hO c 4 t)
      ∗ owns (c : Thread nD τ) (ms0_5 m hO t) fullShare (iblk m hO c 5 t)
      ∗ owns (c : Thread nD τ) (ms0_6 m hO t) fullShare (iblk m hO c 6 t)
      ∗ owns (c : Thread nD τ) (ms0_7 m hO t) fullShare (iblk m hO c 7 t)
      ∗ owns (c : Thread nD τ) (ms0_8 m hO t) fullShare (iblk m hO c 8 t)
      ∗ owns (c : Thread nD τ) (ms0_9 m hO t) fullShare (iblk m hO c 9 t)
      ∗ owns (c : Thread nD τ) (ms0_10 m hO t) fullShare (iblk m hO c 10 t)
      ∗ owns (c : Thread nD τ) (ms0_11 m hO t) fullShare (iblk m hO c 11 t)
      ∗ owns (c : Thread nD τ) (ms0_12 m hO t) fullShare (iblk m hO c 12 t)
      ∗ owns (c : Thread nD τ) (ms0_13 m hO t) fullShare (iblk m hO c 13 t)
      ∗ owns (c : Thread nD τ) (ms0_14 m hO t) fullShare (iblk m hO c 14 t)
      ∗ owns (c : Thread nD τ) (ms0_15 m hO t) fullShare (iblk m hO c 15 t)
      ∗ owns (c : Thread nD τ) (ms0_16 m hO t) fullShare (iblk m hO c 16 t)
      ∗ owns (c : Thread nD τ) (ms0_17 m hO t) fullShare (iblk m hO c 17 t)
      ∗ owns (c : Thread nD τ) (ms0_18 m hO t) fullShare (iblk m hO c 18 t)
      ∗ owns (c : Thread nD τ) (ms0_19 m hO t) fullShare (iblk m hO c 19 t)
      ∗ owns (c : Thread nD τ) (ms0_20 m hO t) fullShare (iblk m hO c 20 t)
      ∗ (dats m hO 0 c).leavesExact 21 t) := by
  unfold bodyPost
  rw [show (dats m hO 0 c).leavesExact 0 t = owns (c : Thread nD τ) (ms0_0 m hO t) fullShare (iblk m hO c 0 t) from
      leaves_in m hO c t 0 (by decide) (liveAt0_0 m hO t),
    show (dats m hO 0 c).leavesExact 1 t = owns (c : Thread nD τ) (ms0_1 m hO t) fullShare (iblk m hO c 1 t) from
      leaves_in m hO c t 1 (by decide) (liveAt0_1 m hO t),
    show (dats m hO 0 c).leavesExact 2 t = owns (c : Thread nD τ) (ms0_2 m hO t) fullShare (iblk m hO c 2 t) from
      leaves_in m hO c t 2 (by decide) (liveAt0_2 m hO t),
    show (dats m hO 0 c).leavesExact 3 t = owns (c : Thread nD τ) (ms0_3 m hO t) fullShare (iblk m hO c 3 t) from
      leaves_in m hO c t 3 (by decide) (liveAt0_3 m hO t),
    show (dats m hO 0 c).leavesExact 4 t = owns (c : Thread nD τ) (ms0_4 m hO t) fullShare (iblk m hO c 4 t) from
      leaves_in m hO c t 4 (by decide) (liveAt0_4 m hO t),
    show (dats m hO 0 c).leavesExact 5 t = owns (c : Thread nD τ) (ms0_5 m hO t) fullShare (iblk m hO c 5 t) from
      leaves_in m hO c t 5 (by decide) (liveAt0_5 m hO t),
    show (dats m hO 0 c).leavesExact 6 t = owns (c : Thread nD τ) (ms0_6 m hO t) fullShare (iblk m hO c 6 t) from
      leaves_in m hO c t 6 (by decide) (liveAt0_6 m hO t),
    show (dats m hO 0 c).leavesExact 7 t = owns (c : Thread nD τ) (ms0_7 m hO t) fullShare (iblk m hO c 7 t) from
      leaves_in m hO c t 7 (by decide) (liveAt0_7 m hO t),
    show (dats m hO 0 c).leavesExact 8 t = owns (c : Thread nD τ) (ms0_8 m hO t) fullShare (iblk m hO c 8 t) from
      leaves_in m hO c t 8 (by decide) (liveAt0_8 m hO t),
    show (dats m hO 0 c).leavesExact 9 t = owns (c : Thread nD τ) (ms0_9 m hO t) fullShare (iblk m hO c 9 t) from
      leaves_in m hO c t 9 (by decide) (liveAt0_9 m hO t),
    show (dats m hO 0 c).leavesExact 10 t = owns (c : Thread nD τ) (ms0_10 m hO t) fullShare (iblk m hO c 10 t) from
      leaves_in m hO c t 10 (by decide) (liveAt0_10 m hO t),
    show (dats m hO 0 c).leavesExact 11 t = owns (c : Thread nD τ) (ms0_11 m hO t) fullShare (iblk m hO c 11 t) from
      leaves_in m hO c t 11 (by decide) (liveAt0_11 m hO t),
    show (dats m hO 0 c).leavesExact 12 t = owns (c : Thread nD τ) (ms0_12 m hO t) fullShare (iblk m hO c 12 t) from
      leaves_in m hO c t 12 (by decide) (liveAt0_12 m hO t),
    show (dats m hO 0 c).leavesExact 13 t = owns (c : Thread nD τ) (ms0_13 m hO t) fullShare (iblk m hO c 13 t) from
      leaves_in m hO c t 13 (by decide) (liveAt0_13 m hO t),
    show (dats m hO 0 c).leavesExact 14 t = owns (c : Thread nD τ) (ms0_14 m hO t) fullShare (iblk m hO c 14 t) from
      leaves_in m hO c t 14 (by decide) (liveAt0_14 m hO t),
    show (dats m hO 0 c).leavesExact 15 t = owns (c : Thread nD τ) (ms0_15 m hO t) fullShare (iblk m hO c 15 t) from
      leaves_in m hO c t 15 (by decide) (liveAt0_15 m hO t),
    show (dats m hO 0 c).leavesExact 16 t = owns (c : Thread nD τ) (ms0_16 m hO t) fullShare (iblk m hO c 16 t) from
      leaves_in m hO c t 16 (by decide) (liveAt0_16 m hO t),
    show (dats m hO 0 c).leavesExact 17 t = owns (c : Thread nD τ) (ms0_17 m hO t) fullShare (iblk m hO c 17 t) from
      leaves_in m hO c t 17 (by decide) (liveAt0_17 m hO t),
    show (dats m hO 0 c).leavesExact 18 t = owns (c : Thread nD τ) (ms0_18 m hO t) fullShare (iblk m hO c 18 t) from
      leaves_in m hO c t 18 (by decide) (liveAt0_18 m hO t),
    show (dats m hO 0 c).leavesExact 19 t = owns (c : Thread nD τ) (ms0_19 m hO t) fullShare (iblk m hO c 19 t) from
      leaves_in m hO c t 19 (by decide) (liveAt0_19 m hO t),
    show (dats m hO 0 c).leavesExact 20 t = owns (c : Thread nD τ) (ms0_20 m hO t) fullShare (iblk m hO c 20 t) from
      leaves_in m hO c t 20 (by decide) (liveAt0_20 m hO t)]
  rw [show (dats m hO 0 c).owesAt () t.succ = (dats m hO 0 c).owesAt () t.castSucc from rfl,
    show (dats m hO 0 c).Φ t.succ = iprop((held c (left m hO c t.val t.isLt) ∗ (∃ r, prngReg c r)) ∗ Pipeline.ΦT pre0 (tbl m) c) from rfl,
    PhiT0_eq]

set_option maxHeartbeats 8000000 in
/-- The body at a sequence's first point. -/
theorem sound_A (hO : Ok m) (c : Dev nD) (t : Fin (cfgM m hO).N) (h0 : t.val % 8 = 0) (h1 : ¬t.val % 8 = 7) :
    bodyPre m hO c t
      ⊢ wp frame (wpE (defs₀ (F := F)) Variants.none c none) Set.univ (bodyAt0 (adm m hO) t)
          (fun _ => bodyPost m hO c t) := by
  have hc0 := (hcond0_0 t).mpr h0
  have hc1 : ¬cond0_1 (grid0.coords t) := fun h => h1 ((hcond0_1 t).mp h)
  obtain ⟨hs0, hs1, hs2, hs3⟩ := coverA m hO c t h0 h1
  rw [bodyPre_eq, bodyPost_eq,
    Dat.leavesExact_idle (dats m hO 0 c) 21 t (idleAt0_21_A m hO t hc0 hc1) (noFlush0_21_A m hO t hc0 hc1),
    left_A m hO c t h0 h1]
  unfold held leftA
  dsimp only
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18,
    H18⟩, ⟨%d19, H19⟩, ⟨%d20, H20⟩, ⟨%d21, H21⟩⟩
  icases (inv_some m hO c t.val (Nat.le_of_lt t.isLt)) $$ HI with ⟨⟨⟨HS0, HS1, HS2, HS3⟩, Hg⟩, HT⟩
  iapply ((runA m hO c t h0 h1).2.2.2.2.2 _ Set.univ _)
  iframe H0 H1 H2 H3 H4 H5 H6 H7 H8 H9 H10 H11 H12 H13 H14 H15 H16 H17 H18 H19 H20 H21 HS0 HS1 HS2 HS3 HT
  iintro ⟨H0, H1, H2, H3, H4, H5, H6, H7, H8, H9, H10, H11, H12, H13, H14, H15, H16, H17, H18, H19, H20, H21, HS0, HS1, HS2, HS3, HT⟩
  iframe Ho Hg HT H0 H1 H2 H3 H4 H5 H6 H7 H8 H9 H10 H11 H12 H13 H14 H15 H16 H17 H18 H19 H20
  isplitr [H21]
  · isplitl [HS0]; · iapply (owns_filled c scM0_0 VS0_0 VS0_0.junk _ hs0); iexact HS0
    isplitl [HS1]; · iapply (owns_filled c scM0_1 VS0_1 VS0_1.junk _ hs1); iexact HS1
    isplitl [HS2]; · iapply (owns_filled c scM0_2 VS0_2 VS0_2.junk _ hs2); iexact HS2
    iapply (owns_filled c scM0_3 VS0_3 VS0_3.junk _ hs3); iexact HS3
  iexists _; iexact H21

set_option maxHeartbeats 8000000 in
/-- The body at a middle point. -/
theorem sound_B (hO : Ok m) (c : Dev nD) (t : Fin (cfgM m hO).N) (h0 : ¬t.val % 8 = 0) (h1 : ¬t.val % 8 = 7) :
    bodyPre m hO c t
      ⊢ wp frame (wpE (defs₀ (F := F)) Variants.none c none) Set.univ (bodyAt0 (adm m hO) t)
          (fun _ => bodyPost m hO c t) := by
  have hc0 : ¬cond0_0 (grid0.coords t) := fun h => h0 ((hcond0_0 t).mp h)
  have hc1 : ¬cond0_1 (grid0.coords t) := fun h => h1 ((hcond0_1 t).mp h)
  obtain ⟨hs1, hs2, hs3⟩ := coverB m hO c t h0 h1 (prev m hO c t)
  rw [bodyPre_eq, bodyPost_eq,
    Dat.leavesExact_idle (dats m hO 0 c) 21 t (idleAt0_21_B m hO t hc0 hc1) (noFlush0_21_B m hO t hc0 hc1),
    left_B m hO c t h0 h1, inv_pos m hO c _ _ (fun h => h0 (by rw [h])), PhiT0_eq]
  unfold held leftB
  dsimp only
  iintro ⟨⟨⟨⟨HS0, HS1, HS2, HS3⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18,
    H18⟩, ⟨%d19, H19⟩, ⟨%d20, H20⟩, ⟨%d21, H21⟩⟩
  iapply ((runB m hO c t h0 h1 (prev m hO c t)).2.2.2.2.2 _ Set.univ _)
  iframe H0 H1 H2 H3 H4 H5 H6 H7 H8 H9 H10 H11 H12 H13 H14 H15 H16 H17 H18 H19 H20 H21 HS0 HS1 HS2 HS3 HT
  iintro ⟨H0, H1, H2, H3, H4, H5, H6, H7, H8, H9, H10, H11, H12, H13, H14, H15, H16, H17, H18, H19, H20, H21, HS0, HS1, HS2, HS3, HT⟩
  iframe Ho Hg HT H0 H1 H2 H3 H4 H5 H6 H7 H8 H9 H10 H11 H12 H13 H14 H15 H16 H17 H18 H19 H20 HS0
  isplitr [H21]
  · isplitl [HS1]; · iapply (owns_filled c scM0_1 VS0_1 VS0_1.junk _ hs1); iexact HS1
    isplitl [HS2]; · iapply (owns_filled c scM0_2 VS0_2 VS0_2.junk _ hs2); iexact HS2
    iapply (owns_filled c scM0_3 VS0_3 VS0_3.junk _ hs3); iexact HS3
  iexists _; iexact H21

set_option maxHeartbeats 8000000 in
/-- The body at a sequence's last point. -/
theorem sound_C (hO : Ok m) (c : Dev nD) (t : Fin (cfgM m hO).N) (h0 : ¬t.val % 8 = 0) (h1 : t.val % 8 = 7) :
    bodyPre m hO c t
      ⊢ wp frame (wpE (defs₀ (F := F)) Variants.none c none) Set.univ (bodyAt0 (adm m hO) t)
          (fun _ => bodyPost m hO c t) := by
  have hc0 : ¬cond0_0 (grid0.coords t) := fun h => h0 ((hcond0_0 t).mp h)
  have hc1 := (hcond0_1 t).mpr h1
  obtain ⟨ho, hs1, hs2, hs3⟩ := coverC m hO c t h0 h1 (prev m hO c t)
  rw [bodyPre_eq, bodyPost_eq,
    show (dats m hO 0 c).leavesExact 21 t
        = owns (c : Thread nD τ) (ms0_21 m hO t) fullShare ((dats m hO 0 c).after 21 t) from by
      unfold Dat.leavesExact; rw [liveAt0_21_C m hO t hc0 hc1]; rfl, after_out,
    left_C m hO c t h0 h1, inv_pos m hO c _ _ (fun h => h0 (by rw [h])), PhiT0_eq]
  unfold held leftC
  dsimp only
  iintro ⟨⟨⟨⟨HS0, HS1, HS2, HS3⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18,
    H18⟩, ⟨%d19, H19⟩, ⟨%d20, H20⟩, ⟨%d21, H21⟩⟩
  iapply ((runC m hO c t h0 h1 (prev m hO c t)).2.2.2.2.2 Set.univ _)
  isplitl [H0]; · iexact H0
  isplitl [H1]; · iexact H1
  iframe H2 H3 H4 H5 H6 H7 H8 H9 H10 H11 H12 H13 H14 H15 H16 H17 H18 H19 H20 HS0 HS1 HS2 HS3 HT
  isplitl [H21]; · iexists _; iexact H21
  iintro ⟨H0, H1, H2, H3, H4, H5, H6, H7, H8, H9, H10, H11, H12, H13, H14, H15, H16, H17, H18, H19, H20, H21, HS0, HS1, HS2, HS3, HT⟩
  iframe Ho Hg HT H0 H1 H2 H3 H4 H5 H6 H7 H8 H9 H10 H11 H12 H13 H14 H15 H16 H17 H18 H19 H20 HS0
  isplitr [H21]
  · isplitl [HS1]; · iapply (owns_filled c scM0_1 VS0_1 VS0_1.junk _ hs1); iexact HS1
    isplitl [HS2]; · iapply (owns_filled c scM0_2 VS0_2 VS0_2.junk _ hs2); iexact HS2
    iapply (owns_filled c scM0_3 VS0_3 VS0_3.junk _ hs3); iexact HS3
  iapply (owns_filled c (ms0_21 m hO t) VO0_21 VO0_21.junk _ ho); iexact H21

theorem sound_body (hO : Ok m) (c : Dev nD) (t : Fin (cfgM m hO).N) :
    bodyPre m hO c t
      ⊢ wp frame (wpE (defs₀ (F := F)) Variants.none c none) Set.univ (bodyAt0 (adm m hO) t)
          (fun _ => bodyPost m hO c t) := by
  by_cases h0 : t.val % 8 = 0
  · exact sound_A m hO c t h0 (by omega)
  · by_cases h1 : t.val % 8 = 7
    · exact sound_C m hO c t h0 h1
    · exact sound_B m hO c t h0 h1

/-! ## The launch -/

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) :
    BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) :
    iprop(Pipeline.ΦA spec0 c ∗ Pipeline.ΦT pre0 (tbl m) c) ⊢ (dats m hO 0 c).Φ 0 :=
  Idealize.SL.BI.Entails.refl _

theorem hout (hO : Ok m) (c : Dev nD) :
    (dats m hO 0 c).Φ (Fin.last (cfgM m hO).N) ⊢ Pipeline.ΦA spec0 c := by
  rw [show (dats m hO 0 c).Φ (Fin.last (cfgM m hO).N) = inv m hO c (cfgM m hO).N (Nat.le_refl _) from rfl, PhiA0_eq]
  iintro HI
  icases (inv_some m hO c (cfgM m hO).N (Nat.le_refl _)) $$ HI with ⟨⟨HS, Hg⟩, -⟩
  isplitl [HS]; · iexact HS
  iexact Hg

set_option backward.isDefEq.respectTransparency.types false in
/-- The launch: every array of the pipeline ends at what the proof data say, and no counter is left up. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀
    Variants.none m ρ main (hbody := fun c => (body_obligation m hO c).loose) (hq := fun _ _ _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ)
    (Pipeline.FramePost (Pipeline.pin pcfgs fun _ => adm m hO) (dats m hO) 0 (V m)) :=
  (θ_run defs _ _).mono (fun _ h => h.1) (run_main_quiescent m ρ hO)

/-- The frame: the arguments end unchanged and every counter at zero. -/
theorem frame (hO : Ok m) : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_and (frame_of m ρ hO (dats m hO) (A_eq m hO) (run_main m ρ hO))
    ((θ_run defs _ _).mono (fun _ h => h.2) (run_main_quiescent m ρ hO))

end Cert.AttnSampleIdeal.Own

end
-- ==== Proof.AttnSampleClaims.lean ====
/-
  The claims about the sample rows' attention: the frames, where the page numbers are the cache's, and the idealization.
-/
module

public import proofs.«01_k».proof.Defs
public import proofs.«01_k».proof.Proof.AttnSampleFrame
public import proofs.«01_k».proof.Proof.AttnSampleIdealFrame
public import proofs.«01_k».proof.Proof.Gen.AttnSampleRefIdeal.Run
public import proofs.«01_k».proof.Proof.Gen.Pre_pages
public import Idealize.ShloMosaic.Lib.Quiescent

@[expose] public section

noncomputable section

open Idealize.ShloMosaic Idealize.ShloMosaic.TcCoe Idealize.SL.Sem

namespace Cert.AttnSampleClaims

/-- A word that is at least 0 and below 2560, read signed, is a number below 2560. -/
theorem toNat_lt (w : BitVec 32) (h0 : IntOp.cmpi .sge w 0#32 = 1#1) (h1 : IntOp.cmpi .slt w 2560#32 = 1#1) : w.toNat < 2560 := by
  have one (p : Bool) : BitVec.ofBool p = 1#1 ↔ p = true := by cases p <;> decide
  simp only [one, IntOp.cmpi, BitVec.sle, BitVec.slt, decide_eq_true_eq, BitVec.toInt, BitVec.toNat_ofNat] at h0 h1
  omega

section kernel
open Cert.AttnSample Cert.AttnSample.Gen

/-- A page's block lies inside the cache. -/
theorem block (n : ℕ) (h : n < 2560) : ∃ hb : (∀ a, ((![0, n, 0, 0] : Fin 4 → ℕ) a + 1) * S1x1x1024x64.size a ≤ S4x2560x1024x64.size a),
    EltTy.bits .f32 = 32 ∨ (Rect.block (s := S4x2560x1024x64) S1x1x1024x64.size ![0, n, 0, 0] hb).WholeWords (EltTy.packing .f32) := by
  refine ⟨fun a => ?_, .inl rfl⟩
  fin_cases a
  · change (0 + 1) * 1 ≤ 4
    decide
  · change (n + 1) * 1 ≤ 2560
    omega
  · change (0 + 1) * 1024 ≤ 1024
    decide
  · change (0 + 1) * 64 ≤ 64
    decide

/-- So the table's words name blocks inside the cache. -/
theorem ok (m : (ℓ : Loc nD τ sig) → Buf (Elt Bits) ℓ) (h : Cert.Pre_AttnSample m) : Ok (F := Bits) m := by
  have word : ∀ x, (tbl m 0 x : BitVec 32).toNat < 2560 := fun x => by
    have e : tbl m 0 = m (((0 : Dev nD) : Thread nD τ).loc main_arg0) := V_main_arg0 m 0
    rw [e]
    exact toNat_lt _ (congrFun (h 0).1 x) (congrFun (h 0).2 x)
  unfold Ok ok0
  refine ⟨?_, ?_, ?_, ?_, ?_, ?_, ?_, ?_, ?_, ?_, ?_, ?_, ?_, ?_, ?_, ?_⟩ <;> exact fun i => block _ (word _)

end kernel

section ideal
open Cert.AttnSampleIdeal Cert.AttnSampleIdeal.Gen

/-- The same of the idealized program's table. -/
theorem ok_ideal (m : (ℓ : Loc nD τ sig) → Buf (Elt Ideal) ℓ) (h : Cert.Pre_AttnSampleIdeal m) : Ok (F := Ideal) m := by
  have word : ∀ x, (tbl m 0 x : BitVec 32).toNat < 2560 := fun x => by
    have e : tbl m 0 = m (((0 : Dev nD) : Thread nD τ).loc main_arg0) := V_main_arg0 m 0
    rw [e]
    exact toNat_lt _ (congrFun (h 0).1 x) (congrFun (h 0).2 x)
  unfold Ok ok0
  refine ⟨?_, ?_, ?_, ?_, ?_, ?_, ?_, ?_, ?_, ?_, ?_, ?_, ?_, ?_, ?_, ?_⟩ <;> exact fun i => block _ (word _)

end ideal

theorem frame_kernel : Cert.quiescent_AttnSample := fun m ρ h => Cert.AttnSample.Own.frame m ρ (ok m h)

theorem frame_ideal : Cert.quiescent_AttnSampleIdeal := fun m ρ h => Cert.AttnSampleIdeal.Own.frame m ρ (ok_ideal m h)

theorem frame_ref : Cert.quiescent_AttnSampleRefIdeal := fun m ρ _ =>
  (θ_run Cert.AttnSampleRefIdeal.defs _ _).mono (fun r h => ⟨fun c => (h c).2, sem_eq_zero_of_no_sems (by decide) r.2⟩)
    (Cert.AttnSampleRefIdeal.Value.run (F := Ideal) m ρ)

theorem preserves : Cert.preserves_AttnSample_AttnSampleIdeal :=
  IdealRules.named_const.statement Cert.AttnSampleIdeal.κ "mask" .f32 0xF149F2CA#32 ⊥ rfl

end Cert.AttnSampleClaims

end
-- ==== Proof.lean ====
/-
  Everything the certificate claims, put together: the facts the programs state of themselves, then for each of five
  calls (feed-forward, attention, first projections, merge, merge of the sample rows) its frames, its idealization and its value
  claim, and for the sixth (attention of the sample rows) its frames and its idealization.
-/
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.AttnIdeal.Value
public import proofs.«01_k».proof.Proof.Gen.AttnRefIdeal.Run
public import proofs.«01_k».proof.Proof.Gen.AttnRefIdeal.Read
public import proofs.«01_k».proof.Proof.FfnClaims
public import proofs.«01_k».proof.Proof.AttnClaims
public import proofs.«01_k».proof.Proof.Gen.Pre_finite
public import Idealize.ShloMosaic.Adequacy
public import Idealize.ShloMosaic.Init
public import proofs.«01_k».proof.Proof.Gen.InProj
public import proofs.«01_k».proof.Proof.Gen.InProj.Frame
public import proofs.«01_k».proof.Proof.Gen.InProj.Launch
public import proofs.«01_k».proof.Proof.Gen.InProj.Points
public import proofs.«01_k».proof.Proof.Gen.InProj.Skeleton
public import proofs.«01_k».proof.Proof.Gen.InProjIdeal
public import proofs.«01_k».proof.Proof.Gen.InProjIdeal.Frame
public import proofs.«01_k».proof.Proof.Gen.InProjIdeal.Launch
public import proofs.«01_k».proof.Proof.Gen.InProjIdeal.Points
public import proofs.«01_k».proof.Proof.Gen.InProjIdeal.Skeleton
public import proofs.«01_k».proof.Proof.Gen.InProjIdeal.Value
public import proofs.«01_k».proof.Proof.Gen.InProjRefIdeal
public import proofs.«01_k».proof.Proof.Gen.InProjRefIdeal.Read
public import proofs.«01_k».proof.Proof.Gen.InProjRefIdeal.Run
public import proofs.«01_k».proof.Proof.Gen.Merge
public import proofs.«01_k».proof.Proof.Gen.Merge.Frame
public import proofs.«01_k».proof.Proof.Gen.Merge.Launch
public import proofs.«01_k».proof.Proof.Gen.Merge.Points
public import proofs.«01_k».proof.Proof.Gen.Merge.Skeleton
public import proofs.«01_k».proof.Proof.Gen.MergeIdeal
public import proofs.«01_k».proof.Proof.Gen.MergeIdeal.Frame
public import proofs.«01_k».proof.Proof.Gen.MergeIdeal.Launch
public import proofs.«01_k».proof.Proof.Gen.MergeIdeal.Points
public import proofs.«01_k».proof.Proof.Gen.MergeIdeal.Skeleton
public import proofs.«01_k».proof.Proof.Gen.MergeIdeal.Value
public import proofs.«01_k».proof.Proof.Gen.MergeRefIdeal
public import proofs.«01_k».proof.Proof.Gen.MergeRefIdeal.Read
public import proofs.«01_k».proof.Proof.Gen.MergeRefIdeal.Run
public import proofs.«01_k».proof.Proof.Gen.Pre_finite_pool
public import proofs.«01_k».proof.Proof.InProjClaims
public import proofs.«01_k».proof.Proof.MergeClaims
public import proofs.«01_k».proof.Proof.MergeSampleClaims
public import proofs.«01_k».proof.Proof.AttnSampleClaims

@[expose] public section

noncomputable section

namespace Cert.Proof

open Idealize.ShloMosaic Idealize.SL.Sem

theorem claim : Cert.Claim := ⟨Cert.Ffn.Gen.facts, Cert.FfnIdeal.Gen.facts, Cert.FfnRefIdeal.Gen.facts,
  Cert.Attn.Gen.facts, Cert.AttnIdeal.Gen.facts, Cert.AttnRefIdeal.Gen.facts,
  Cert.InProj.Gen.facts, Cert.InProjIdeal.Gen.facts, Cert.InProjRefIdeal.Gen.facts,
  Cert.Merge.Gen.facts, Cert.MergeIdeal.Gen.facts, Cert.MergeRefIdeal.Gen.facts,
  Cert.MergeSample.Gen.facts, Cert.MergeSampleIdeal.Gen.facts, Cert.MergeSampleRefIdeal.Gen.facts,
  Cert.AttnSample.Gen.facts, Cert.AttnSampleIdeal.Gen.facts, Cert.AttnSampleRefIdeal.Gen.facts,
  Cert.Pre_finite.Gen.facts, Cert.Pre_finite_pool.Gen.facts, Cert.Pre_finite_kept.Gen.facts, Cert.Pre_pages.Gen.facts,
  Cert.FfnClaims.frame_kernel, Cert.FfnClaims.frame_ideal, Cert.FfnClaims.frame_ref,
  Cert.AttnClaims.frame_kernel, Cert.AttnClaims.frame_ideal, Cert.AttnClaims.frame_ideal_finite,
  Cert.AttnClaims.frame_ref, Cert.AttnClaims.frame_ref_finite,
  Cert.InProjClaims.frame_kernel, Cert.InProjClaims.frame_ideal, Cert.InProjClaims.frame_ref,
  Cert.MergeClaims.frame_kernel, Cert.MergeClaims.frame_ideal, Cert.MergeClaims.frame_ideal_finite,
  Cert.MergeClaims.frame_ref, Cert.MergeClaims.frame_ref_finite,
  Cert.MergeSampleClaims.frame_kernel, Cert.MergeSampleClaims.frame_ideal, Cert.MergeSampleClaims.frame_ideal_finite,
  Cert.MergeSampleClaims.frame_ref, Cert.MergeSampleClaims.frame_ref_finite,
  Cert.AttnSampleClaims.frame_kernel, Cert.AttnSampleClaims.frame_ideal, Cert.AttnSampleClaims.frame_ref,
  Cert.FfnClaims.preserves, Cert.FfnClaims.algebraic, Cert.AttnClaims.preserves, Cert.AttnClaims.algebraic,
  Cert.InProjClaims.preserves, Cert.InProjClaims.algebraic, Cert.MergeClaims.preserves, Cert.MergeClaims.algebraic,
  Cert.MergeSampleClaims.preserves, Cert.MergeSampleClaims.algebraic,
  Cert.AttnSampleClaims.preserves⟩

end Cert.Proof

end
